-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_lse [hPre_finite_lse : Cert.Pre_finite_lse.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_lse.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).1 = (fun _ => 1#1)
    ∧ (Cert.Pre_finite_lse.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.1 = (fun _ => 1#1)
    ∧ (Cert.Pre_finite_lse.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_lse [hPre_finite_lse : Cert.Pre_finite_lse.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_lse.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).1 = (fun _ => 1#1)
    ∧ (Cert.Pre_finite_lse.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.1 = (fun _ => 1#1)
    ∧ (Cert.Pre_finite_lse.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite_lse [hKernel4Ideal : Cert.Kernel4Ideal.Facts] [hPre_finite_lse : Cert.Pre_finite_lse.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_lse m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite_lse [hReference4Ideal : Cert.Reference4Ideal.Facts] [hPre_finite_lse : Cert.Pre_finite_lse.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_lse m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv_ln2" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "qscale" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)) (v4 : (c : Dev Cert.Kernel2Ideal.nD) → Buf (Elt Ideal) ((c.tc : Thread Cert.Kernel2Ideal.nD Cert.Kernel2Ideal.τ).loc Cert.Kernel2Ideal.main_v26_4)) (v5 : (c : Dev Cert.Kernel2Ideal.nD) → Buf (Elt Ideal) ((c.tc : Thread Cert.Kernel2Ideal.nD Cert.Kernel2Ideal.τ).loc Cert.Kernel2Ideal.main_v26_5)) (v6 : (c : Dev Cert.Kernel2Ideal.nD) → Buf (Elt Ideal) ((c.tc : Thread Cert.Kernel2Ideal.nD Cert.Kernel2Ideal.τ).loc Cert.Kernel2Ideal.main_v26_6)) (v7 : (c : Dev Cert.Kernel2Ideal.nD) → Buf (Elt Ideal) ((c.tc : Thread Cert.Kernel2Ideal.nD Cert.Kernel2Ideal.τ).loc Cert.Kernel2Ideal.main_v26_7)) (v8 : (c : Dev Cert.Kernel2Ideal.nD) → Buf (Elt Ideal) ((c.tc : Thread Cert.Kernel2Ideal.nD Cert.Kernel2Ideal.τ).loc Cert.Kernel2Ideal.main_v26_8)) (v9 : (c : Dev Cert.Kernel2Ideal.nD) → Buf (Elt Ideal) ((c.tc : Thread Cert.Kernel2Ideal.nD Cert.Kernel2Ideal.τ).loc Cert.Kernel2Ideal.main_v26_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_v26_4) = v4 c
          ∧ r.2.mem ((c.tc : Thread Cert.Kernel2Ideal.nD Cert.Kernel2Ideal.τ).loc Cert.Kernel2Ideal.main_v26_5) = v5 c
          ∧ r.2.mem ((c.tc : Thread Cert.Kernel2Ideal.nD Cert.Kernel2Ideal.τ).loc Cert.Kernel2Ideal.main_v26_6) = v6 c
          ∧ r.2.mem ((c.tc : Thread Cert.Kernel2Ideal.nD Cert.Kernel2Ideal.τ).loc Cert.Kernel2Ideal.main_v26_7) = v7 c
          ∧ r.2.mem ((c.tc : Thread Cert.Kernel2Ideal.nD Cert.Kernel2Ideal.τ).loc Cert.Kernel2Ideal.main_v26_8) = v8 c
          ∧ r.2.mem ((c.tc : Thread Cert.Kernel2Ideal.nD Cert.Kernel2Ideal.τ).loc Cert.Kernel2Ideal.main_v26_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v152) = v0 c
          ∧ r.2.mem ((c.tc : Thread Cert.Reference2Ideal.nD Cert.Reference2Ideal.τ).loc Cert.Reference2Ideal.main_v154) = v1 c
          ∧ r.2.mem ((c.tc : Thread Cert.Reference2Ideal.nD Cert.Reference2Ideal.τ).loc Cert.Reference2Ideal.main_v156) = v2 c
          ∧ r.2.mem ((c.tc : Thread Cert.Reference2Ideal.nD Cert.Reference2Ideal.τ).loc Cert.Reference2Ideal.main_v158) = v3 c
          ∧ r.2.mem ((c.tc : Thread Cert.Reference2Ideal.nD Cert.Reference2Ideal.τ).loc Cert.Reference2Ideal.main_v160) = v4 c
          ∧ r.2.mem ((c.tc : Thread Cert.Reference2Ideal.nD Cert.Reference2Ideal.τ).loc Cert.Reference2Ideal.main_v162) = v5 c
          ∧ r.2.mem ((c.tc : Thread Cert.Reference2Ideal.nD Cert.Reference2Ideal.τ).loc Cert.Reference2Ideal.main_v164) = v6 c
          ∧ r.2.mem ((c.tc : Thread Cert.Reference2Ideal.nD Cert.Reference2Ideal.τ).loc Cert.Reference2Ideal.main_v166) = v7 c
          ∧ r.2.mem ((c.tc : Thread Cert.Reference2Ideal.nD Cert.Reference2Ideal.τ).loc Cert.Reference2Ideal.main_v168) = v8 c
          ∧ r.2.mem ((c.tc : Thread Cert.Reference2Ideal.nD Cert.Reference2Ideal.τ).loc Cert.Reference2Ideal.main_v169) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "qscale" .f32 0x3DE995B3#32 (((Real.sqrt 160)⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)) (v6 : (c : Dev Cert.Kernel3Ideal.nD) → Buf (Elt Ideal) ((c.tc : Thread Cert.Kernel3Ideal.nD Cert.Kernel3Ideal.τ).loc Cert.Kernel3Ideal.main_v13_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_v13_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v166) = v0 c
          ∧ r.2.mem ((c.tc : Thread Cert.Reference3Ideal.nD Cert.Reference3Ideal.τ).loc Cert.Reference3Ideal.main_v167) = v1 c
          ∧ r.2.mem ((c.tc : Thread Cert.Reference3Ideal.nD Cert.Reference3Ideal.τ).loc Cert.Reference3Ideal.main_v168) = v2 c
          ∧ r.2.mem ((c.tc : Thread Cert.Reference3Ideal.nD Cert.Reference3Ideal.τ).loc Cert.Reference3Ideal.main_v169) = v3 c
          ∧ r.2.mem ((c.tc : Thread Cert.Reference3Ideal.nD Cert.Reference3Ideal.τ).loc Cert.Reference3Ideal.main_v170) = v4 c
          ∧ r.2.mem ((c.tc : Thread Cert.Reference3Ideal.nD Cert.Reference3Ideal.τ).loc Cert.Reference3Ideal.main_v127) = v5 c
          ∧ r.2.mem ((c.tc : Thread Cert.Reference3Ideal.nD Cert.Reference3Ideal.τ).loc Cert.Reference3Ideal.main_v172) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_lse [hKernel4Ideal : Cert.Kernel4Ideal.Facts] [hReference4Ideal : Cert.Reference4Ideal.Facts] [hPre_finite_lse : Cert.Pre_finite_lse.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_lse m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v30)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts) (hPre_finite_lse : Cert.Pre_finite_lse.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_lse (hKernel4Ideal := hKernel4Ideal) (hPre_finite_lse := hPre_finite_lse)
    ∧ quiescent_Reference4Ideal (hReference4Ideal := hReference4Ideal)
    ∧ quiescent_Reference4Ideal_pre_finite_lse (hReference4Ideal := hReference4Ideal) (hPre_finite_lse := hPre_finite_lse)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_lse (hKernel4Ideal := hKernel4Ideal) (hReference4Ideal := hReference4Ideal) (hPre_finite_lse := hPre_finite_lse)
-- ==== Pre_finite_lse.lean ====
abbrev S16x4096x1024 : Shape := ⟨3, ![16, 4096, 1024]⟩
abbrev S16x1024x4096 : Shape := ⟨3, ![16, 1024, 4096]⟩
abbrev S16x256x16384 : Shape := ⟨3, ![16, 256, 16384]⟩
abbrev S16x1x4096x128 : Shape := ⟨4, ![16, 1, 4096, 128]⟩
abbrev S16x4x1024x128 : Shape := ⟨4, ![16, 4, 1024, 128]⟩
abbrev S16x16x256x128 : Shape := ⟨4, ![16, 16, 256, 128]⟩
abbrev S65536x1024 : Shape := ⟨2, ![65536, 1024]⟩
abbrev S16x3072 : Shape := ⟨2, ![16, 3072]⟩
abbrev S1024x1024 : Shape := ⟨2, ![1024, 1024]⟩
abbrev S1024 : Shape := ⟨1, ![1024]⟩
abbrev S16x1x4096x8 : Shape := ⟨4, ![16, 1, 4096, 8]⟩
abbrev S_ : Shape := ⟨0, ![]⟩
abbrev S16x4x1024x8 : Shape := ⟨4, ![16, 4, 1024, 8]⟩
abbrev S16x16x256x8 : Shape := ⟨4, ![16, 16, 256, 8]⟩

class Facts : Prop where
  slices_S16x1x4096x128_S16x1x4096x8_0_0_0_0 : S16x1x4096x128.Slices ![0, 0, 0, 0] S16x1x4096x8
  bcast_S_S16x1x4096x8 : S_.BroadcastsInDim S16x1x4096x8 (![] : Fin 0 → Fin S16x1x4096x8.rank)
  slices_S16x4x1024x128_S16x4x1024x8_0_0_0_0 : S16x4x1024x128.Slices ![0, 0, 0, 0] S16x4x1024x8
  bcast_S_S16x4x1024x8 : S_.BroadcastsInDim S16x4x1024x8 (![] : Fin 0 → Fin S16x4x1024x8.rank)
  slices_S16x16x256x128_S16x16x256x8_0_0_0_0 : S16x16x256x128.Slices ![0, 0, 0, 0] S16x16x256x8
  bcast_S_S16x16x256x8 : S_.BroadcastsInDim S16x16x256x8 (![] : Fin 0 → Fin S16x16x256x8.rank)

variable [Facts]

def fn {F : FTy → Type} [FloatOps F] (main_arg0 : FVec F S16x4096x1024 .bf16) (main_arg1 : FVec F S16x1024x4096 .bf16) (main_arg2 : FVec F S16x256x16384 .bf16) (main_arg3 : FVec F S16x1x4096x128 .f32) (main_arg4 : FVec F S16x4x1024x128 .f32) (main_arg5 : FVec F S16x16x256x128 .f32) (main_arg6 : FVec F S65536x1024 .bf16) (main_arg7 : FVec F S65536x1024 .f32) (main_arg8 : FVec F S16x3072 .f32) (main_arg9 : FVec F S1024x1024 .f32) (main_arg10 : FVec F S1024 .f32) : IVec S16x1x4096x8 1 × IVec S16x4x1024x8 1 × IVec S16x16x256x8 1 :=
  let main_v0 : FVec F S16x1x4096x8 .f32 := (extractStridedSlice S16x1x4096x8 ![0, 0, 0, 0] · slices_S16x1x4096x128_S16x1x4096x8_0_0_0_0) main_arg3
  let main_v1 : FVec F S16x1x4096x8 .f32 := Host.absf main_v0
  let main_cst : FVec F S_ .f32 := constant S_ .f32 0x7F800000#32
  let main_v2 : FVec F S16x1x4096x8 .f32 := broadcastInDim S16x1x4096x8 ![] bcast_S_S16x1x4096x8 main_cst
  let main_v3 : IVec S16x1x4096x8 1 := cmpf .olt main_v1 main_v2
  let main_v4 : FVec F S16x4x1024x8 .f32 := (extractStridedSlice S16x4x1024x8 ![0, 0, 0, 0] · slices_S16x4x1024x128_S16x4x1024x8_0_0_0_0) main_arg4
  let main_v5 : FVec F S16x4x1024x8 .f32 := Host.absf main_v4
  let main_cst_0 : FVec F S_ .f32 := constant S_ .f32 0x7F800000#32
  let main_v6 : FVec F S16x4x1024x8 .f32 := broadcastInDim S16x4x1024x8 ![] bcast_S_S16x4x1024x8 main_cst_0
  let main_v7 : IVec S16x4x1024x8 1 := cmpf .olt main_v5 main_v6
  let main_v8 : FVec F S16x16x256x8 .f32 := (extractStridedSlice S16x16x256x8 ![0, 0, 0, 0] · slices_S16x16x256x128_S16x16x256x8_0_0_0_0) main_arg5
  let main_v9 : FVec F S16x16x256x8 .f32 := Host.absf main_v8
  let main_cst_1 : FVec F S_ .f32 := constant S_ .f32 0x7F800000#32
  let main_v10 : FVec F S16x16x256x8 .f32 := broadcastInDim S16x16x256x8 ![] bcast_S_S16x16x256x8 main_cst_1
  let main_v11 : IVec S16x16x256x8 1 := cmpf .olt main_v9 main_v10
  (main_v3, main_v7, main_v11)
-- ==== Pre_finite_qk.lean ====
abbrev S16x256x16384 : Shape := ⟨3, ![16, 256, 16384]⟩
abbrev S_ : Shape := ⟨0, ![]⟩

class Facts : Prop where
  bitsLt_bf16_f32 : FTy.bits .bf16 < FTy.bits .f32
  bcast_S_S16x256x16384 : S_.BroadcastsInDim S16x256x16384 (![] : Fin 0 → Fin S16x256x16384.rank)

variable [Facts]

def fn {F : FTy → Type} [FloatOps F] (main_arg0 : FVec F S16x256x16384 .bf16) (main_arg1 : FVec F S16x256x16384 .bf16) (main_arg2 : FVec F S16x256x16384 .bf16) : IVec S16x256x16384 1 × IVec S16x256x16384 1 :=
  let main_v0 : FVec F S16x256x16384 .f32 := (extf .f32 · bitsLt_bf16_f32) main_arg0
  let main_v1 : FVec F S16x256x16384 .f32 := Host.absf main_v0
  let main_cst : FVec F S_ .f32 := constant S_ .f32 0x7F800000#32
  let main_v2 : FVec F S16x256x16384 .f32 := broadcastInDim S16x256x16384 ![] bcast_S_S16x256x16384 main_cst
  let main_v3 : IVec S16x256x16384 1 := cmpf .olt main_v1 main_v2
  let main_v4 : FVec F S16x256x16384 .f32 := (extf .f32 · bitsLt_bf16_f32) main_arg1
  let main_v5 : FVec F S16x256x16384 .f32 := Host.absf main_v4
  let main_cst_0 : FVec F S_ .f32 := constant S_ .f32 0x7F800000#32
  let main_v6 : FVec F S16x256x16384 .f32 := broadcastInDim S16x256x16384 ![] bcast_S_S16x256x16384 main_cst_0
  let main_v7 : IVec S16x256x16384 1 := cmpf .olt main_v5 main_v6
  (main_v3, main_v7)
-- ==== Kernel.lean ====
abbrev S16x256x16384 : Shape := ⟨3, ![16, 256, 16384]⟩
abbrev S16x16x256x128 : Shape := ⟨4, ![16, 16, 256, 128]⟩
abbrev S1x128x1024 : Shape := ⟨3, ![1, 128, 1024]⟩
abbrev S1x1x128x128 : Shape := ⟨4, ![1, 1, 128, 128]⟩
abbrev S128x1024 : Shape := ⟨2, ![128, 1024]⟩
abbrev S128x128 : Shape := ⟨2, ![128, 128]⟩
abbrev S128x256 : Shape := ⟨2, ![128, 256]⟩
abbrev S256x128 : Shape := ⟨2, ![256, 128]⟩
abbrev S1x128x128 : Shape := ⟨3, ![1, 128, 128]⟩
abbrev S128 : Shape := ⟨1, ![128]⟩
abbrev S128x1 : Shape := ⟨2, ![128, 1]⟩
abbrev S256x256 : Shape := ⟨2, ![256, 256]⟩
abbrev S128x120 : Shape := ⟨2, ![128, 120]⟩

abbrev nBuf : Space → Nat
  | .hbm => 5
  | .vmem => 12
  | .smem => 0
  | _ => 0

abbrev bufTy : (tb : Table) → Fin (tcTables nBuf tb) → BufTy
  | .hbm, ⟨0, _⟩ => ⟨S16x256x16384, .bf16⟩
  | .hbm, ⟨1, _⟩ => ⟨S16x256x16384, .bf16⟩
  | .hbm, ⟨2, _⟩ => ⟨S16x256x16384, .bf16⟩
  | .hbm, ⟨3, _⟩ => ⟨S16x256x16384, .bf16⟩
  | .hbm, ⟨4, _⟩ => ⟨S16x16x256x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1x128x128, .f32⟩
  | .local _ .vmem, ⟨9, _⟩ => ⟨S1x1x128x128, .f32⟩
  | .local _ .vmem, ⟨10, _⟩ => ⟨S128x1024, .bf16⟩
  | .local _ .vmem, ⟨11, _⟩ => ⟨S128x1024, .bf16⟩
  | _, _ => ⟨S16x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "inv_ln2" => some (((Real.log 2)⁻¹ : ℝ) : EReal)
  | "mask" => some ⊥
  | _ => none
-- ==== ReferenceIdeal.lean ====
abbrev S16x256x16384 : Shape := ⟨3, ![16, 256, 16384]⟩
abbrev S_ : Shape := ⟨0, ![]⟩
abbrev S16x256x16x8x128 : Shape := ⟨5, ![16, 256, 16, 8, 128]⟩
abbrev S16x16x256x8x128 : Shape := ⟨5, ![16, 16, 256, 8, 128]⟩
abbrev S256x2x128x8x128 : Shape := ⟨5, ![256, 2, 128, 8, 128]⟩
abbrev S256x1x128x8x128 : Shape := ⟨5, ![256, 1, 128, 8, 128]⟩
abbrev S256x2x256x8x128 : Shape := ⟨5, ![256, 2, 256, 8, 128]⟩
abbrev S256x2x8x128x256 : Shape := ⟨5, ![256, 2, 8, 128, 256]⟩
abbrev S2 : Shape := ⟨1, ![2]⟩
abbrev S2x1 : Shape := ⟨2, ![2, 1]⟩
abbrev S128 : Shape := ⟨1, ![128]⟩
abbrev S1x128 : Shape := ⟨2, ![1, 128]⟩
abbrev S2x128 : Shape := ⟨2, ![2, 128]⟩
abbrev S256 : Shape := ⟨1, ![256]⟩
abbrev S1x256 : Shape := ⟨2, ![1, 256]⟩
abbrev S2x256 : Shape := ⟨2, ![2, 256]⟩
abbrev S2x128x1 : Shape := ⟨3, ![2, 128, 1]⟩
abbrev S2x1x256 : Shape := ⟨3, ![2, 1, 256]⟩
abbrev S2x128x256 : Shape := ⟨3, ![2, 128, 256]⟩
abbrev S1x2x1x128x256 : Shape := ⟨5, ![1, 2, 1, 128, 256]⟩
abbrev S256x2x8x128 : Shape := ⟨4, ![256, 2, 8, 128]⟩
abbrev S256x2x8x128x1 : Shape := ⟨5, ![256, 2, 8, 128, 1]⟩
abbrev S256x2x8x128x128 : Shape := ⟨5, ![256, 2, 8, 128, 128]⟩
abbrev S256x2x128x8 : Shape := ⟨4, ![256, 2, 128, 8]⟩
abbrev S16x16x256x8 : Shape := ⟨4, ![16, 16, 256, 8]⟩
abbrev S16x16x256x120 : Shape := ⟨4, ![16, 16, 256, 120]⟩
abbrev S16x16x256x128 : Shape := ⟨4, ![16, 16, 256, 128]⟩

abbrev nBuf : Space → Nat
  | .hbm => 106
  | .vmem => 0
  | .smem => 0
  | _ => 0

abbrev bufTy : (tb : Table) → Fin (tcTables nBuf tb) → BufTy
  | .hbm, ⟨0, _⟩ => ⟨S16x256x16384, .bf16⟩
  | .hbm, ⟨1, _⟩ => ⟨S16x256x16384, .bf16⟩
  | .hbm, ⟨2, _⟩ => ⟨S16x256x16384, .bf16⟩
  | .hbm, ⟨3, _⟩ => ⟨S_, .f32⟩
  | .hbm, ⟨4, _⟩ => ⟨S_, .f32⟩
  | .hbm, ⟨5, _⟩ => ⟨S16x256x16384, .f32⟩
  | .hbm, ⟨6, _⟩ => ⟨S16x256x16x8x128, .f32⟩
  | .hbm, ⟨7, _⟩ => ⟨S16x16x256x8x128, .f32⟩
  | .hbm, ⟨8, _⟩ => ⟨S256x2x128x8x128, .f32⟩
  | .hbm, ⟨9, _⟩ => ⟨S16x256x16384, .f32⟩
  | .hbm, ⟨10, _⟩ => ⟨S16x256x16x8x128, .f32⟩
  | .hbm, ⟨11, _⟩ => ⟨S16x16x256x8x128, .f32⟩
  | .hbm, ⟨12, _⟩ => ⟨S256x2x128x8x128, .f32⟩
  | .hbm, ⟨13, _⟩ => ⟨S256x1x128x8x128, .f32⟩
  | .hbm, ⟨14, _⟩ => ⟨S_, .f32⟩
  | .hbm, ⟨15, _⟩ => ⟨S256x1x128x8x128, .f32⟩
  | .hbm, ⟨16, _⟩ => ⟨S256x1x128x8x128, .f32⟩
  | .hbm, ⟨17, _⟩ => ⟨S256x2x128x8x128, .f32⟩
  | .hbm, ⟨18, _⟩ => ⟨S256x2x256x8x128, .f32⟩
  | .hbm, ⟨19, _⟩ => ⟨S16x256x16384, .f32⟩
  | .hbm, ⟨20, _⟩ => ⟨S16x256x16x8x128, .f32⟩
  | .hbm, ⟨21, _⟩ => ⟨S16x16x256x8x128, .f32⟩
  | .hbm, ⟨22, _⟩ => ⟨S256x2x128x8x128, .f32⟩
  | .hbm, ⟨23, _⟩ => ⟨S256x1x128x8x128, .f32⟩
  | .hbm, ⟨24, _⟩ => ⟨S_, .f32⟩
  | .hbm, ⟨25, _⟩ => ⟨S256x1x128x8x128, .f32⟩
  | .hbm, ⟨26, _⟩ => ⟨S256x1x128x8x128, .f32⟩
  | .hbm, ⟨27, _⟩ => ⟨S256x2x128x8x128, .f32⟩
  | .hbm, ⟨28, _⟩ => ⟨S256x2x256x8x128, .f32⟩
  | .hbm, ⟨29, _⟩ => ⟨S256x2x8x128x256, .f32⟩
  | .hbm, ⟨30, _⟩ => ⟨S256x2x8x128x256, .f32⟩
  | .hbm, ⟨31, _⟩ => ⟨S256x2x8x128x256, .f32⟩
  | .hbm, ⟨32, _⟩ => ⟨S2, .i32⟩
  | .hbm, ⟨33, _⟩ => ⟨S2x1, .i32⟩
  | .hbm, ⟨34, _⟩ => ⟨S_, .i32⟩
  | .hbm, ⟨35, _⟩ => ⟨S2x1, .i32⟩
  | .hbm, ⟨36, _⟩ => ⟨S2x1, .i32⟩
  | .hbm, ⟨37, _⟩ => ⟨S128, .i32⟩
  | .hbm, ⟨38, _⟩ => ⟨S1x128, .i32⟩
  | .hbm, ⟨39, _⟩ => ⟨S2x128, .i32⟩
  | .hbm, ⟨40, _⟩ => ⟨S2x128, .i32⟩
  | .hbm, ⟨41, _⟩ => ⟨S2x128, .i32⟩
  | .hbm, ⟨42, _⟩ => ⟨S2, .i32⟩
  | .hbm, ⟨43, _⟩ => ⟨S2x1, .i32⟩
  | .hbm, ⟨44, _⟩ => ⟨S_, .i32⟩
  | .hbm, ⟨45, _⟩ => ⟨S2x1, .i32⟩
  | .hbm, ⟨46, _⟩ => ⟨S2x1, .i32⟩
  | .hbm, ⟨47, _⟩ => ⟨S_, .i32⟩
  | .hbm, ⟨48, _⟩ => ⟨S2x1, .i32⟩
  | .hbm, ⟨49, _⟩ => ⟨S2x1, .i32⟩
  | .hbm, ⟨50, _⟩ => ⟨S256, .i32⟩
  | .hbm, ⟨51, _⟩ => ⟨S1x256, .i32⟩
  | .hbm, ⟨52, _⟩ => ⟨S2x256, .i32⟩
  | .hbm, ⟨53, _⟩ => ⟨S2x256, .i32⟩
  | .hbm, ⟨54, _⟩ => ⟨S2x256, .i32⟩
  | .hbm, ⟨55, _⟩ => ⟨S2x128x1, .i32⟩
  | .hbm, ⟨56, _⟩ => ⟨S2x1x256, .i32⟩
  | .hbm, ⟨57, _⟩ => ⟨S2x128x256, .i32⟩
  | .hbm, ⟨58, _⟩ => ⟨S2x128x256, .i32⟩
  | .hbm, ⟨59, _⟩ => ⟨S2x128x256, .i32⟩
  | .hbm, ⟨60, _⟩ => ⟨S_, .i32⟩
  | .hbm, ⟨61, _⟩ => ⟨S2x128x256, .i32⟩
  | .hbm, ⟨62, _⟩ => ⟨S2x128x256, .i1⟩
  | .hbm, ⟨63, _⟩ => ⟨S_, .i32⟩
  | .hbm, ⟨64, _⟩ => ⟨S2x128x256, .i32⟩
  | .hbm, ⟨65, _⟩ => ⟨S2x128x256, .i1⟩
  | .hbm, ⟨66, _⟩ => ⟨S2x128x256, .i1⟩
  | .hbm, ⟨67, _⟩ => ⟨S2x1x256, .i32⟩
  | .hbm, ⟨68, _⟩ => ⟨S_, .i32⟩
  | .hbm, ⟨69, _⟩ => ⟨S2x1x256, .i32⟩
  | .hbm, ⟨70, _⟩ => ⟨S2x1x256, .i1⟩
  | .hbm, ⟨71, _⟩ => ⟨S2x128x256, .i1⟩
  | .hbm, ⟨72, _⟩ => ⟨S2x128x256, .i1⟩
  | .hbm, ⟨73, _⟩ => ⟨S1x2x1x128x256, .i1⟩
  | .hbm, ⟨74, _⟩ => ⟨S_, .f32⟩
  | .hbm, ⟨75, _⟩ => ⟨S_, .f32⟩
  | .hbm, ⟨76, _⟩ => ⟨S256x2x8x128x256, .i1⟩
  | .hbm, ⟨77, _⟩ => ⟨S256x2x8x128x256, .f32⟩
  | .hbm, ⟨78, _⟩ => ⟨S256x2x8x128x256, .f32⟩
  | .hbm, ⟨79, _⟩ => ⟨S_, .f32⟩
  | .hbm, ⟨80, _⟩ => ⟨S256x2x8x128, .f32⟩
  | .hbm, ⟨81, _⟩ => ⟨S256x2x8x128x1, .f32⟩
  | .hbm, ⟨82, _⟩ => ⟨S256x2x8x128x256, .f32⟩
  | .hbm, ⟨83, _⟩ => ⟨S256x2x8x128x256, .f32⟩
  | .hbm, ⟨84, _⟩ => ⟨S256x2x8x128x256, .f32⟩
  | .hbm, ⟨85, _⟩ => ⟨S_, .f32⟩
  | .hbm, ⟨86, _⟩ => ⟨S256x2x8x128, .f32⟩
  | .hbm, ⟨87, _⟩ => ⟨S256x2x8x128, .f32⟩
  | .hbm, ⟨88, _⟩ => ⟨S256x2x8x128, .f32⟩
  | .hbm, ⟨89, _⟩ => ⟨S256x2x8x128x1, .f32⟩
  | .hbm, ⟨90, _⟩ => ⟨S256x2x8x128x256, .f32⟩
  | .hbm, ⟨91, _⟩ => ⟨S256x2x8x128x256, .f32⟩
  | .hbm, ⟨92, _⟩ => ⟨S256x2x8x128x256, .f32⟩
  | .hbm, ⟨93, _⟩ => ⟨S256x2x8x128x128, .f32⟩
  | .hbm, ⟨94, _⟩ => ⟨S256x2x128x8x128, .f32⟩
  | .hbm, ⟨95, _⟩ => ⟨S16x16x256x8x128, .f32⟩
  | .hbm, ⟨96, _⟩ => ⟨S16x256x16x8x128, .f32⟩
  | .hbm, ⟨97, _⟩ => ⟨S16x256x16384, .f32⟩
  | .hbm, ⟨98, _⟩ => ⟨S256x2x8x128, .f32⟩
  | .hbm, ⟨99, _⟩ => ⟨S256x2x8x128, .f32⟩
  | .hbm, ⟨100, _⟩ => ⟨S256x2x128x8, .f32⟩
  | .hbm, ⟨101, _⟩ => ⟨S16x16x256x8, .f32⟩
  | .hbm, ⟨102, _⟩ => ⟨S_, .f32⟩
  | .hbm, ⟨103, _⟩ => ⟨S16x16x256x120, .f32⟩
  | .hbm, ⟨104, _⟩ => ⟨S16x16x256x128, .f32⟩
  | .hbm, ⟨105, _⟩ => ⟨S16x256x16384, .bf16⟩
  | _, _ => ⟨S16x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_2 : Ref sig .tc := ⟨.hbm, 44, rfl⟩
abbrev main_v37 : Ref sig .tc := ⟨.hbm, 45, rfl⟩
abbrev main_v38 : Ref sig .tc := ⟨.hbm, 46, rfl⟩
abbrev main_c_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c_4 : Ref sig .tc := ⟨.hbm, 60, rfl⟩
abbrev main_v51 : Ref sig .tc := ⟨.hbm, 61, rfl⟩
abbrev main_v52 : Ref sig .tc := ⟨.hbm, 62, rfl⟩
abbrev main_c_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_c_6 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_10 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩

abbrev nD : Nat := 1
abbrev τ : Topo := Topo.v7x

variable {F : FTy → Type} [FloatOps F]
-- ==== Kernel2.lean ====
abbrev S65536x1024 : Shape := ⟨2, ![65536, 1024]⟩
abbrev S16x3x1024 : Shape := ⟨3, ![16, 3, 1024]⟩
abbrev S1x1024 : Shape := ⟨2, ![1, 1024]⟩
abbrev S1024x2048 : Shape := ⟨2, ![1024, 2048]⟩
abbrev S1024x4096 : Shape := ⟨2, ![1024, 4096]⟩
abbrev S3x65536x128 : Shape := ⟨3, ![3, 65536, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S2x512x512 : Shape := ⟨3, ![2, 512, 512]⟩
abbrev S16x4096x1024 : Shape := ⟨3, ![16, 4096, 1024]⟩
abbrev S16x1024x4096 : Shape := ⟨3, ![16, 1024, 4096]⟩
abbrev S16x256x16384 : Shape := ⟨3, ![16, 256, 16384]⟩
abbrev S512x1024 : Shape := ⟨2, ![512, 1024]⟩
abbrev S1x3x1024 : Shape := ⟨3, ![1, 3, 1024]⟩
abbrev S1x512x128 : Shape := ⟨3, ![1, 512, 128]⟩
abbrev S1x512x1024 : Shape := ⟨3, ![1, 512, 1024]⟩
abbrev S1x128x4096 : Shape := ⟨3, ![1, 128, 4096]⟩
abbrev S1x32x16384 : Shape := ⟨3, ![1, 32, 16384]⟩
abbrev S8x512x128 : Shape := ⟨3, ![8, 512, 128]⟩
abbrev S512x128 : Shape := ⟨2, ![512, 128]⟩
abbrev S1024x1024 : Shape := ⟨2, ![1024, 1024]⟩
abbrev S1x128x128 : Shape := ⟨3, ![1, 128, 128]⟩
abbrev S128x128 : Shape := ⟨2, ![128, 128]⟩
abbrev S32x1024 : Shape := ⟨2, ![32, 1024]⟩
abbrev S1x32x1024 : Shape := ⟨3, ![1, 32, 1024]⟩
abbrev S1x1x1024 : Shape := ⟨3, ![1, 1, 1024]⟩

abbrev nBuf : Space → Nat
  | .hbm => 122
  | .vmem => 34
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S1024x4096, .bf16⟩
  | .hbm, ⟨6, _⟩ => ⟨S3x65536x128, .f32⟩
  | .hbm, ⟨7, _⟩ => ⟨S3x65536x128, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S_, .i1⟩
  | .hbm, ⟨25, _⟩ => ⟨S512, .i1⟩
  | .hbm, ⟨26, _⟩ => ⟨S512, .i1⟩
  | .hbm, ⟨27, _⟩ => ⟨S512, .i1⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S1x512, .i32⟩
  | .hbm, ⟨55, _⟩ => ⟨S512x512, .i32⟩
  | .hbm, ⟨56, _⟩ => ⟨S512x512, .i32⟩
  | .hbm, ⟨57, _⟩ => ⟨S512x512, .i1⟩
  | .hbm, ⟨58, _⟩ => ⟨S512x512, .bf16⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S_, .i32⟩
  | .hbm, ⟨68, _⟩ => ⟨S512, .i32⟩
  | .hbm, ⟨69, _⟩ => ⟨S512, .i1⟩
  | .hbm, ⟨70, _⟩ => ⟨S_, .i32⟩
  | .hbm, ⟨71, _⟩ => ⟨S512, .i32⟩
  | .hbm, ⟨72, _⟩ => ⟨S512, .i1⟩
  | .hbm, ⟨73, _⟩ => ⟨S_, .i32⟩
  | .hbm, ⟨74, _⟩ => ⟨S_, .i1⟩
  | .hbm, ⟨75, _⟩ => ⟨S512, .i1⟩
  | .hbm, ⟨76, _⟩ => ⟨S512, .i1⟩
  | .hbm, ⟨77, _⟩ => ⟨S512, .i1⟩
  | .hbm, ⟨78, _⟩ => ⟨S512, .i32⟩
  | .hbm, ⟨79, _⟩ => ⟨S512, .i32⟩
  | .hbm, ⟨80, _⟩ => ⟨S512, .i32⟩
  | .hbm, ⟨81, _⟩ => ⟨S_, .i32⟩
  | .hbm, ⟨82, _⟩ => ⟨S512, .i32⟩
  | .hbm, ⟨83, _⟩ => ⟨S512, .i32⟩
  | .hbm, ⟨84, _⟩ => ⟨S_, .i32⟩
  | .hbm, ⟨85, _⟩ => ⟨S_, .i32⟩
  | .hbm, ⟨86, _⟩ => ⟨S512, .i32⟩
  | .hbm, ⟨87, _⟩ => ⟨S512, .i32⟩
  | .hbm, ⟨88, _⟩ => ⟨S512, .i32⟩
  | .hbm, ⟨89, _⟩ => ⟨S_, .i32⟩
  | .hbm, ⟨90, _⟩ => ⟨S512, .i32⟩
  | .hbm, ⟨91, _⟩ => ⟨S512, .i1⟩
  | .hbm, ⟨92, _⟩ => ⟨S512, .i32⟩
  | .hbm, ⟨93, _⟩ => ⟨S512, .i32⟩
  | .hbm, ⟨94, _⟩ => ⟨S_, .i32⟩
  | .hbm, ⟨95, _⟩ => ⟨S512, .i32⟩
  | .hbm, ⟨96, _⟩ => ⟨S512, .i1⟩
  | .hbm, ⟨97, _⟩ => ⟨S512, .i1⟩
  | .hbm, ⟨98, _⟩ => ⟨S_, .i32⟩
  | .hbm, ⟨99, _⟩ => ⟨S512, .i32⟩
  | .hbm, ⟨100, _⟩ => ⟨S512, .i32⟩
  | .hbm, ⟨101, _⟩ => ⟨S512, .i32⟩
  | .hbm, ⟨102, _⟩ => ⟨S512, .i32⟩
  | .hbm, ⟨103, _⟩ => ⟨S512x1, .i32⟩
  | .hbm, ⟨104, _⟩ => ⟨S1x512, .i32⟩
  | .hbm, ⟨105, _⟩ => ⟨S512x512, .i32⟩
  | .hbm, ⟨106, _⟩ => ⟨S512x512, .i32⟩
  | .hbm, ⟨107, _⟩ => ⟨S512x512, .i1⟩
  | .hbm, ⟨108, _⟩ => ⟨S512x512, .bf16⟩
  | .hbm, ⟨109, _⟩ => ⟨S1x512x512, .bf16⟩
  | .hbm, ⟨110, _⟩ => ⟨S1x512x512, .bf16⟩
  | .hbm, ⟨111, _⟩ => ⟨S2x512x512, .bf16⟩
  | .hbm, ⟨112, _⟩ => ⟨S16x4096x1024, .bf16⟩
  | .hbm, ⟨113, _⟩ => ⟨S16x1024x4096, .bf16⟩
  | .hbm, ⟨114, _⟩ => ⟨S16x256x16384, .bf16⟩
  | .hbm, ⟨115, _⟩ => ⟨S16x4096x1024, .bf16⟩
  | .hbm, ⟨116, _⟩ => ⟨S16x1024x4096, .bf16⟩
  | .hbm, ⟨117, _⟩ => ⟨S16x256x16384, .bf16⟩
  | .hbm, ⟨118, _⟩ => ⟨S16x4096x1024, .bf16⟩
  | .hbm, ⟨119, _⟩ => ⟨S16x1024x4096, .bf16⟩
  | .hbm, ⟨120, _⟩ => ⟨S16x256x16384, .bf16⟩
  | .hbm, ⟨121, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S1024x4096, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S2x512x512, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x128x4096, .bf16⟩
  | .local _ .vmem, ⟨16, _⟩ => ⟨S1x128x4096, .bf16⟩
  | .local _ .vmem, ⟨17, _⟩ => ⟨S1x32x16384, .bf16⟩
  | .local _ .vmem, ⟨18, _⟩ => ⟨S1x32x16384, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x128x4096, .bf16⟩
  | .local _ .vmem, ⟨22, _⟩ => ⟨S1x128x4096, .bf16⟩
  | .local _ .vmem, ⟨23, _⟩ => ⟨S1x32x16384, .bf16⟩
  | .local _ .vmem, ⟨24, _⟩ => ⟨S1x32x16384, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x128x4096, .bf16⟩
  | .local _ .vmem, ⟨28, _⟩ => ⟨S1x128x4096, .bf16⟩
  | .local _ .vmem, ⟨29, _⟩ => ⟨S1x32x16384, .bf16⟩
  | .local _ .vmem, ⟨30, _⟩ => ⟨S1x32x16384, .bf16⟩
  | .local _ .vmem, ⟨31, _⟩ => ⟨S512x1024, .bf16⟩
  | .local _ .vmem, ⟨32, _⟩ => ⟨S512x1024, .bf16⟩
  | .local _ .vmem, ⟨33, _⟩ => ⟨S8x512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v12 : Ref sig .tc := ⟨.hbm, 80, rfl⟩
abbrev main_c_3 : Ref sig .tc := ⟨.hbm, 81, rfl⟩
abbrev main_v13 : Ref sig .tc := ⟨.hbm, 82, rfl⟩
abbrev main_v14 : Ref sig .tc := ⟨.hbm, 83, rfl⟩
abbrev main_c_4 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_c : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_0 : Ref sig .tc := ⟨.hbm, 98, rfl⟩
abbrev main_call3_v12 : Ref sig .tc := ⟨.hbm, 99, rfl⟩
abbrev main_call3_v13 : Ref sig .tc := ⟨.hbm, 100, rfl⟩
abbrev main_v15 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26_0 : Ref sig .tc := ⟨.hbm, 112, rfl⟩
abbrev main_v26_1 : Ref sig .tc := ⟨.hbm, 113, rfl⟩
abbrev main_v26_2 : Ref sig .tc := ⟨.hbm, 114, rfl⟩
abbrev main_v26_3 : Ref sig .tc := ⟨.hbm, 115, rfl⟩
abbrev main_v26_4 : Ref sig .tc := ⟨.hbm, 116, rfl⟩
abbrev main_v26_5 : Ref sig .tc := ⟨.hbm, 117, rfl⟩
abbrev main_v26_6 : Ref sig .tc := ⟨.hbm, 118, rfl⟩
abbrev main_v26_7 : Ref sig .tc := ⟨.hbm, 119, rfl⟩
abbrev main_v26_8 : Ref sig .tc := ⟨.hbm, 120, rfl⟩
abbrev main_v26_9 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x16384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x16384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x32x16384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel2Ideal.lean ====
variable {F : FTy → Type} [FloatOps F] [Named F]
def κ : String → Option EReal := fun
  | "qscale" => some (((Real.sqrt 128)⁻¹ * (Real.log 2)⁻¹ : ℝ) : EReal)
  | _ => none
-- ==== Reference2Ideal.lean ====
abbrev S65536x1024 : Shape := ⟨2, ![65536, 1024]⟩
abbrev S16x3x1024 : Shape := ⟨3, ![16, 3, 1024]⟩
abbrev S1x1024 : Shape := ⟨2, ![1, 1024]⟩
abbrev S1024x2048 : Shape := ⟨2, ![1024, 2048]⟩
abbrev S1024x4096 : Shape := ⟨2, ![1024, 4096]⟩
abbrev S3x65536x128 : Shape := ⟨3, ![3, 65536, 128]⟩
abbrev S1x65536x128 : Shape := ⟨3, ![1, 65536, 128]⟩
abbrev S65536x128 : Shape := ⟨2, ![65536, 128]⟩
abbrev S_ : Shape := ⟨0, ![]⟩
abbrev S65536 : Shape := ⟨1, ![65536]⟩
abbrev S65536x1 : Shape := ⟨2, ![65536, 1]⟩
abbrev S65536x2048 : Shape := ⟨2, ![65536, 2048]⟩
abbrev S65536x8x128 : Shape := ⟨3, ![65536, 8, 128]⟩
abbrev S65536x8x64 : Shape := ⟨3, ![65536, 8, 64]⟩
abbrev S65536x1x128 : Shape := ⟨3, ![65536, 1, 128]⟩
abbrev S65536x1x64 : Shape := ⟨3, ![65536, 1, 64]⟩
abbrev S16x1x1024 : Shape := ⟨3, ![16, 1, 1024]⟩
abbrev S16x4096x1024 : Shape := ⟨3, ![16, 4096, 1024]⟩
abbrev S65536x4096 : Shape := ⟨2, ![65536, 4096]⟩
abbrev S16x1024x4096 : Shape := ⟨3, ![16, 1024, 4096]⟩
abbrev S16x256x16384 : Shape := ⟨3, ![16, 256, 16384]⟩

abbrev nBuf : Space → Nat
  | .hbm => 199
  | .vmem => 0
  | .smem => 0
  | _ => 0

abbrev hbmTy0_0 (i : Nat) : BufTy := match i % 128 with
  | 0 => ⟨S65536x1024, .f32⟩
  | 1 => ⟨S16x3x1024, .f32⟩
  | 2 => ⟨S1x1024, .f32⟩
  | 3 => ⟨S1x1024, .f32⟩
  | 4 => ⟨S1024x2048, .bf16⟩
  | 5 => ⟨S1024x4096, .bf16⟩
  | 6 => ⟨S3x65536x128, .f32⟩
  | 7 => ⟨S3x65536x128, .f32⟩
  | 8 => ⟨S1x65536x128, .f32⟩
  | 9 => ⟨S65536x128, .f32⟩
  | 10 => ⟨S1x65536x128, .f32⟩
  | 11 => ⟨S65536x128, .f32⟩
  | 12 => ⟨S65536x1024, .f32⟩
  | 13 => ⟨S_, .f32⟩
  | 14 => ⟨S65536, .f32⟩
  | 15 => ⟨S65536x1, .f32⟩
  | 16 => ⟨S_, .f32⟩
  | 17 => ⟨S65536x1, .f32⟩
  | 18 => ⟨S65536x1, .f32⟩
  | 19 => ⟨S_, .f32⟩
  | 20 => ⟨S65536x1, .f32⟩
  | 21 => ⟨S65536x1, .f32⟩
  | 22 => ⟨S65536x1, .f32⟩
  | 23 => ⟨S65536x1024, .f32⟩
  | 24 => ⟨S65536x1024, .f32⟩
  | 25 => ⟨S65536x1024, .f32⟩
  | 26 => ⟨S65536x1024, .f32⟩
  | 27 => ⟨S1024x2048, .f32⟩
  | 28 => ⟨S65536x2048, .f32⟩
  | 29 => ⟨S65536x1024, .f32⟩
  | 30 => ⟨S65536x8x128, .f32⟩
  | 31 => ⟨S65536x8x64, .f32⟩
  | 32 => ⟨S65536x8x64, .f32⟩
  | 33 => ⟨S65536x1x128, .f32⟩
  | 34 => ⟨S65536x1x64, .f32⟩
  | 35 => ⟨S65536x1x64, .f32⟩
  | 36 => ⟨S65536x1x128, .f32⟩
  | 37 => ⟨S65536x1x64, .f32⟩
  | 38 => ⟨S65536x1x64, .f32⟩
  | 39 => ⟨S65536x8x64, .f32⟩
  | 40 => ⟨S65536x8x64, .f32⟩
  | 41 => ⟨S65536x8x64, .f32⟩
  | 42 => ⟨S65536x8x64, .f32⟩
  | 43 => ⟨S65536x8x64, .f32⟩
  | 44 => ⟨S65536x8x64, .f32⟩
  | 45 => ⟨S65536x8x64, .f32⟩
  | 46 => ⟨S65536x8x64, .f32⟩
  | 47 => ⟨S65536x8x64, .f32⟩
  | 48 => ⟨S65536x8x64, .f32⟩
  | 49 => ⟨S65536x8x128, .f32⟩
  | 50 => ⟨S65536x1024, .f32⟩
  | 51 => ⟨S65536x1024, .f32⟩
  | 52 => ⟨S16x1x1024, .f32⟩
  | 53 => ⟨S16x1x1024, .f32⟩
  | 54 => ⟨S65536x1024, .f32⟩
  | 55 => ⟨S_, .f32⟩
  | 56 => ⟨S65536, .f32⟩
  | 57 => ⟨S65536x1, .f32⟩
  | 58 => ⟨S_, .f32⟩
  | 59 => ⟨S65536x1, .f32⟩
  | 60 => ⟨S65536x1, .f32⟩
  | 61 => ⟨S_, .f32⟩
  | 62 => ⟨S65536x1, .f32⟩
  | 63 => ⟨S65536x1, .f32⟩
  | 64 => ⟨S65536x1, .f32⟩
  | 65 => ⟨S65536x1024, .f32⟩
  | 66 => ⟨S65536x1024, .f32⟩
  | 67 => ⟨S65536x1024, .f32⟩
  | 68 => ⟨S65536x1024, .f32⟩
  | 69 => ⟨S16x4096x1024, .f32⟩
  | 70 => ⟨S_, .f32⟩
  | 71 => ⟨S16x1x1024, .f32⟩
  | 72 => ⟨S16x1x1024, .f32⟩
  | 73 => ⟨S16x4096x1024, .f32⟩
  | 74 => ⟨S16x4096x1024, .f32⟩
  | 75 => ⟨S16x4096x1024, .f32⟩
  | 76 => ⟨S16x4096x1024, .f32⟩
  | 77 => ⟨S65536x1024, .f32⟩
  | 78 => ⟨S1024x4096, .f32⟩
  | 79 => ⟨S65536x4096, .f32⟩
  | 80 => ⟨S65536x1024, .f32⟩
  | 81 => ⟨S65536x8x128, .f32⟩
  | 82 => ⟨S65536x8x64, .f32⟩
  | 83 => ⟨S65536x8x64, .f32⟩
  | 84 => ⟨S65536x1x128, .f32⟩
  | 85 => ⟨S65536x1x64, .f32⟩
  | 86 => ⟨S65536x1x64, .f32⟩
  | 87 => ⟨S65536x1x128, .f32⟩
  | 88 => ⟨S65536x1x64, .f32⟩
  | 89 => ⟨S65536x1x64, .f32⟩
  | 90 => ⟨S65536x8x64, .f32⟩
  | 91 => ⟨S65536x8x64, .f32⟩
  | 92 => ⟨S65536x8x64, .f32⟩
  | 93 => ⟨S65536x8x64, .f32⟩
  | 94 => ⟨S65536x8x64, .f32⟩
  | 95 => ⟨S65536x8x64, .f32⟩
  | 96 => ⟨S65536x8x64, .f32⟩
  | 97 => ⟨S65536x8x64, .f32⟩
  | 98 => ⟨S65536x8x64, .f32⟩
  | 99 => ⟨S65536x8x64, .f32⟩
  | 100 => ⟨S65536x8x128, .f32⟩
  | 101 => ⟨S65536x1024, .f32⟩
  | 102 => ⟨S_, .f32⟩
  | 103 => ⟨S_, .f32⟩
  | 104 => ⟨S65536x1024, .f32⟩
  | 105 => ⟨S65536x1024, .f32⟩
  | 106 => ⟨S_, .f32⟩
  | 107 => ⟨S_, .f32⟩
  | 108 => ⟨S65536x1024, .f32⟩
  | 109 => ⟨S65536x1024, .f32⟩
  | 110 => ⟨S65536x1024, .f32⟩
  | 111 => ⟨S65536x8x128, .f32⟩
  | 112 => ⟨S65536x8x64, .f32⟩
  | 113 => ⟨S65536x8x64, .f32⟩
  | 114 => ⟨S65536x1x128, .f32⟩
  | 115 => ⟨S65536x1x64, .f32⟩
  | 116 => ⟨S65536x1x64, .f32⟩
  | 117 => ⟨S65536x1x128, .f32⟩
  | 118 => ⟨S65536x1x64, .f32⟩
  | 119 => ⟨S65536x1x64, .f32⟩
  | 120 => ⟨S65536x8x64, .f32⟩
  | 121 => ⟨S65536x8x64, .f32⟩
  | 122 => ⟨S65536x8x64, .f32⟩
  | 123 => ⟨S65536x8x64, .f32⟩
  | 124 => ⟨S65536x8x64, .f32⟩
  | 125 => ⟨S65536x8x64, .f32⟩
  | 126 => ⟨S65536x8x64, .f32⟩
  | 127 => ⟨S65536x8x64, .f32⟩
  | _ => ⟨S65536x1024, .f32⟩

abbrev hbmTy0_1 (i : Nat) : BufTy := match i % 128 with
  | 0 => ⟨S65536x8x64, .f32⟩
  | 1 => ⟨S65536x8x64, .f32⟩
  | 2 => ⟨S65536x8x128, .f32⟩
  | 3 => ⟨S65536x1024, .f32⟩
  | 4 => ⟨S_, .f32⟩
  | 5 => ⟨S_, .f32⟩
  | 6 => ⟨S65536x1024, .f32⟩
  | 7 => ⟨S65536x1024, .f32⟩
  | 8 => ⟨S_, .f32⟩
  | 9 => ⟨S_, .f32⟩
  | 10 => ⟨S65536x1024, .f32⟩
  | 11 => ⟨S65536x1024, .f32⟩
  | 12 => ⟨S65536x1024, .f32⟩
  | 13 => ⟨S65536x8x128, .f32⟩
  | 14 => ⟨S65536x8x64, .f32⟩
  | 15 => ⟨S65536x8x64, .f32⟩
  | 16 => ⟨S65536x1x128, .f32⟩
  | 17 => ⟨S65536x1x64, .f32⟩
  | 18 => ⟨S65536x1x64, .f32⟩
  | 19 => ⟨S65536x1x128, .f32⟩
  | 20 => ⟨S65536x1x64, .f32⟩
  | 21 => ⟨S65536x1x64, .f32⟩
  | 22 => ⟨S65536x8x64, .f32⟩
  | 23 => ⟨S65536x8x64, .f32⟩
  | 24 => ⟨S65536x8x64, .f32⟩
  | 25 => ⟨S65536x8x64, .f32⟩
  | 26 => ⟨S65536x8x64, .f32⟩
  | 27 => ⟨S65536x8x64, .f32⟩
  | 28 => ⟨S65536x8x64, .f32⟩
  | 29 => ⟨S65536x8x64, .f32⟩
  | 30 => ⟨S65536x8x64, .f32⟩
  | 31 => ⟨S65536x8x64, .f32⟩
  | 32 => ⟨S65536x8x128, .f32⟩
  | 33 => ⟨S65536x1024, .f32⟩
  | 34 => ⟨S_, .f32⟩
  | 35 => ⟨S_, .f32⟩
  | 36 => ⟨S65536x1024, .f32⟩
  | 37 => ⟨S65536x1024, .f32⟩
  | 38 => ⟨S_, .f32⟩
  | 39 => ⟨S_, .f32⟩
  | 40 => ⟨S65536x1024, .f32⟩
  | 41 => ⟨S65536x1024, .f32⟩
  | 42 => ⟨S65536x1024, .f32⟩
  | 43 => ⟨S65536x1024, .f32⟩
  | 44 => ⟨S65536x1024, .f32⟩
  | 45 => ⟨S_, .f32⟩
  | 46 => ⟨S65536x1024, .f32⟩
  | 47 => ⟨S65536x1024, .f32⟩
  | 48 => ⟨S_, .f32⟩
  | 49 => ⟨S65536x1024, .f32⟩
  | 50 => ⟨S65536x1024, .f32⟩
  | 51 => ⟨S65536x1024, .f32⟩
  | 52 => ⟨S16x4096x1024, .f32⟩
  | 53 => ⟨S16x4096x1024, .bf16⟩
  | 54 => ⟨S16x1024x4096, .f32⟩
  | 55 => ⟨S16x1024x4096, .bf16⟩
  | 56 => ⟨S16x256x16384, .f32⟩
  | 57 => ⟨S16x256x16384, .bf16⟩
  | 58 => ⟨S16x4096x1024, .f32⟩
  | 59 => ⟨S16x4096x1024, .bf16⟩
  | 60 => ⟨S16x1024x4096, .f32⟩
  | 61 => ⟨S16x1024x4096, .bf16⟩
  | 62 => ⟨S16x256x16384, .f32⟩
  | 63 => ⟨S16x256x16384, .bf16⟩
  | 64 => ⟨S16x4096x1024, .f32⟩
  | 65 => ⟨S16x4096x1024, .bf16⟩
  | 66 => ⟨S16x1024x4096, .f32⟩
  | 67 => ⟨S16x1024x4096, .bf16⟩
  | 68 => ⟨S16x256x16384, .f32⟩
  | 69 => ⟨S16x256x16384, .bf16⟩
  | 70 => ⟨S65536x1024, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_6 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_7 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_8 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_9 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_cst_10 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_cst_11 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_call0_v0 : Ref sig .tc := ⟨.hbm, 171, rfl⟩
abbrev main_call0_v1 : Ref sig .tc := ⟨.hbm, 172, rfl⟩
abbrev main_call0_cst : Ref sig .tc := ⟨.hbm, 173, rfl⟩
abbrev main_call0_v2 : Ref sig .tc := ⟨.hbm, 174, rfl⟩
abbrev main_call0_v3 : Ref sig .tc := ⟨.hbm, 175, rfl⟩
abbrev main_call0_cst_0 : Ref sig .tc := ⟨.hbm, 176, rfl⟩
abbrev main_call0_v4 : Ref sig .tc := ⟨.hbm, 177, rfl⟩
abbrev main_call0_v5 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩

abbrev nD : Nat := 1
abbrev τ : Topo := Topo.v7x

variable {F : FTy → Type} [FloatOps F]
-- ==== Kernel3.lean ====
abbrev S65536x1024 : Shape := ⟨2, ![65536, 1024]⟩
abbrev S16x3x1024 : Shape := ⟨3, ![16, 3, 1024]⟩
abbrev S1x1024 : Shape := ⟨2, ![1, 1024]⟩
abbrev S1x128 : Shape := ⟨2, ![1, 128]⟩
abbrev S1024x5352 : Shape := ⟨2, ![1024, 5352]⟩
abbrev S3x65536x128 : Shape := ⟨3, ![3, 65536, 128]⟩
abbrev S1024x2048 : Shape := ⟨2, ![1024, 2048]⟩
abbrev S1024x512 : Shape := ⟨2, ![1024, 512]⟩
abbrev S1024x128 : Shape := ⟨2, ![1024, 128]⟩
abbrev S1024x32 : Shape := ⟨2, ![1024, 32]⟩
abbrev S1024x64 : Shape := ⟨2, ![1024, 64]⟩
abbrev S1024x8 : Shape := ⟨2, ![1024, 8]⟩
abbrev S_ : Shape := ⟨0, ![]⟩
abbrev S1024x88 : Shape := ⟨2, ![1024, 88]⟩
abbrev S1024x5504 : Shape := ⟨2, ![1024, 5504]⟩
abbrev S16x16x16x256x256 : Shape := ⟨5, ![16, 16, 16, 256, 256]⟩
abbrev S65536x256 : Shape := ⟨2, ![65536, 256]⟩
abbrev S16x16x144x256 : Shape := ⟨4, ![16, 16, 144, 256]⟩
abbrev S65536x128 : Shape := ⟨2, ![65536, 128]⟩
abbrev S16x16x128x2048 : Shape := ⟨4, ![16, 16, 128, 2048]⟩
abbrev S65536x2048 : Shape := ⟨2, ![65536, 2048]⟩
abbrev S256x1024 : Shape := ⟨2, ![256, 1024]⟩
abbrev S1x3x1024 : Shape := ⟨3, ![1, 3, 1024]⟩
abbrev S2x256x128 : Shape := ⟨3, ![2, 256, 128]⟩
abbrev S1x1x16x256x256 : Shape := ⟨5, ![1, 1, 16, 256, 256]⟩
abbrev S256x256 : Shape := ⟨2, ![256, 256]⟩
abbrev S1x1x144x256 : Shape := ⟨4, ![1, 1, 144, 256]⟩
abbrev S256x128 : Shape := ⟨2, ![256, 128]⟩
abbrev S1x1x128x2048 : Shape := ⟨4, ![1, 1, 128, 2048]⟩
abbrev S256x2048 : Shape := ⟨2, ![256, 2048]⟩
abbrev S256 : Shape := ⟨1, ![256]⟩
abbrev S256x1 : Shape := ⟨2, ![256, 1]⟩
abbrev S1x1x1024 : Shape := ⟨3, ![1, 1, 1024]⟩
abbrev S1x256x128 : Shape := ⟨3, ![1, 256, 128]⟩
abbrev S256x512 : Shape := ⟨2, ![256, 512]⟩
abbrev S96x256 : Shape := ⟨2, ![96, 256]⟩
abbrev S128x256 : Shape := ⟨2, ![128, 256]⟩
abbrev S1x1x1x128x256 : Shape := ⟨5, ![1, 1, 1, 128, 256]⟩
abbrev S32x256 : Shape := ⟨2, ![32, 256]⟩
abbrev S1x1x1x32x256 : Shape := ⟨5, ![1, 1, 1, 32, 256]⟩
abbrev S1x1x1x96x256 : Shape := ⟨5, ![1, 1, 1, 96, 256]⟩
abbrev S1x1x128x256 : Shape := ⟨4, ![1, 1, 128, 256]⟩
abbrev S16x256 : Shape := ⟨2, ![16, 256]⟩
abbrev S1x1x16x256 : Shape := ⟨4, ![1, 1, 16, 256]⟩

abbrev nBuf : Space → Nat
  | .hbm => 28
  | .vmem => 25
  | .smem => 0
  | _ => 0

abbrev bufTy : (tb : Table) → Fin (tcTables nBuf tb) → BufTy
  | .hbm, ⟨0, _⟩ => ⟨S65536x1024, .f32⟩
  | .hbm, ⟨1, _⟩ => ⟨S16x3x1024, .f32⟩
  | .hbm, ⟨2, _⟩ => ⟨S1x1024, .f32⟩
  | .hbm, ⟨3, _⟩ => ⟨S1x128, .f32⟩
  | .hbm, ⟨4, _⟩ => ⟨S1024x5352, .f32⟩
  | .hbm, ⟨5, _⟩ => ⟨S3x65536x128, .f32⟩
  | .hbm, ⟨6, _⟩ => ⟨S3x65536x128, .f32⟩
  | .hbm, ⟨7, _⟩ => ⟨S1024x2048, .f32⟩
  | .hbm, ⟨8, _⟩ => ⟨S1024x512, .f32⟩
  | .hbm, ⟨9, _⟩ => ⟨S1024x128, .f32⟩
  | .hbm, ⟨10, _⟩ => ⟨S1024x32, .f32⟩
  | .hbm, ⟨11, _⟩ => ⟨S1024x2048, .f32⟩
  | .hbm, ⟨12, _⟩ => ⟨S1024x512, .f32⟩
  | .hbm, ⟨13, _⟩ => ⟨S1024x64, .f32⟩
  | .hbm, ⟨14, _⟩ => ⟨S1024x8, .f32⟩
  | .hbm, ⟨15, _⟩ => ⟨S_, .f32⟩
  | .hbm, ⟨16, _⟩ => ⟨S1024x88, .f32⟩
  | .hbm, ⟨17, _⟩ => ⟨S1024x128, .f32⟩
  | .hbm, ⟨18, _⟩ => ⟨S1024x128, .f32⟩
  | .hbm, ⟨19, _⟩ => ⟨S1024x5504, .f32⟩
  | .hbm, ⟨20, _⟩ => ⟨S1024x5504, .bf16⟩
  | .hbm, ⟨21, _⟩ => ⟨S16x16x16x256x256, .bf16⟩
  | .hbm, ⟨22, _⟩ => ⟨S65536x256, .bf16⟩
  | .hbm, ⟨23, _⟩ => ⟨S16x16x144x256, .bf16⟩
  | .hbm, ⟨24, _⟩ => ⟨S65536x128, .bf16⟩
  | .hbm, ⟨25, _⟩ => ⟨S16x16x128x2048, .bf16⟩
  | .hbm, ⟨26, _⟩ => ⟨S65536x128, .f32⟩
  | .hbm, ⟨27, _⟩ => ⟨S65536x2048, .bf16⟩
  | .local _ .vmem, ⟨0, _⟩ => ⟨S256x1024, .f32⟩
  | .local _ .vmem, ⟨1, _⟩ => ⟨S256x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x128, .f32⟩
  | .local _ .vmem, ⟨6, _⟩ => ⟨S1024x5504, .bf16⟩
  | .local _ .vmem, ⟨7, _⟩ => ⟨S2x256x128, .f32⟩
  | .local _ .vmem, ⟨8, _⟩ => ⟨S2x256x128, .f32⟩
  | .local _ .vmem, ⟨9, _⟩ => ⟨S2x256x128, .f32⟩
  | .local _ .vmem, ⟨10, _⟩ => ⟨S2x256x128, .f32⟩
  | .local _ .vmem, ⟨11, _⟩ => ⟨S1x1x16x256x256, .bf16⟩
  | .local _ .vmem, ⟨12, _⟩ => ⟨S1x1x16x256x256, .bf16⟩
  | .local _ .vmem, ⟨13, _⟩ => ⟨S256x256, .bf16⟩
  | .local _ .vmem, ⟨14, _⟩ => ⟨S256x256, .bf16⟩
  | .local _ .vmem, ⟨15, _⟩ => ⟨S1x1x144x256, .bf16⟩
  | .local _ .vmem, ⟨16, _⟩ => ⟨S1x1x144x256, .bf16⟩
  | .local _ .vmem, ⟨17, _⟩ => ⟨S256x128, .bf16⟩
  | .local _ .vmem, ⟨18, _⟩ => ⟨S256x128, .bf16⟩
  | .local _ .vmem, ⟨19, _⟩ => ⟨S1x1x128x2048, .bf16⟩
  | .local _ .vmem, ⟨20, _⟩ => ⟨S1x1x128x2048, .bf16⟩
  | .local _ .vmem, ⟨21, _⟩ => ⟨S256x128, .f32⟩
  | .local _ .vmem, ⟨22, _⟩ => ⟨S256x128, .f32⟩
  | .local _ .vmem, ⟨23, _⟩ => ⟨S256x2048, .bf16⟩
  | .local _ .vmem, ⟨24, _⟩ => ⟨S256x2048, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5504 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x16x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x144x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel3Ideal.lean ====
variable {F : FTy → Type} [FloatOps F] [Named F]
def κ : String → Option EReal := fun
  | "qscale" => some (((Real.sqrt 160)⁻¹ * (Real.log 2)⁻¹ : ℝ) : EReal)
  | _ => none
-- ==== Reference3Ideal.lean ====
abbrev S65536x1024 : Shape := ⟨2, ![65536, 1024]⟩
abbrev S16x3x1024 : Shape := ⟨3, ![16, 3, 1024]⟩
abbrev S1x1024 : Shape := ⟨2, ![1, 1024]⟩
abbrev S1x128 : Shape := ⟨2, ![1, 128]⟩
abbrev S1024x5352 : Shape := ⟨2, ![1024, 5352]⟩
abbrev S3x65536x128 : Shape := ⟨3, ![3, 65536, 128]⟩
abbrev S1x65536x128 : Shape := ⟨3, ![1, 65536, 128]⟩
abbrev S65536x128 : Shape := ⟨2, ![65536, 128]⟩
abbrev S16x1x1024 : Shape := ⟨3, ![16, 1, 1024]⟩
abbrev S_ : Shape := ⟨0, ![]⟩
abbrev S65536 : Shape := ⟨1, ![65536]⟩
abbrev S65536x1 : Shape := ⟨2, ![65536, 1]⟩
abbrev S16x4096x1024 : Shape := ⟨3, ![16, 4096, 1024]⟩
abbrev S65536x5352 : Shape := ⟨2, ![65536, 5352]⟩
abbrev S65536x2048 : Shape := ⟨2, ![65536, 2048]⟩
abbrev S65536x512 : Shape := ⟨2, ![65536, 512]⟩
abbrev S65536x32 : Shape := ⟨2, ![65536, 32]⟩
abbrev S65536x64 : Shape := ⟨2, ![65536, 64]⟩
abbrev S65536x8 : Shape := ⟨2, ![65536, 8]⟩
abbrev S65536x4x4x32 : Shape := ⟨4, ![65536, 4, 4, 32]⟩
abbrev S65536x4x4x16 : Shape := ⟨4, ![65536, 4, 4, 16]⟩
abbrev S65536x1x4x32 : Shape := ⟨4, ![65536, 1, 4, 32]⟩
abbrev S65536x1x4x16 : Shape := ⟨4, ![65536, 1, 4, 16]⟩
abbrev S65536x16x128 : Shape := ⟨3, ![65536, 16, 128]⟩
abbrev S65536x16x32 : Shape := ⟨3, ![65536, 16, 32]⟩
abbrev S65536x16x160 : Shape := ⟨3, ![65536, 16, 160]⟩
abbrev S65536x16x96 : Shape := ⟨3, ![65536, 16, 96]⟩
abbrev S65536x16x256 : Shape := ⟨3, ![65536, 16, 256]⟩
abbrev S65536x1x1x32 : Shape := ⟨4, ![65536, 1, 1, 32]⟩
abbrev S65536x1x1x16 : Shape := ⟨4, ![65536, 1, 1, 16]⟩
abbrev S65536x96 : Shape := ⟨2, ![65536, 96]⟩
abbrev S65536x256 : Shape := ⟨2, ![65536, 256]⟩
abbrev S65536x16 : Shape := ⟨2, ![65536, 16]⟩
abbrev S65536x144 : Shape := ⟨2, ![65536, 144]⟩
abbrev S65536x1x2x64 : Shape := ⟨4, ![65536, 1, 2, 64]⟩
abbrev S65536x1x2x32 : Shape := ⟨4, ![65536, 1, 2, 32]⟩
abbrev S65536x88 : Shape := ⟨2, ![65536, 88]⟩
abbrev S65536x4x2x64 : Shape := ⟨4, ![65536, 4, 2, 64]⟩
abbrev S65536x4x2x32 : Shape := ⟨4, ![65536, 4, 2, 32]⟩
abbrev S65536x4x128 : Shape := ⟨3, ![65536, 4, 128]⟩
abbrev S65536x4x64 : Shape := ⟨3, ![65536, 4, 64]⟩
abbrev S65536x4x1x128 : Shape := ⟨4, ![65536, 4, 1, 128]⟩
abbrev S65536x4x2x128 : Shape := ⟨4, ![65536, 4, 2, 128]⟩
abbrev S65536x8x128 : Shape := ⟨3, ![65536, 8, 128]⟩
abbrev S16x16x256x16x256 : Shape := ⟨5, ![16, 16, 256, 16, 256]⟩
abbrev S16x16x16x256x256 : Shape := ⟨5, ![16, 16, 16, 256, 256]⟩
abbrev S16x16x256x144 : Shape := ⟨4, ![16, 16, 256, 144]⟩
abbrev S16x16x144x256 : Shape := ⟨4, ![16, 16, 144, 256]⟩
abbrev S16x16x256x8x128 : Shape := ⟨5, ![16, 16, 256, 8, 128]⟩
abbrev S16x16x128x8x256 : Shape := ⟨5, ![16, 16, 128, 8, 256]⟩
abbrev S16x16x128x2048 : Shape := ⟨4, ![16, 16, 128, 2048]⟩

abbrev nBuf : Space → Nat
  | .hbm => 203
  | .vmem => 0
  | .smem => 0
  | _ => 0

abbrev hbmTy0_0 (i : Nat) : BufTy := match i % 128 with
  | 0 => ⟨S65536x1024, .f32⟩
  | 1 => ⟨S16x3x1024, .f32⟩
  | 2 => ⟨S1x1024, .f32⟩
  | 3 => ⟨S1x128, .f32⟩
  | 4 => ⟨S1024x5352, .f32⟩
  | 5 => ⟨S3x65536x128, .f32⟩
  | 6 => ⟨S3x65536x128, .f32⟩
  | 7 => ⟨S1x65536x128, .f32⟩
  | 8 => ⟨S65536x128, .f32⟩
  | 9 => ⟨S1x65536x128, .f32⟩
  | 10 => ⟨S65536x128, .f32⟩
  | 11 => ⟨S1x65536x128, .f32⟩
  | 12 => ⟨S65536x128, .f32⟩
  | 13 => ⟨S1x65536x128, .f32⟩
  | 14 => ⟨S65536x128, .f32⟩
  | 15 => ⟨S16x1x1024, .f32⟩
  | 16 => ⟨S16x1x1024, .f32⟩
  | 17 => ⟨S65536x1024, .f32⟩
  | 18 => ⟨S_, .f32⟩
  | 19 => ⟨S65536, .f32⟩
  | 20 => ⟨S65536x1, .f32⟩
  | 21 => ⟨S_, .f32⟩
  | 22 => ⟨S65536x1, .f32⟩
  | 23 => ⟨S65536x1, .f32⟩
  | 24 => ⟨S_, .f32⟩
  | 25 => ⟨S65536x1, .f32⟩
  | 26 => ⟨S65536x1, .f32⟩
  | 27 => ⟨S65536x1, .f32⟩
  | 28 => ⟨S65536x1024, .f32⟩
  | 29 => ⟨S65536x1024, .f32⟩
  | 30 => ⟨S65536x1024, .f32⟩
  | 31 => ⟨S65536x1024, .f32⟩
  | 32 => ⟨S16x4096x1024, .f32⟩
  | 33 => ⟨S_, .f32⟩
  | 34 => ⟨S16x1x1024, .f32⟩
  | 35 => ⟨S16x1x1024, .f32⟩
  | 36 => ⟨S16x4096x1024, .f32⟩
  | 37 => ⟨S16x4096x1024, .f32⟩
  | 38 => ⟨S16x4096x1024, .f32⟩
  | 39 => ⟨S16x4096x1024, .f32⟩
  | 40 => ⟨S65536x1024, .f32⟩
  | 41 => ⟨S65536x5352, .f32⟩
  | 42 => ⟨S65536x2048, .f32⟩
  | 43 => ⟨S65536x512, .f32⟩
  | 44 => ⟨S65536x128, .f32⟩
  | 45 => ⟨S65536x32, .f32⟩
  | 46 => ⟨S65536x2048, .f32⟩
  | 47 => ⟨S65536x512, .f32⟩
  | 48 => ⟨S65536x64, .f32⟩
  | 49 => ⟨S65536x8, .f32⟩
  | 50 => ⟨S65536x4x4x32, .f32⟩
  | 51 => ⟨S65536x4x4x16, .f32⟩
  | 52 => ⟨S65536x4x4x16, .f32⟩
  | 53 => ⟨S65536x1x4x32, .f32⟩
  | 54 => ⟨S65536x1x4x16, .f32⟩
  | 55 => ⟨S65536x1x4x16, .f32⟩
  | 56 => ⟨S65536x1x4x32, .f32⟩
  | 57 => ⟨S65536x1x4x16, .f32⟩
  | 58 => ⟨S65536x1x4x16, .f32⟩
  | 59 => ⟨S65536x4x4x16, .f32⟩
  | 60 => ⟨S65536x4x4x16, .f32⟩
  | 61 => ⟨S65536x4x4x16, .f32⟩
  | 62 => ⟨S65536x4x4x16, .f32⟩
  | 63 => ⟨S65536x4x4x16, .f32⟩
  | 64 => ⟨S65536x4x4x16, .f32⟩
  | 65 => ⟨S65536x4x4x16, .f32⟩
  | 66 => ⟨S65536x4x4x16, .f32⟩
  | 67 => ⟨S65536x4x4x16, .f32⟩
  | 68 => ⟨S65536x4x4x16, .f32⟩
  | 69 => ⟨S65536x4x4x32, .f32⟩
  | 70 => ⟨S65536x512, .f32⟩
  | 71 => ⟨S65536x16x128, .f32⟩
  | 72 => ⟨S65536x16x32, .f32⟩
  | 73 => ⟨S65536x16x160, .f32⟩
  | 74 => ⟨S_, .f32⟩
  | 75 => ⟨S_, .f32⟩
  | 76 => ⟨S65536x16x160, .f32⟩
  | 77 => ⟨S65536x16x160, .f32⟩
  | 78 => ⟨S_, .f32⟩
  | 79 => ⟨S_, .f32⟩
  | 80 => ⟨S65536x16x160, .f32⟩
  | 81 => ⟨S65536x16x160, .f32⟩
  | 82 => ⟨S_, .f32⟩
  | 83 => ⟨S65536x16x96, .f32⟩
  | 84 => ⟨S65536x16x256, .f32⟩
  | 85 => ⟨S65536x128, .f32⟩
  | 86 => ⟨S_, .f32⟩
  | 87 => ⟨S65536, .f32⟩
  | 88 => ⟨S65536x1, .f32⟩
  | 89 => ⟨S_, .f32⟩
  | 90 => ⟨S65536x1, .f32⟩
  | 91 => ⟨S65536x1, .f32⟩
  | 92 => ⟨S_, .f32⟩
  | 93 => ⟨S65536x1, .f32⟩
  | 94 => ⟨S65536x1, .f32⟩
  | 95 => ⟨S65536x1, .f32⟩
  | 96 => ⟨S65536x128, .f32⟩
  | 97 => ⟨S65536x128, .f32⟩
  | 98 => ⟨S65536x128, .f32⟩
  | 99 => ⟨S65536x128, .f32⟩
  | 100 => ⟨S65536x32, .f32⟩
  | 101 => ⟨S65536x32, .f32⟩
  | 102 => ⟨S65536x1x1x32, .f32⟩
  | 103 => ⟨S65536x1x1x16, .f32⟩
  | 104 => ⟨S65536x1x1x16, .f32⟩
  | 105 => ⟨S65536x1x1x32, .f32⟩
  | 106 => ⟨S65536x1x1x16, .f32⟩
  | 107 => ⟨S65536x1x1x16, .f32⟩
  | 108 => ⟨S65536x1x1x32, .f32⟩
  | 109 => ⟨S65536x1x1x16, .f32⟩
  | 110 => ⟨S65536x1x1x16, .f32⟩
  | 111 => ⟨S65536x1x1x16, .f32⟩
  | 112 => ⟨S65536x1x1x16, .f32⟩
  | 113 => ⟨S65536x1x1x16, .f32⟩
  | 114 => ⟨S65536x1x1x16, .f32⟩
  | 115 => ⟨S65536x1x1x16, .f32⟩
  | 116 => ⟨S65536x1x1x16, .f32⟩
  | 117 => ⟨S65536x1x1x32, .f32⟩
  | 118 => ⟨S65536x32, .f32⟩
  | 119 => ⟨S_, .f32⟩
  | 120 => ⟨S65536x96, .f32⟩
  | 121 => ⟨S65536x256, .f32⟩
  | 122 => ⟨S_, .f32⟩
  | 123 => ⟨S65536x16, .f32⟩
  | 124 => ⟨S65536x144, .f32⟩
  | 125 => ⟨S65536x128, .f32⟩
  | 126 => ⟨S65536x1x2x64, .f32⟩
  | 127 => ⟨S65536x1x2x32, .f32⟩
  | _ => ⟨S65536x1024, .f32⟩

abbrev hbmTy0_1 (i : Nat) : BufTy := match i % 128 with
  | 0 => ⟨S65536x1x2x32, .f32⟩
  | 1 => ⟨S65536x1x2x64, .f32⟩
  | 2 => ⟨S65536x1x2x32, .f32⟩
  | 3 => ⟨S65536x1x2x32, .f32⟩
  | 4 => ⟨S65536x1x2x64, .f32⟩
  | 5 => ⟨S65536x1x2x32, .f32⟩
  | 6 => ⟨S65536x1x2x32, .f32⟩
  | 7 => ⟨S65536x1x2x32, .f32⟩
  | 8 => ⟨S65536x1x2x32, .f32⟩
  | 9 => ⟨S65536x1x2x32, .f32⟩
  | 10 => ⟨S65536x1x2x32, .f32⟩
  | 11 => ⟨S65536x1x2x32, .f32⟩
  | 12 => ⟨S65536x1x2x32, .f32⟩
  | 13 => ⟨S65536x1x2x64, .f32⟩
  | 14 => ⟨S65536x128, .f32⟩
  | 15 => ⟨S_, .f32⟩
  | 16 => ⟨S65536x88, .f32⟩
  | 17 => ⟨S65536x128, .f32⟩
  | 18 => ⟨S_, .f32⟩
  | 19 => ⟨S65536x128, .f32⟩
  | 20 => ⟨S65536x128, .f32⟩
  | 21 => ⟨S65536x4x2x64, .f32⟩
  | 22 => ⟨S65536x4x2x32, .f32⟩
  | 23 => ⟨S65536x4x2x32, .f32⟩
  | 24 => ⟨S65536x1x2x64, .f32⟩
  | 25 => ⟨S65536x1x2x32, .f32⟩
  | 26 => ⟨S65536x1x2x32, .f32⟩
  | 27 => ⟨S65536x1x2x64, .f32⟩
  | 28 => ⟨S65536x1x2x32, .f32⟩
  | 29 => ⟨S65536x1x2x32, .f32⟩
  | 30 => ⟨S65536x4x2x32, .f32⟩
  | 31 => ⟨S65536x4x2x32, .f32⟩
  | 32 => ⟨S65536x4x2x32, .f32⟩
  | 33 => ⟨S65536x4x2x32, .f32⟩
  | 34 => ⟨S65536x4x2x32, .f32⟩
  | 35 => ⟨S65536x4x2x32, .f32⟩
  | 36 => ⟨S65536x4x2x32, .f32⟩
  | 37 => ⟨S65536x4x2x32, .f32⟩
  | 38 => ⟨S65536x4x2x32, .f32⟩
  | 39 => ⟨S65536x4x2x32, .f32⟩
  | 40 => ⟨S65536x4x2x64, .f32⟩
  | 41 => ⟨S65536x512, .f32⟩
  | 42 => ⟨S65536x4x128, .f32⟩
  | 43 => ⟨S_, .f32⟩
  | 44 => ⟨S65536x4x64, .f32⟩
  | 45 => ⟨S65536x4x64, .f32⟩
  | 46 => ⟨S65536x4x128, .f32⟩
  | 47 => ⟨S65536x4x64, .f32⟩
  | 48 => ⟨S65536x4x128, .f32⟩
  | 49 => ⟨S65536x4x1x128, .f32⟩
  | 50 => ⟨S65536x4x1x128, .f32⟩
  | 51 => ⟨S65536x4x2x128, .f32⟩
  | 52 => ⟨S65536x8x128, .f32⟩
  | 53 => ⟨S16x16x256x16x256, .f32⟩
  | 54 => ⟨S16x16x16x256x256, .f32⟩
  | 55 => ⟨S16x16x256x144, .f32⟩
  | 56 => ⟨S16x16x144x256, .f32⟩
  | 57 => ⟨S16x16x256x8x128, .f32⟩
  | 58 => ⟨S16x16x128x8x256, .f32⟩
  | 59 => ⟨S16x16x128x2048, .f32⟩
  | 60 => ⟨S16x16x16x256x256, .bf16⟩
  | 61 => ⟨S65536x256, .bf16⟩
  | 62 => ⟨S16x16x144x256, .bf16⟩
  | 63 => ⟨S65536x128, .bf16⟩
  | 64 => ⟨S16x16x128x2048, .bf16⟩
  | 65 => ⟨S65536x2048, .f32⟩
  | 66 => ⟨S65536x2048, .f32⟩
  | 67 => ⟨S_, .f32⟩
  | 68 => ⟨S65536x2048, .f32⟩
  | 69 => ⟨S65536x2048, .f32⟩
  | 70 => ⟨S_, .f32⟩
  | 71 => ⟨S65536x2048, .f32⟩
  | 72 => ⟨S65536x2048, .f32⟩
  | 73 => ⟨S65536x2048, .f32⟩
  | 74 => ⟨S65536x2048, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_3 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_4 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_5 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_cst_7 : Ref sig .tc := ⟨.hbm, 89, rfl⟩
abbrev main_v74 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_9 : Ref sig .tc := ⟨.hbm, 119, rfl⟩
abbrev main_v102 : Ref sig .tc := ⟨.hbm, 120, rfl⟩
abbrev main_v103 : Ref sig .tc := ⟨.hbm, 121, rfl⟩
abbrev main_cst_10 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_cst_11 : Ref sig .tc := ⟨.hbm, 143, rfl⟩
abbrev main_v124 : Ref sig .tc := ⟨.hbm, 144, rfl⟩
abbrev main_v125 : Ref sig .tc := ⟨.hbm, 145, rfl⟩
abbrev main_cst_12 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_cst_13 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_call0_v0 : Ref sig .tc := ⟨.hbm, 193, rfl⟩
abbrev main_call0_v1 : Ref sig .tc := ⟨.hbm, 194, rfl⟩
abbrev main_call0_cst : Ref sig .tc := ⟨.hbm, 195, rfl⟩
abbrev main_call0_v2 : Ref sig .tc := ⟨.hbm, 196, rfl⟩
abbrev main_call0_v3 : Ref sig .tc := ⟨.hbm, 197, rfl⟩
abbrev main_call0_cst_0 : Ref sig .tc := ⟨.hbm, 198, rfl⟩
abbrev main_call0_v4 : Ref sig .tc := ⟨.hbm, 199, rfl⟩
abbrev main_call0_v5 : Ref sig .tc := ⟨.hbm, 200, rfl⟩
abbrev main_v171 : Ref sig .tc := ⟨.hbm, 201, rfl⟩
abbrev main_v172 : Ref sig .tc := ⟨.hbm, 202, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x1024x4096 : Shape := ⟨3, ![16, 1024, 4096]⟩
abbrev S16x256x16384 : Shape := ⟨3, ![16, 256, 16384]⟩
abbrev S16x1x4096x128 : Shape := ⟨4, ![16, 1, 4096, 128]⟩
abbrev S16x4x1024x128 : Shape := ⟨4, ![16, 4, 1024, 128]⟩
abbrev S16x16x256x128 : Shape := ⟨4, ![16, 16, 256, 128]⟩
abbrev S65536x1024 : Shape := ⟨2, ![65536, 1024]⟩
abbrev S16x3072 : Shape := ⟨2, ![16, 3072]⟩
abbrev S1024x1024 : Shape := ⟨2, ![1024, 1024]⟩
abbrev S1024 : Shape := ⟨1, ![1024]⟩
abbrev S16x3x1024 : Shape := ⟨3, ![16, 3, 1024]⟩
abbrev S1x1024 : Shape := ⟨2, ![1, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S2x512x512 : Shape := ⟨3, ![2, 512, 512]⟩
abbrev S1x512x1024 : Shape := ⟨3, ![1, 512, 1024]⟩
abbrev S1x128x4096 : Shape := ⟨3, ![1, 128, 4096]⟩
abbrev S1x32x16384 : Shape := ⟨3, ![1, 32, 16384]⟩
abbrev S1x1x512x128 : Shape := ⟨4, ![1, 1, 512, 128]⟩
abbrev S1x4x128x128 : Shape := ⟨4, ![1, 4, 128, 128]⟩
abbrev S1x16x32x128 : Shape := ⟨4, ![1, 16, 32, 128]⟩
abbrev S512x1024 : Shape := ⟨2, ![512, 1024]⟩
abbrev S1x3x1024 : Shape := ⟨3, ![1, 3, 1024]⟩
abbrev S3x512x128 : Shape := ⟨3, ![3, 512, 128]⟩
abbrev S512x128 : Shape := ⟨2, ![512, 128]⟩
abbrev S1x512x128 : Shape := ⟨3, ![1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x128x1024 : Shape := ⟨3, ![1, 128, 1024]⟩
abbrev S128x1024 : Shape := ⟨2, ![128, 1024]⟩
abbrev S1x1x32x128 : Shape := ⟨4, ![1, 1, 32, 128]⟩
abbrev S32x128 : Shape := ⟨2, ![32, 128]⟩
abbrev S1x32x128 : Shape := ⟨3, ![1, 32, 128]⟩
abbrev S1x32x1024 : Shape := ⟨3, ![1, 32, 1024]⟩
abbrev S32x1024 : Shape := ⟨2, ![32, 1024]⟩
abbrev S1x1x1024 : Shape := ⟨3, ![1, 1, 1024]⟩

abbrev nBuf : Space → Nat
  | .hbm => 120
  | .vmem => 25
  | .smem => 0
  | _ => 0

abbrev bufTy : (tb : Table) → Fin (tcTables nBuf tb) → BufTy
  | .hbm, ⟨0, _⟩ => ⟨S16x4096x1024, .bf16⟩
  | .hbm, ⟨1, _⟩ => ⟨S16x1024x4096, .bf16⟩
  | .hbm, ⟨2, _⟩ => ⟨S16x256x16384, .bf16⟩
  | .hbm, ⟨3, _⟩ => ⟨S16x1x4096x128, .f32⟩
  | .hbm, ⟨4, _⟩ => ⟨S16x4x1024x128, .f32⟩
  | .hbm, ⟨5, _⟩ => ⟨S16x16x256x128, .f32⟩
  | .hbm, ⟨6, _⟩ => ⟨S65536x1024, .bf16⟩
  | .hbm, ⟨7, _⟩ => ⟨S65536x1024, .f32⟩
  | .hbm, ⟨8, _⟩ => ⟨S16x3072, .f32⟩
  | .hbm, ⟨9, _⟩ => ⟨S1024x1024, .f32⟩
  | .hbm, ⟨10, _⟩ => ⟨S1024, .f32⟩
  | .hbm, ⟨11, _⟩ => ⟨S16x3x1024, .f32⟩
  | .hbm, ⟨12, _⟩ => ⟨S1024x1024, .bf16⟩
  | .hbm, ⟨13, _⟩ => ⟨S1x1024, .f32⟩
  | .hbm, ⟨14, _⟩ => ⟨S512, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S_, .i32⟩
  | .hbm, ⟨30, _⟩ => ⟨S_, .i1⟩
  | .hbm, ⟨31, _⟩ => ⟨S512, .i1⟩
  | .hbm, ⟨32, _⟩ => ⟨S512, .i1⟩
  | .hbm, ⟨33, _⟩ => ⟨S512, .i1⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S512, .i32⟩
  | .hbm, ⟨49, _⟩ => ⟨S512, .i32⟩
  | .hbm, ⟨50, _⟩ => ⟨S_, .i32⟩
  | .hbm, ⟨51, _⟩ => ⟨S512, .i32⟩
  | .hbm, ⟨52, _⟩ => ⟨S512, .i1⟩
  | .hbm, ⟨53, _⟩ => ⟨S512, .i1⟩
  | .hbm, ⟨54, _⟩ => ⟨S_, .i32⟩
  | .hbm, ⟨55, _⟩ => ⟨S512, .i32⟩
  | .hbm, ⟨56, _⟩ => ⟨S512, .i32⟩
  | .hbm, ⟨57, _⟩ => ⟨S512, .i32⟩
  | .hbm, ⟨58, _⟩ => ⟨S512, .i32⟩
  | .hbm, ⟨59, _⟩ => ⟨S512x1, .i32⟩
  | .hbm, ⟨60, _⟩ => ⟨S1x512, .i32⟩
  | .hbm, ⟨61, _⟩ => ⟨S512x512, .i32⟩
  | .hbm, ⟨62, _⟩ => ⟨S512x512, .i32⟩
  | .hbm, ⟨63, _⟩ => ⟨S512x512, .i1⟩
  | .hbm, ⟨64, _⟩ => ⟨S512x512, .bf16⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S_, .i32⟩
  | .hbm, ⟨74, _⟩ => ⟨S512, .i32⟩
  | .hbm, ⟨75, _⟩ => ⟨S512, .i1⟩
  | .hbm, ⟨76, _⟩ => ⟨S_, .i32⟩
  | .hbm, ⟨77, _⟩ => ⟨S512, .i32⟩
  | .hbm, ⟨78, _⟩ => ⟨S512, .i1⟩
  | .hbm, ⟨79, _⟩ => ⟨S_, .i32⟩
  | .hbm, ⟨80, _⟩ => ⟨S_, .i1⟩
  | .hbm, ⟨81, _⟩ => ⟨S512, .i1⟩
  | .hbm, ⟨82, _⟩ => ⟨S512, .i1⟩
  | .hbm, ⟨83, _⟩ => ⟨S512, .i1⟩
  | .hbm, ⟨84, _⟩ => ⟨S512, .i32⟩
  | .hbm, ⟨85, _⟩ => ⟨S512, .i32⟩
  | .hbm, ⟨86, _⟩ => ⟨S512, .i32⟩
  | .hbm, ⟨87, _⟩ => ⟨S_, .i32⟩
  | .hbm, ⟨88, _⟩ => ⟨S512, .i32⟩
  | .hbm, ⟨89, _⟩ => ⟨S512, .i32⟩
  | .hbm, ⟨90, _⟩ => ⟨S_, .i32⟩
  | .hbm, ⟨91, _⟩ => ⟨S_, .i32⟩
  | .hbm, ⟨92, _⟩ => ⟨S512, .i32⟩
  | .hbm, ⟨93, _⟩ => ⟨S512, .i32⟩
  | .hbm, ⟨94, _⟩ => ⟨S512, .i32⟩
  | .hbm, ⟨95, _⟩ => ⟨S_, .i32⟩
  | .hbm, ⟨96, _⟩ => ⟨S512, .i32⟩
  | .hbm, ⟨97, _⟩ => ⟨S512, .i1⟩
  | .hbm, ⟨98, _⟩ => ⟨S512, .i32⟩
  | .hbm, ⟨99, _⟩ => ⟨S512, .i32⟩
  | .hbm, ⟨100, _⟩ => ⟨S_, .i32⟩
  | .hbm, ⟨101, _⟩ => ⟨S512, .i32⟩
  | .hbm, ⟨102, _⟩ => ⟨S512, .i1⟩
  | .hbm, ⟨103, _⟩ => ⟨S512, .i1⟩
  | .hbm, ⟨104, _⟩ => ⟨S_, .i32⟩
  | .hbm, ⟨105, _⟩ => ⟨S512, .i32⟩
  | .hbm, ⟨106, _⟩ => ⟨S512, .i32⟩
  | .hbm, ⟨107, _⟩ => ⟨S512, .i32⟩
  | .hbm, ⟨108, _⟩ => ⟨S512, .i32⟩
  | .hbm, ⟨109, _⟩ => ⟨S512x1, .i32⟩
  | .hbm, ⟨110, _⟩ => ⟨S1x512, .i32⟩
  | .hbm, ⟨111, _⟩ => ⟨S512x512, .i32⟩
  | .hbm, ⟨112, _⟩ => ⟨S512x512, .i32⟩
  | .hbm, ⟨113, _⟩ => ⟨S512x512, .i1⟩
  | .hbm, ⟨114, _⟩ => ⟨S512x512, .bf16⟩
  | .hbm, ⟨115, _⟩ => ⟨S1x512x512, .bf16⟩
  | .hbm, ⟨116, _⟩ => ⟨S1x512x512, .bf16⟩
  | .hbm, ⟨117, _⟩ => ⟨S2x512x512, .bf16⟩
  | .hbm, ⟨118, _⟩ => ⟨S2x512x512, .bf16⟩
  | .hbm, ⟨119, _⟩ => ⟨S65536x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x32x16384, .bf16⟩
  | .local _ .vmem, ⟨5, _⟩ => ⟨S1x32x16384, .bf16⟩
  | .local _ .vmem, ⟨6, _⟩ => ⟨S1x1x512x128, .f32⟩
  | .local _ .vmem, ⟨7, _⟩ => ⟨S1x1x512x128, .f32⟩
  | .local _ .vmem, ⟨8, _⟩ => ⟨S1x4x128x128, .f32⟩
  | .local _ .vmem, ⟨9, _⟩ => ⟨S1x4x128x128, .f32⟩
  | .local _ .vmem, ⟨10, _⟩ => ⟨S1x16x32x128, .f32⟩
  | .local _ .vmem, ⟨11, _⟩ => ⟨S1x16x32x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x3x1024, .f32⟩
  | .local _ .vmem, ⟨17, _⟩ => ⟨S1x3x1024, .f32⟩
  | .local _ .vmem, ⟨18, _⟩ => ⟨S1024x1024, .bf16⟩
  | .local _ .vmem, ⟨19, _⟩ => ⟨S1x1024, .f32⟩
  | .local _ .vmem, ⟨20, _⟩ => ⟨S2x512x512, .bf16⟩
  | .local _ .vmem, ⟨21, _⟩ => ⟨S512x1024, .f32⟩
  | .local _ .vmem, ⟨22, _⟩ => ⟨S512x1024, .f32⟩
  | .local _ .vmem, ⟨23, _⟩ => ⟨S3x512x128, .f32⟩
  | .local _ .vmem, ⟨24, _⟩ => ⟨S512x1024, .bf16⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v4 : Ref sig .tc := ⟨.hbm, 36, rfl⟩
abbrev main_c_0 : Ref sig .tc := ⟨.hbm, 37, rfl⟩
abbrev main_v5 : Ref sig .tc := ⟨.hbm, 38, rfl⟩
abbrev main_v6 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_c_2 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v15 : Ref sig .tc := ⟨.hbm, 86, rfl⟩
abbrev main_c_3 : Ref sig .tc := ⟨.hbm, 87, rfl⟩
abbrev main_v16 : Ref sig .tc := ⟨.hbm, 88, rfl⟩
abbrev main_v17 : Ref sig .tc := ⟨.hbm, 89, rfl⟩
abbrev main_c_4 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_c : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_0 : Ref sig .tc := ⟨.hbm, 104, rfl⟩
abbrev main_call3_v12 : Ref sig .tc := ⟨.hbm, 105, rfl⟩
abbrev main_call3_v13 : Ref sig .tc := ⟨.hbm, 106, rfl⟩
abbrev main_v18 : Ref sig .tc := ⟨.hbm, 107, rfl⟩
abbrev main_v19 : Ref sig .tc := ⟨.hbm, 108, rfl⟩
abbrev main_v20 : Ref sig .tc := ⟨.hbm, 109, rfl⟩
abbrev main_v21 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16x4096x1024 : Shape := ⟨3, ![16, 4096, 1024]⟩
abbrev S16x1024x4096 : Shape := ⟨3, ![16, 1024, 4096]⟩
abbrev S16x256x16384 : Shape := ⟨3, ![16, 256, 16384]⟩
abbrev S16x1x4096x128 : Shape := ⟨4, ![16, 1, 4096, 128]⟩
abbrev S16x4x1024x128 : Shape := ⟨4, ![16, 4, 1024, 128]⟩
abbrev S16x16x256x128 : Shape := ⟨4, ![16, 16, 256, 128]⟩
abbrev S65536x1024 : Shape := ⟨2, ![65536, 1024]⟩
abbrev S16x3072 : Shape := ⟨2, ![16, 3072]⟩
abbrev S1024x1024 : Shape := ⟨2, ![1024, 1024]⟩
abbrev S1024 : Shape := ⟨1, ![1024]⟩
abbrev S16x4096x8x128 : Shape := ⟨4, ![16, 4096, 8, 128]⟩
abbrev S16x4096x1x128 : Shape := ⟨4, ![16, 4096, 1, 128]⟩
abbrev S16x4096x128 : Shape := ⟨3, ![16, 4096, 128]⟩
abbrev S16x4096x8 : Shape := ⟨3, ![16, 4096, 8]⟩
abbrev S_ : Shape := ⟨0, ![]⟩
abbrev S16x1024x4x128 : Shape := ⟨4, ![16, 1024, 4, 128]⟩
abbrev S16x256x16x128 : Shape := ⟨4, ![16, 256, 16, 128]⟩
abbrev S16x4096x8x1 : Shape := ⟨4, ![16, 4096, 8, 1]⟩
abbrev S16x4096x8x3 : Shape := ⟨4, ![16, 4096, 8, 3]⟩
abbrev S1x16x4096x8x128 : Shape := ⟨5, ![1, 16, 4096, 8, 128]⟩
abbrev S3x16x4096x8x128 : Shape := ⟨5, ![3, 16, 4096, 8, 128]⟩
abbrev S16x1x3072 : Shape := ⟨3, ![16, 1, 3072]⟩
abbrev S16x1x1024 : Shape := ⟨3, ![16, 1, 1024]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x1024x4096, .bf16⟩
  | .hbm, ⟨2, _⟩ => ⟨S16x256x16384, .bf16⟩
  | .hbm, ⟨3, _⟩ => ⟨S16x1x4096x128, .f32⟩
  | .hbm, ⟨4, _⟩ => ⟨S16x4x1024x128, .f32⟩
  | .hbm, ⟨5, _⟩ => ⟨S16x16x256x128, .f32⟩
  | .hbm, ⟨6, _⟩ => ⟨S65536x1024, .bf16⟩
  | .hbm, ⟨7, _⟩ => ⟨S65536x1024, .f32⟩
  | .hbm, ⟨8, _⟩ => ⟨S16x3072, .f32⟩
  | .hbm, ⟨9, _⟩ => ⟨S1024x1024, .f32⟩
  | .hbm, ⟨10, _⟩ => ⟨S1024, .f32⟩
  | .hbm, ⟨11, _⟩ => ⟨S16x4096x1024, .f32⟩
  | .hbm, ⟨12, _⟩ => ⟨S16x4096x8x128, .f32⟩
  | .hbm, ⟨13, _⟩ => ⟨S16x1024x4096, .f32⟩
  | .hbm, ⟨14, _⟩ => ⟨S16x4096x8x128, .f32⟩
  | .hbm, ⟨15, _⟩ => ⟨S16x256x16384, .f32⟩
  | .hbm, ⟨16, _⟩ => ⟨S16x4096x8x128, .f32⟩
  | .hbm, ⟨17, _⟩ => ⟨S16x4096x1x128, .f32⟩
  | .hbm, ⟨18, _⟩ => ⟨S16x4096x128, .f32⟩
  | .hbm, ⟨19, _⟩ => ⟨S16x4096x8, .f32⟩
  | .hbm, ⟨20, _⟩ => ⟨S_, .f32⟩
  | .hbm, ⟨21, _⟩ => ⟨S_, .f32⟩
  | .hbm, ⟨22, _⟩ => ⟨S16x4096x8, .f32⟩
  | .hbm, ⟨23, _⟩ => ⟨S16x4096x8, .f32⟩
  | .hbm, ⟨24, _⟩ => ⟨S16x1024x4x128, .f32⟩
  | .hbm, ⟨25, _⟩ => ⟨S16x4096x128, .f32⟩
  | .hbm, ⟨26, _⟩ => ⟨S16x4096x8, .f32⟩
  | .hbm, ⟨27, _⟩ => ⟨S_, .f32⟩
  | .hbm, ⟨28, _⟩ => ⟨S_, .f32⟩
  | .hbm, ⟨29, _⟩ => ⟨S16x4096x8, .f32⟩
  | .hbm, ⟨30, _⟩ => ⟨S16x4096x8, .f32⟩
  | .hbm, ⟨31, _⟩ => ⟨S16x256x16x128, .f32⟩
  | .hbm, ⟨32, _⟩ => ⟨S16x4096x128, .f32⟩
  | .hbm, ⟨33, _⟩ => ⟨S16x4096x8, .f32⟩
  | .hbm, ⟨34, _⟩ => ⟨S_, .f32⟩
  | .hbm, ⟨35, _⟩ => ⟨S_, .f32⟩
  | .hbm, ⟨36, _⟩ => ⟨S16x4096x8, .f32⟩
  | .hbm, ⟨37, _⟩ => ⟨S16x4096x8, .f32⟩
  | .hbm, ⟨38, _⟩ => ⟨S16x4096x8x1, .f32⟩
  | .hbm, ⟨39, _⟩ => ⟨S16x4096x8x1, .f32⟩
  | .hbm, ⟨40, _⟩ => ⟨S16x4096x8x1, .f32⟩
  | .hbm, ⟨41, _⟩ => ⟨S16x4096x8x3, .f32⟩
  | .hbm, ⟨42, _⟩ => ⟨S_, .f32⟩
  | .hbm, ⟨43, _⟩ => ⟨S16x4096x8, .f32⟩
  | .hbm, ⟨44, _⟩ => ⟨S_, .f32⟩
  | .hbm, ⟨45, _⟩ => ⟨S16x4096x8, .f32⟩
  | .hbm, ⟨46, _⟩ => ⟨S16x4096x8, .f32⟩
  | .hbm, ⟨47, _⟩ => ⟨S16x4096x8x1, .f32⟩
  | .hbm, ⟨48, _⟩ => ⟨S16x4096x8x3, .f32⟩
  | .hbm, ⟨49, _⟩ => ⟨S16x4096x8x3, .f32⟩
  | .hbm, ⟨50, _⟩ => ⟨S16x4096x8x3, .f32⟩
  | .hbm, ⟨51, _⟩ => ⟨S_, .f32⟩
  | .hbm, ⟨52, _⟩ => ⟨S16x4096x8, .f32⟩
  | .hbm, ⟨53, _⟩ => ⟨S16x4096x8x1, .f32⟩
  | .hbm, ⟨54, _⟩ => ⟨S16x4096x8x3, .f32⟩
  | .hbm, ⟨55, _⟩ => ⟨S16x4096x8x3, .f32⟩
  | .hbm, ⟨56, _⟩ => ⟨S1x16x4096x8x128, .f32⟩
  | .hbm, ⟨57, _⟩ => ⟨S1x16x4096x8x128, .f32⟩
  | .hbm, ⟨58, _⟩ => ⟨S1x16x4096x8x128, .f32⟩
  | .hbm, ⟨59, _⟩ => ⟨S3x16x4096x8x128, .f32⟩
  | .hbm, ⟨60, _⟩ => ⟨S16x4096x8x128, .f32⟩
  | .hbm, ⟨61, _⟩ => ⟨S16x4096x1024, .f32⟩
  | .hbm, ⟨62, _⟩ => ⟨S65536x1024, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S16x1x3072, .f32⟩
  | .hbm, ⟨67, _⟩ => ⟨S16x1x1024, .f32⟩
  | .hbm, ⟨68, _⟩ => ⟨S16x1x1024, .f32⟩
  | .hbm, ⟨69, _⟩ => ⟨S16x1x1024, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | .hbm, ⟨74, _⟩ => ⟨S16x4096x1024, .f32⟩
  | .hbm, ⟨75, _⟩ => ⟨S_, .f32⟩
  | .hbm, ⟨76, _⟩ => ⟨S16x4096, .f32⟩
  | .hbm, ⟨77, _⟩ => ⟨S16x4096x1, .f32⟩
  | .hbm, ⟨78, _⟩ => ⟨S_, .f32⟩
  | .hbm, ⟨79, _⟩ => ⟨S16x4096x1, .f32⟩
  | .hbm, ⟨80, _⟩ => ⟨S16x4096x1, .f32⟩
  | .hbm, ⟨81, _⟩ => ⟨S_, .f32⟩
  | .hbm, ⟨82, _⟩ => ⟨S16x4096x1, .f32⟩
  | .hbm, ⟨83, _⟩ => ⟨S16x4096x1, .f32⟩
  | .hbm, ⟨84, _⟩ => ⟨S16x4096x1, .f32⟩
  | .hbm, ⟨85, _⟩ => ⟨S16x4096x1024, .f32⟩
  | .hbm, ⟨86, _⟩ => ⟨S16x4096x1024, .f32⟩
  | .hbm, ⟨87, _⟩ => ⟨S1x1x1024, .f32⟩
  | .hbm, ⟨88, _⟩ => ⟨S16x4096x1024, .f32⟩
  | .hbm, ⟨89, _⟩ => ⟨S16x4096x1024, .f32⟩
  | .hbm, ⟨90, _⟩ => ⟨S65536x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Proof.Softmax.lean ====
/-
One row of the band attention, as plain mathematics.

A row has finitely many positions. Position `i` carries a real score `r i`, a mask bit `mask i` and a value
`v i` (any extended real). One side works in base 2: it takes the masked scores `x i` (`r i`, or `⊥` where the
mask is off), subtracts their maximum, raises 2 to the difference, and divides the weighted sum of the values
by the sum of the weights at the end. The other side works in base e with the scores times `log 2`, forms the
log-sum-exp first and sums `exp (score − lse) · v`. `out_eq` says that both give the same weighted mean, `lse_eq`
that both give the same log-sum-exp in base 2.
-/
module

public import Idealize.ShloMosaic.PureOps.Ideal
public import Idealize.ShloMosaic.Lib.Pointwise

@[expose] public section

noncomputable section

open Idealize.ShloMosaic

namespace Cert.Band

variable {ι : Type} [Fintype ι]

/-- A product with a nonnegative real distributes over a finite sum of extended reals. -/
theorem coe_mul_sum (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- A finite sum of reals, read in the extended reals. -/
theorem sum_coe (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Everything both sides are made of: the maximum `M`, the weights `w`, and their positive sum. -/
theorem weights (r : ι → ℝ) (mask : ι → Prop) [DecidablePred mask] (hm : ∃ i, mask i) (x s : ι → EReal)
    (hx : ∀ i, x i = if mask i then (r i : EReal) else ⊥)
    (hs : ∀ i, s i = if mask i then (r i : EReal) * (Real.log 2 : ℝ) else ⊥) :
    ∃ (M : ℝ) (w : ι → ℝ), Finset.univ.sup x = M ∧ Finset.univ.sup s = ((M * Real.log 2 : ℝ) : EReal)
      ∧ (∀ i, 0 ≤ w i) ∧ 0 < ∑ i, w i ∧ (∀ i, Ideal.exp2 (x i - M) = w i)
      ∧ ∀ (c : ℝ) (i), Ideal.exp (s i - ((c + M * Real.log 2 : ℝ) : EReal)) = ((w i * Real.exp (-c) : ℝ) : EReal) := by
  have hl : 0 < Real.log 2 := Real.log_pos (by norm_num)
  obtain ⟨i₀, h₀⟩ := hm
  obtain ⟨j, -, hj⟩ := Finset.exists_mem_eq_sup Finset.univ ⟨i₀, Finset.mem_univ _⟩ x
  have hmj : mask j := by
    by_contra hn
    have h1 : x i₀ ≤ Finset.univ.sup x := Finset.le_sup (Finset.mem_univ _)
    rw [hj, hx j, if_neg hn, hx i₀, if_pos h₀] at h1
    exact absurd h1 (by simp)
  have hxj : x j = r j := by rw [hx, if_pos hmj]
  have hle : ∀ i, mask i → r i ≤ r j := fun i hi => by
    have h1 : x i ≤ Finset.univ.sup x := Finset.le_sup (Finset.mem_univ _)
    rw [hj, hxj, hx i, if_pos hi] at h1
    exact EReal.coe_le_coe_iff.mp h1
  refine ⟨r j, fun i => if mask i then Real.rpow 2 (r i - r j) else 0, hj.trans hxj, ?_, ?_, ?_, ?_, ?_⟩
  · refine le_antisymm (Finset.sup_le fun i _ => ?_) ?_
    · rw [hs]
      split_ifs with hi
      · rw [← EReal.coe_mul]
        exact EReal.coe_le_coe_iff.mpr (mul_le_mul_of_nonneg_right (hle i hi) hl.le)
      · exact bot_le
    · have h1 : s j ≤ Finset.univ.sup s := Finset.le_sup (Finset.mem_univ _)
      rwa [hs, if_pos hmj, ← EReal.coe_mul] at h1
  · intro i
    dsimp only
    split_ifs
    · exact Real.rpow_nonneg (by norm_num) _
    · exact le_rfl
  · refine Finset.sum_pos' (fun i _ => ?_) ⟨j, Finset.mem_univ _, ?_⟩
    · split_ifs
      · exact Real.rpow_nonneg (by norm_num) _
      · exact le_rfl
    · rw [if_pos hmj]
      exact Real.rpow_pos_of_pos (by norm_num) _
  · intro i
    dsimp only
    rw [hx]
    split_ifs
    · rw [← EReal.coe_sub, Ideal.exp2_coe]
    · rw [EReal.bot_sub, Ideal.exp2_bot, EReal.coe_zero]
  · intro c i
    dsimp only
    rw [hs]
    split_ifs
    · rw [← EReal.coe_mul, ← EReal.coe_sub, Ideal.exp_coe]
      congr 1
      show _ = (2 : ℝ) ^ (r i - r j) * _
      rw [Real.rpow_def_of_pos (by norm_num : (0 : ℝ) < 2), ← Real.exp_add]
      congr 1
      ring
    · rw [EReal.bot_sub, Ideal.exp_bot, zero_mul, EReal.coe_zero]

/-- The log-sum-exp of the natural scores is real: the logarithm of the weights' sum over the maximum. -/
theorem lse_real (r : ι → ℝ) (mask : ι → Prop) [DecidablePred mask] (hm : ∃ i, mask i) (x s : ι → EReal)
    (hx : ∀ i, x i = if mask i then (r i : EReal) else ⊥)
    (hs : ∀ i, s i = if mask i then (r i : EReal) * (Real.log 2 : ℝ) else ⊥) :
    ∃ (M : ℝ) (w : ι → ℝ), Finset.univ.sup x = M ∧ (∀ i, 0 ≤ w i) ∧ 0 < ∑ i, w i
      ∧ (∀ i, Ideal.exp2 (x i - Finset.univ.sup x) = w i)
      ∧ Ideal.log (∑ i, Ideal.exp (s i - Finset.univ.sup s)) + Finset.univ.sup s
          = ((Real.log (∑ i, w i) + M * Real.log 2 : ℝ) : EReal)
      ∧ ∀ i, Ideal.exp (s i - ((Real.log (∑ i, w i) + M * Real.log 2 : ℝ) : EReal))
          = ((w i * (∑ i, w i)⁻¹ : ℝ) : EReal) := by
  obtain ⟨M, w, hM, hM', h0, hpos, h2, he⟩ := weights r mask hm x s hx hs
  refine ⟨M, w, hM, h0, hpos, fun i => by rw [hM, h2], ?_, fun i => ?_⟩
  · have h1 : ∀ i, Ideal.exp (s i - Finset.univ.sup s) = (w i : EReal) := fun i => by
      have := he 0 i
      rwa [zero_add, neg_zero, Real.exp_zero, mul_one, ← hM'] at this
    rw [Finset.sum_congr rfl fun i _ => h1 i, sum_coe, Ideal.log_coe, if_neg (not_le.mpr hpos), hM', ← EReal.coe_add]
  · rw [he, Real.exp_neg, Real.exp_log hpos]

/-- The weighted mean: dividing at the end in base 2 is weighting by `exp (score − lse)` in base e. -/
theorem out_eq (r : ι → ℝ) (mask : ι → Prop) [DecidablePred mask] (hm : ∃ i, mask i) (x s v : ι → EReal)
    (hx : ∀ i, x i = if mask i then (r i : EReal) else ⊥)
    (hs : ∀ i, s i = if mask i then (r i : EReal) * (Real.log 2 : ℝ) else ⊥) :
    Ideal.div (∑ i, Ideal.exp2 (x i - Finset.univ.sup x) * v i) (∑ i, Ideal.exp2 (x i - Finset.univ.sup x))
      = ∑ i, Ideal.exp (s i - (Ideal.log (∑ i, Ideal.exp (s i - Finset.univ.sup s)) + Finset.univ.sup s)) * v i := by
  obtain ⟨M, w, -, h0, hpos, h2, hL, he⟩ := lse_real r mask hm x s hx hs
  have hne : ((∑ i, w i : ℝ) : EReal) ≠ 0 := by
    rw [← EReal.coe_zero]
    exact fun h => hpos.ne' (EReal.coe_eq_coe_iff.mp h)
  have hr : ∀ i, Ideal.exp (s i - (Ideal.log (∑ i, Ideal.exp (s i - Finset.univ.sup s)) + Finset.univ.sup s)) * v i
      = (((∑ i, w i)⁻¹ : ℝ) : EReal) * ((w i : EReal) * v i) := fun i => by
    rw [hL, he, mul_comm (w i), EReal.coe_mul, mul_assoc]
  rw [Finset.sum_congr rfl fun i _ => hr i, ← coe_mul_sum _ _ (inv_nonneg.mpr hpos.le),
    Finset.sum_congr rfl fun i _ => h2 i, sum_coe, Ideal.div, if_neg hne, EReal.coe_inv, mul_comm]
  congr 1
  exact Finset.sum_congr rfl fun i _ => by rw [h2]

/-- The log-sum-exp in base 2: the maximum plus the base-2 logarithm of the weights' sum is the natural
    log-sum-exp over `log 2`. -/
theorem lse_eq (r : ι → ℝ) (mask : ι → Prop) [DecidablePred mask] (hm : ∃ i, mask i) (x s : ι → EReal)
    (hx : ∀ i, x i = if mask i then (r i : EReal) else ⊥)
    (hs : ∀ i, s i = if mask i then (r i : EReal) * (Real.log 2 : ℝ) else ⊥) :
    Finset.univ.sup x + Ideal.log (∑ i, Ideal.exp2 (x i - Finset.univ.sup x)) * (((Real.log 2)⁻¹ : ℝ) : EReal)
      = Ideal.div (Ideal.log (∑ i, Ideal.exp (s i - Finset.univ.sup s)) + Finset.univ.sup s) ((Real.log 2 : ℝ) : EReal) := by
  obtain ⟨M, w, hM, h0, hpos, h2, hL, -⟩ := lse_real r mask hm x s hx hs
  have hl : Real.log 2 ≠ 0 := (Real.log_pos (by norm_num)).ne'
  have hl' : ((Real.log 2 : ℝ) : EReal) ≠ 0 := by
    rw [← EReal.coe_zero]
    exact fun h => hl (EReal.coe_eq_coe_iff.mp h)
  rw [hL, Finset.sum_congr rfl fun i _ => h2 i, sum_coe, hM, Ideal.log_coe, if_neg (not_le.mpr hpos),
    Ideal.div, if_neg hl', ← EReal.coe_inv, ← EReal.coe_mul, ← EReal.coe_mul, ← EReal.coe_add]
  congr 1
  field_simp
  ring

end Cert.Band

end
-- ==== Proof.Spec.lean ====
/-
Banded attention, stated index by index over plain functions of a row and a lane.

Rows come in blocks of 128. A query row of block `j` meets 256 key rows, the 128 of block `j - 1` (zeros when `j = 0`)
and the 128 of block `j`; it sees those of the last 128 positions, itself included. Lanes come in heads of 128.
`outAt` and `lseAt` are what the kernel forms (base 2); `refOut` and `refLse` the textbook form (base `e`, on scores
multiplied by `log 2`); `out_agree` and `lse_agree` say that they are equal when queries and keys are finite.
-/
module

public import proofs.«01_k».proof.Proof.Softmax
public import Idealize.ShloMosaic.Lib.Pointwise

@[expose] public section

noncomputable section

open Idealize.ShloMosaic

namespace Cert.Band

theorem ninf_eq : Ideal.ofBits FTy.f32 0xFF800000#32 = (⊥ : EReal) := by
  simp [Ideal.ofBits, Ideal.ieee]

theorem two_eq : Ideal.ofBits FTy.f32 0x40000000#32 = ((2 : ℝ) : EReal) := by
  simp [Ideal.ofBits, Ideal.ieee]
  rw [← EReal.coe_mul]
  norm_num

theorem ln2_eq : Ideal.log (Ideal.ofBits FTy.f32 0x40000000#32) = ((Real.log 2 : ℝ) : EReal) := by
  rw [two_eq, Ideal.log_coe, if_neg (by norm_num)]

/-- The band: query row `r` sees row `c` of the 256. A row of the block before needs a block before (`0 < j`). -/
def On (j : ℕ) (r : Fin 128) (c : Fin 256) : Prop :=
  if c.val < 128 then r.val ≤ c.val ∧ 0 < j else c.val - 128 ≤ r.val

instance (j : ℕ) (r : Fin 128) (c : Fin 256) : Decidable (On j r c) := by unfold On; infer_instance

/-- A query row sees itself. -/
theorem on_self (j : ℕ) (r : Fin 128) : ∃ c, On j r c :=
  ⟨⟨r.val + 128, by omega⟩, by simp [On]⟩

/-- The weighted mean that a row of scores `x` gives the values `v`, weights in base 2. -/
def mean (x v : Fin 256 → EReal) : EReal :=
  Ideal.div (∑ c, Ideal.exp2 (x c - Finset.univ.sup x) * v c) (∑ c, Ideal.exp2 (x c - Finset.univ.sup x))

/-- The log-sum-exp of a row of scores, in base 2. -/
def lse2 (x : Fin 256 → EReal) : EReal :=
  Finset.univ.sup x + Ideal.log (∑ c, Ideal.exp2 (x c - Finset.univ.sup x)) * (((Real.log 2)⁻¹ : ℝ) : EReal)

/-- Row `c` of the 256 rows that block `j` meets, at lane `l`. -/
def keyAt (K : ℕ → ℕ → EReal) (j : ℕ) (c : Fin 256) (l : ℕ) : EReal :=
  if c.val < 128 then (if j = 0 then 0 else K ((j - 1) * 128 + c.val) l) else K (j * 128 + (c.val - 128)) l

/-- The product of query row `r` of block `j` with row `c`, over the head that starts at lane `o`. -/
def dotAt (Q K : ℕ → ℕ → EReal) (j o : ℕ) (r : Fin 128) (c : Fin 256) : EReal :=
  ∑ e : Fin 128, Q (j * 128 + r.val) (o + e.val) * keyAt K j c (o + e.val)

/-- The masked scores. -/
def scoreAt (Q K : ℕ → ℕ → EReal) (j o : ℕ) (r : Fin 128) (c : Fin 256) : EReal :=
  if On j r c then dotAt Q K j o r c else ⊥

/-- The masked scores multiplied by `log 2`. -/
def naturalAt (Q K : ℕ → ℕ → EReal) (j o : ℕ) (r : Fin 128) (c : Fin 256) : EReal :=
  if On j r c then dotAt Q K j o r c * (Real.log 2 : ℝ) else ⊥

/-- The block of a row and its place in it. -/
def rowOf (n : ℕ) : Fin 128 := ⟨n % 128, Nat.mod_lt _ (by norm_num)⟩

/-- The attention output at row `n`, lane `l`. -/
def outAt (Q K V : ℕ → ℕ → EReal) (n l : ℕ) : EReal :=
  mean (scoreAt Q K (n / 128) (l / 128 * 128) (rowOf n)) (fun c => keyAt V (n / 128) c l)

/-- The base-2 log-sum-exp at row `n`, for the head that starts at lane `o`. -/
def lseAt (Q K : ℕ → ℕ → EReal) (n o : ℕ) : EReal := lse2 (scoreAt Q K (n / 128) o (rowOf n))

/-- The log-sum-exp of a row of scores, in base `e`. -/
def lseE (s : Fin 256 → EReal) : EReal := Ideal.log (∑ c, Ideal.exp (s c - Finset.univ.sup s)) + Finset.univ.sup s

/-- The textbook output: the weights `exp (s - lse)`, then the weighted sum. -/
def refOut (Q K V : ℕ → ℕ → EReal) (n l : ℕ) : EReal :=
  ∑ c, Ideal.exp (naturalAt Q K (n / 128) (l / 128 * 128) (rowOf n) c - lseE (naturalAt Q K (n / 128) (l / 128 * 128) (rowOf n)))
    * keyAt V (n / 128) c l

/-- The textbook log-sum-exp, divided by `log 2`. -/
def refLse (Q K : ℕ → ℕ → EReal) (n o : ℕ) : EReal :=
  Ideal.div (lseE (naturalAt Q K (n / 128) o (rowOf n))) ((Real.log 2 : ℝ) : EReal)

/-- Batch `b` of an array as a function of a row and a lane. -/
def rd {B n L : ℕ} [NeZero n] [NeZero L] (A : (⟨3, ![B, n, L]⟩ : Shape).Idx → EReal) (b : Fin B) : ℕ → ℕ → EReal :=
  fun r l => A (ix3 b (Fin.ofNat n r) (Fin.ofNat L l))

/-- Every entry is a real number. -/
def Finite (X : ℕ → ℕ → EReal) : Prop := ∀ n l, ∃ r : ℝ, X n l = (r : EReal)

theorem Finite.keyAt {K : ℕ → ℕ → EReal} (hK : Finite K) (j : ℕ) (c : Fin 256) (l : ℕ) : ∃ r : ℝ, keyAt K j c l = (r : EReal) := by
  unfold Band.keyAt
  split
  · split
    · exact ⟨0, rfl⟩
    · exact hK _ _
  · exact hK _ _

theorem dot_real {Q K : ℕ → ℕ → EReal} (hQ : Finite Q) (hK : Finite K) (j o : ℕ) (r : Fin 128) (c : Fin 256) :
    ∃ x : ℝ, dotAt Q K j o r c = (x : EReal) := by
  choose a ha using hQ
  choose b hb using fun l => hK.keyAt j c l
  refine ⟨∑ e : Fin 128, a (j * 128 + r.val) (o + e.val) * b (o + e.val), ?_⟩
  unfold dotAt
  rw [← sum_coe]
  exact Finset.sum_congr rfl fun e _ => by rw [ha, hb, EReal.coe_mul]

theorem out_agree {Q K : ℕ → ℕ → EReal} (hQ : Finite Q) (hK : Finite K) (V : ℕ → ℕ → EReal) (n l : ℕ) :
    outAt Q K V n l = refOut Q K V n l := by
  choose x hx using dot_real hQ hK (n / 128) (l / 128 * 128) (rowOf n)
  refine out_eq x (On (n / 128) (rowOf n)) (on_self _ _) _ (naturalAt Q K (n / 128) (l / 128 * 128) (rowOf n)) _ (fun c => ?_) fun c => ?_
  · unfold scoreAt; rw [hx]
  · unfold naturalAt; rw [hx]

theorem lse_agree {Q K : ℕ → ℕ → EReal} (hQ : Finite Q) (hK : Finite K) (n o : ℕ) :
    lseAt Q K n o = refLse Q K n o := by
  choose x hx using dot_real hQ hK (n / 128) o (rowOf n)
  refine lse_eq x (On (n / 128) (rowOf n)) (on_self _ _) _ (naturalAt Q K (n / 128) o (rowOf n)) (fun c => ?_) fun c => ?_
  · unfold scoreAt; rw [hx]
  · unfold naturalAt; rw [hx]

end Cert.Band

end
-- ==== Proof.Head.lean ====
/-
One attention head of the kernel's body, read at an index.

For a block of 128 query rows the body forms, per head, the products of the query rows with 256 key rows (128 of
the block before, 128 of the block itself), adds a bias that is `0` where the band lets a position through and `⊥`
elsewhere, and takes the base-2 softmax of each row over the 256 positions. The body repeats these operations for
eight heads; the repetitions are the same terms at other offsets, so one reading serves all of them.

`keyRow` names the 256 rows and `score` a row's masked scores; a row leaves its `mean` and its `lse2`.
-/
module

public import proofs.«01_k».proof.Proof.Gen.KernelIdeal.Skeleton
public import proofs.«01_k».proof.Proof.Spec
public import Idealize.ShloMosaic.Lib.Pipeline.ValueKit
public import Idealize.ShloMosaic.Lib.Pointwise
public import Idealize.ShloMosaic.Lib.WordArith
public import Idealize.ShloMosaic.Lib.WordCmp

@[expose] public section

set_option maxRecDepth 16384

noncomputable section

open Idealize.ShloMosaic Idealize.ShloMosaic.TcCoe Idealize.SL.Sem
open Cert.KernelIdeal Cert.KernelIdeal.Gen

namespace Cert.Band

/-- Row `c` of the 256 key (or value) rows, lane `l`: a row of the block before, then a row of the block itself. -/
def keyRow (p : Vec Ideal S128x1024 .bf16) (k : Vec Ideal S1x128x1024 .bf16) (c : Fin 256) (l : Fin 1024) : EReal :=
  if h : c.val < 128 then p (ix2 ⟨c.val, h⟩ l) else k (ix3 0 ⟨c.val - 128, by omega⟩ l)

/-- The lane `e` of head `h`. -/
def lane (h : Fin 8) (e : Fin 128) : Fin 1024 := ⟨128 * h.val + e.val, by omega⟩

/-- The product of query row `r` and key row `c`, at head `h`. -/
def dotRow (q : Vec Ideal S1x128x1024 .bf16) (p : Vec Ideal S128x1024 .bf16) (k : Vec Ideal S1x128x1024 .bf16)
    (h : Fin 8) (r : Fin 128) (c : Fin 256) : EReal :=
  ∑ e : Fin 128, q (ix3 0 r (lane h e)) * keyRow p k c (lane h e)

/-- The masked scores of query row `r` at head `h`. -/
def score (j : ℕ) (q : Vec Ideal S1x128x1024 .bf16) (p : Vec Ideal S128x1024 .bf16) (k : Vec Ideal S1x128x1024 .bf16)
    (h : Fin 8) (r : Fin 128) (c : Fin 256) : EReal :=
  if On j r c then dotRow q p k h r c else ⊥

theorem mask_eq : Named.named (F := Ideal) κ "mask" (φ := .f32) 0xF149F2CA#32 = (⊥ : EReal) := rfl

theorem inv_ln2_eq : Named.named (F := Ideal) κ "inv_ln2" (φ := .f32) 0x3FB8AA3B#32 = (((Real.log 2)⁻¹ : ℝ) : EReal) := rfl

/-- The bias: `0` on the band, `⊥` off it. -/
theorem bias_apply (i : grid0.Coords) (r : Fin 128) (c : Fin 256) :
    k0_pay4 (F := Ideal) i (ix2 r c) = if On (i 2).val r c then 0 else ⊥ := by
  have hj : (i 2).val < 2 := (i 2).isLt
  pointwise [k0_pay4, hlo_ix]
  rw [mask_eq]
  unfold On
  generalize (i 2).val = j at hj
  have := c.isLt
  have := r.isLt
  split
  · rw [WordCmp.cmpi_sge_ofNat (by omega) (by omega), show (0#32 : BitVec 32) = BitVec.ofNat 32 0 from rfl,
      WordCmp.cmpi_sgt_ofNat (by omega) (by omega), WordCmp.andi_ofBool]
    exact (WordCmp.select_ofBool _ _ _).trans (by simp only [Bool.and_eq_true, decide_eq_true_eq])
  · rw [WordCmp.cmpi_sle_ofNat (by omega) (by omega)]
    exact (WordCmp.select_ofBool _ _ _).trans (by simp only [decide_eq_true_eq])

/-- A head's scores from its slices, at any bias: the form every reading below meets. -/
theorem scores_eq (j : ℕ) (bias : FVec Ideal S128x256 .f32) (hb : ∀ r c, bias (ix2 r c) = if On j r c then 0 else ⊥)
    (K : FVec Ideal S256x128 .bf16) (q' : Vec Ideal S1x128x128 .bf16)
    (q : Vec Ideal S1x128x1024 .bf16) (p : Vec Ideal S128x1024 .bf16) (k : Vec Ideal S1x128x1024 .bf16) (h : Fin 8)
    (hK : ∀ c e, K (ix2 c e) = keyRow p k c (lane h e)) (hq : ∀ r e, q' (ix3 0 r e) = q (ix3 0 r (lane h e)))
    (r : Fin 128) (c : Fin 256) :
    (∑ e, q' (ix3 0 r e) * K (ix2 c e) + bias (ix2 r c) : EReal) = score j q p k h r c := by
  rw [hb]
  unfold score dotRow
  split
  · rw [add_zero]
    exact Finset.sum_congr rfl fun e _ => by rw [hK, hq]
  · rw [EReal.add_bot]

/-- A head's output rows: the weighted means. -/
theorem head_out (j : ℕ) (bias : FVec Ideal S128x256 .f32) (hb : ∀ r c, bias (ix2 r c) = if On j r c then 0 else ⊥)
    (K V : FVec Ideal S256x128 .bf16) (q' : Vec Ideal S1x128x128 .bf16)
    (q : Vec Ideal S1x128x1024 .bf16) (p : Vec Ideal S128x1024 .bf16) (k : Vec Ideal S1x128x1024 .bf16)
    (vp : Vec Ideal S128x1024 .bf16) (v : Vec Ideal S1x128x1024 .bf16) (h : Fin 8)
    (hK : ∀ c e, K (ix2 c e) = keyRow p k c (lane h e)) (hV : ∀ c e, V (ix2 c e) = keyRow vp v c (lane h e))
    (hq : ∀ r e, q' (ix3 0 r e) = q (ix3 0 r (lane h e))) (r d : Fin 128) :
    k0_pay60 bias k0_pay5 K V q' (ix3 0 r d) = mean (score j q p k h r) (fun c => keyRow vp v c (lane h d)) := by
  pointwise [k0_pay60, k0_pay59, k0_pay58, k0_pay57, k0_pay56, k0_pay5]
  rw [ninf_eq]
  simp only [scores_eq j bias hb K q' q p k h hK hq, hV]
  rfl

/-- A head's log-sum-exp column. -/
theorem head_lse (j : ℕ) (bias : FVec Ideal S128x256 .f32) (hb : ∀ r c, bias (ix2 r c) = if On j r c then 0 else ⊥)
    (K V : FVec Ideal S256x128 .bf16) (q' : Vec Ideal S1x128x128 .bf16)
    (q : Vec Ideal S1x128x1024 .bf16) (p : Vec Ideal S128x1024 .bf16) (k : Vec Ideal S1x128x1024 .bf16) (h : Fin 8)
    (hK : ∀ c e, K (ix2 c e) = keyRow p k c (lane h e))
    (hq : ∀ r e, q' (ix3 0 r e) = q (ix3 0 r (lane h e))) (r : Fin 128) :
    (k0_pay57 bias K q' (ix2 r 0) + Ideal.log (k0_pay59 bias k0_pay5 K V q' (ix2 r 0)) * Named.named (F := Ideal) κ "inv_ln2" (φ := .f32) 0x3FB8AA3B#32 : EReal)
      = lse2 (score j q p k h r) := by
  rw [inv_ln2_eq]
  pointwise [k0_pay59, k0_pay58, k0_pay57, k0_pay56, k0_pay5]
  rw [ninf_eq]
  simp only [scores_eq j bias hb K q' q p k h hK hq]
  rfl

/-- The 256 rows of a head, stacked from the slices of the two blocks. -/
theorem rows_apply (p : Vec Ideal S128x1024 .bf16) (k : Vec Ideal S1x128x1024 .bf16) (h : Fin 8) (o : ℕ) (ho : o = 128 * h.val)
    (inb2 : ∀ a, (![0, o] : Fin 2 → ℕ) a + (![128, 128] : Fin 2 → ℕ) a ≤ S128x1024.size a)
    (inb3 : ∀ a, (![0, 0, o] : Fin 3 → ℕ) a + (![1, 128, 128] : Fin 3 → ℕ) a ≤ S1x128x1024.size a) (c : Fin 256) (e : Fin 128) :
    k0_pay54 (View.ld p (Rect.unit ![0, o] ![128, 128] inb2)) (View.ld k (Rect.unit ![0, 0, o] ![1, 128, 128] inb3)) (ix2 c e)
      = keyRow p k c (lane h e) := by
  subst ho
  pointwise [k0_pay54]
  unfold keyRow lane
  rfl

end Cert.Band

end
-- ==== Proof.Body.lean ====
/-
What one grid point leaves: the output block, the log-sum-exp block and the two carried blocks.

The body stores the output block in eight pieces, one per head, and all eight are pieces of ONE function of the
block's index (`outBlock`); the log-sum-exp block is one store whose first eight lanes hold the heads' columns
(`lseBlock`). Two scratches carry the key and value blocks to the next point; at the first block of a sequence they
are zeroed first. `kept` is what a point finds in a scratch: zeros there, otherwise the block of the point before.
-/
module

public import proofs.«01_k».proof.Proof.Head
public import proofs.«01_k».proof.Proof.Gen.KernelIdeal.Value
public import Idealize.ShloMosaic.Lib.Pipeline.ReadBack
public import Idealize.ShloMosaic.Lib.Ring

@[expose] public section

set_option maxRecDepth 16384

noncomputable section

open Idealize.ShloMosaic Idealize.ShloMosaic.TcCoe Idealize.SL.Sem
open Cert.KernelIdeal Cert.KernelIdeal.Gen

namespace Cert.Band

/-- The head a lane belongs to. -/
def headOf (l : Fin 1024) : Fin 8 := ⟨l.val / 128, by omega⟩

/-- The output block: each lane of a row is its head's weighted mean of that lane's values. -/
def outBlock (j : ℕ) (q : Vec Ideal S1x128x1024 .bf16) (kp : Vec Ideal S128x1024 .bf16) (k : Vec Ideal S1x128x1024 .bf16)
    (vp : Vec Ideal S128x1024 .bf16) (v : Vec Ideal S1x128x1024 .bf16) : Vec Ideal S1x128x1024 .bf16 :=
  fun y => mean (score j q kp k (headOf (y 2)) (y 1)) (fun c => keyRow vp v c (y 2))

/-- The log-sum-exp block: lane `d < 8` of a row holds head `d`'s, the other lanes `0`. -/
def lseBlock (j : ℕ) (q : Vec Ideal S1x128x1024 .bf16) (kp : Vec Ideal S128x1024 .bf16) (k : Vec Ideal S1x128x1024 .bf16) :
    Vec Ideal S1x1x128x128 .f32 :=
  fun y => if h : (y 3).val < 8 then lse2 (score j q kp k ⟨(y 3).val, h⟩ (y 2)) else 0

section Pieces

variable (i : grid0.Coords) (q k v : Vec Ideal S1x128x1024 .bf16) (kp vp : Vec Ideal S128x1024 .bf16)

/-- One head's stored piece is a piece of the output block. -/
theorem piece (h : Fin 8) (o : ℕ) (ho : o = 128 * h.val)
    (inb2 : ∀ a, (![0, o] : Fin 2 → ℕ) a + (![128, 128] : Fin 2 → ℕ) a ≤ S128x1024.size a)
    (inb3 : ∀ a, (![0, 0, o] : Fin 3 → ℕ) a + (![1, 128, 128] : Fin 3 → ℕ) a ≤ S1x128x1024.size a)
    (x : (Rect.unit (s := S1x128x1024) ![0, 0, o] ![1, 128, 128] inb3).shape.Idx) :
    k0_pay60 (k0_pay4 i) k0_pay5
        (k0_pay54 (View.ld kp (Rect.unit ![0, o] ![128, 128] inb2)) (View.ld k (Rect.unit ![0, 0, o] ![1, 128, 128] inb3)))
        (k0_pay54 (View.ld vp (Rect.unit ![0, o] ![128, 128] inb2)) (View.ld v (Rect.unit ![0, 0, o] ![1, 128, 128] inb3)))
        (View.ld q (Rect.unit ![0, 0, o] ![1, 128, 128] inb3)) x
      = outBlock (i 2).val q kp k vp v ((Rect.unit (s := S1x128x1024) ![0, 0, o] ![1, 128, 128] inb3).emb x) := by
  obtain ⟨r, d, rfl⟩ : ∃ r d, x = ix3 (0 : Fin 1) r d := ⟨x 1, x 2, by funext a; fin_cases a <;> first | rfl | exact Fin.ext (Nat.lt_one_iff.mp (x 0).isLt)⟩
  rw [head_out (i 2).val (k0_pay4 i) (bias_apply i) _ _ _ q kp k vp v h
    (fun c e => rows_apply kp k h o ho inb2 inb3 c e) (fun c e => rows_apply vp v h o ho inb2 inb3 c e)
    (fun r e => by subst ho; unfold lane; pointwise)]
  subst ho
  unfold outBlock
  have e2 : (Rect.unit (s := S1x128x1024) ![0, 0, 128 * h.val] ![1, 128, 128] inb3).emb (ix3 (0 : Fin 1) r d) 2 = lane h d := by
    apply Fin.ext; simp [lane, Rect.emb, Rect.unit]
  have e1 : (Rect.unit (s := S1x128x1024) ![0, 0, 128 * h.val] ![1, 128, 128] inb3).emb (ix3 (0 : Fin 1) r d) 1 = r := by
    apply Fin.ext; simp [Rect.emb, Rect.unit]
  have e3 : headOf (lane h d) = h := by apply Fin.ext; simp only [headOf, lane]; omega
  rw [e1, e2, e3]

/-- One head's log-sum-exp column. -/
theorem col (h : Fin 8) (o : ℕ) (ho : o = 128 * h.val)
    (inb2 : ∀ a, (![0, o] : Fin 2 → ℕ) a + (![128, 128] : Fin 2 → ℕ) a ≤ S128x1024.size a)
    (inb3 : ∀ a, (![0, 0, o] : Fin 3 → ℕ) a + (![1, 128, 128] : Fin 3 → ℕ) a ≤ S1x128x1024.size a) (r : Fin 128) :
    k0_pay40 (k0_pay4 i) k0_pay5 (View.ld kp (Rect.unit ![0, o] ![128, 128] inb2)) (View.ld k (Rect.unit ![0, 0, o] ![1, 128, 128] inb3))
        (View.ld vp (Rect.unit ![0, o] ![128, 128] inb2)) (View.ld v (Rect.unit ![0, 0, o] ![1, 128, 128] inb3))
        (View.ld q (Rect.unit ![0, 0, o] ![1, 128, 128] inb3)) (ix2 r 0)
      = lse2 (score (i 2).val q kp k h r) := by
  refine Eq.trans ?_ (head_lse (i 2).val (k0_pay4 i) (bias_apply i) _
    (k0_pay54 (View.ld vp (Rect.unit ![0, o] ![128, 128] inb2)) (View.ld v (Rect.unit ![0, 0, o] ![1, 128, 128] inb3)))
    (View.ld q (Rect.unit ![0, 0, o] ![1, 128, 128] inb3)) q kp k h
    (fun c e => rows_apply kp k h o ho inb2 inb3 c e) (fun r e => by subst ho; unfold lane; pointwise) r)
  pointwise [k0_pay40]
  rfl

/-! The other columns are the same operations; the print cuts them at other places. -/

section Columns

variable (b : FVec Ideal S128x256 .f32) (p p' : Vec Ideal S128x128 .bf16) (x x' y : Vec Ideal S1x128x128 .bf16)

theorem col0 : k0_pay13 k0_pay5 (k0_pay6 p' x') (k0_pay7 i p x y) (k0_pay8 i p x y) (k0_pay9 i p x y)
    = k0_pay40 (k0_pay4 i) k0_pay5 p x p' x' y := rfl
theorem col1 : k0_pay19 (k0_pay15 b p x y) (k0_pay17 b k0_pay5 p x p' x' y) = k0_pay40 b k0_pay5 p x p' x' y := rfl
theorem col2 : k0_pay26 (k0_pay21 b p x y) (k0_pay23 b k0_pay5 p x p' x' y) = k0_pay40 b k0_pay5 p x p' x' y := rfl
theorem col3 : k0_pay34 (k0_pay28 b p x y) (k0_pay32 b k0_pay5 p x p' x' y) k0_pay33 = k0_pay40 b k0_pay5 p x p' x' y := rfl
theorem col5 : k0_pay46 b k0_pay5 p x p' x' y = k0_pay40 b k0_pay5 p x p' x' y := rfl
theorem col6 : k0_pay53 b k0_pay5 (k0_pay47 p x) p' x' y = k0_pay40 b k0_pay5 p x p' x' y := rfl
theorem rows7 : k0_pay55 p x = k0_pay54 p x := rfl

end Columns

/-- The log-sum-exp store: lane by lane the columns given, the last head's formed here. -/
theorem lanes (w0 w1 w2 w3 w4 w5 w6 : FVec Ideal S128x1 .f32) (bias : FVec Ideal S128x256 .f32) (K V : FVec Ideal S256x128 .bf16)
    (q' : Vec Ideal S1x128x128 .bf16) (f : Fin 8 → EReal) (r : Fin 128)
    (h0 : w0 (ix2 r 0) = f 0) (h1 : w1 (ix2 r 0) = f 1) (h2 : w2 (ix2 r 0) = f 2) (h3 : w3 (ix2 r 0) = f 3)
    (h4 : w4 (ix2 r 0) = f 4) (h5 : w5 (ix2 r 0) = f 5) (h6 : w6 (ix2 r 0) = f 6)
    (h7 : (k0_pay57 bias K q' (ix2 r 0) + Ideal.log (k0_pay59 bias k0_pay5 K V q' (ix2 r 0)) * Named.named (F := Ideal) κ "inv_ln2" (φ := .f32) 0x3FB8AA3B#32 : EReal) = f 7)
    (d : Fin 128) :
    k0_pay61 bias k0_pay5 w0 w1 w2 w3 w4 w5 w6 K V q' (ix4 0 0 r d) = if h : d.val < 8 then f ⟨d.val, h⟩ else 0 := by
  pointwise [k0_pay61]
  obtain ⟨d, hd⟩ := d
  by_cases h : d < 8
  · interval_cases d
    · exact h0
    · exact h1
    · exact h2
    · exact h3
    · exact h4
    · exact h5
    · exact h6
    · exact h7
  · simp only [h, dite_false]
    iterate 8 rw [dif_neg (by omega)]

/-- The log-sum-exp store of a point, as the run leaves it. -/
theorem lse_store : k0_pay61 (k0_pay4 i) k0_pay5
      (k0_pay13 k0_pay5 (k0_pay6 (View.ld vp (Rect.unit ![0, 0] ![128, 128] inb_S128x1024_S128x128_0_0)) (View.ld v (Rect.unit ![0, 0, 0] ![1, 128, 128] inb_S1x128x1024_S1x128x128_0_0_0)))
        (k0_pay7 i (View.ld kp (Rect.unit ![0, 0] ![128, 128] inb_S128x1024_S128x128_0_0)) (View.ld k (Rect.unit ![0, 0, 0] ![1, 128, 128] inb_S1x128x1024_S1x128x128_0_0_0)) (View.ld q (Rect.unit ![0, 0, 0] ![1, 128, 128] inb_S1x128x1024_S1x128x128_0_0_0)))
        (k0_pay8 i (View.ld kp (Rect.unit ![0, 0] ![128, 128] inb_S128x1024_S128x128_0_0)) (View.ld k (Rect.unit ![0, 0, 0] ![1, 128, 128] inb_S1x128x1024_S1x128x128_0_0_0)) (View.ld q (Rect.unit ![0, 0, 0] ![1, 128, 128] inb_S1x128x1024_S1x128x128_0_0_0)))
        (k0_pay9 i (View.ld kp (Rect.unit ![0, 0] ![128, 128] inb_S128x1024_S128x128_0_0)) (View.ld k (Rect.unit ![0, 0, 0] ![1, 128, 128] inb_S1x128x1024_S1x128x128_0_0_0)) (View.ld q (Rect.unit ![0, 0, 0] ![1, 128, 128] inb_S1x128x1024_S1x128x128_0_0_0))))
      (k0_pay19 (k0_pay15 (k0_pay4 i) (View.ld kp (Rect.unit ![0, 128] ![128, 128] inb_S128x1024_S128x128_0_128)) (View.ld k (Rect.unit ![0, 0, 128] ![1, 128, 128] inb_S1x128x1024_S1x128x128_0_0_128)) (View.ld q (Rect.unit ![0, 0, 128] ![1, 128, 128] inb_S1x128x1024_S1x128x128_0_0_128)))
        (k0_pay17 (k0_pay4 i) k0_pay5 (View.ld kp (Rect.unit ![0, 128] ![128, 128] inb_S128x1024_S128x128_0_128)) (View.ld k (Rect.unit ![0, 0, 128] ![1, 128, 128] inb_S1x128x1024_S1x128x128_0_0_128)) (View.ld vp (Rect.unit ![0, 128] ![128, 128] inb_S128x1024_S128x128_0_128)) (View.ld v (Rect.unit ![0, 0, 128] ![1, 128, 128] inb_S1x128x1024_S1x128x128_0_0_128)) (View.ld q (Rect.unit ![0, 0, 128] ![1, 128, 128] inb_S1x128x1024_S1x128x128_0_0_128))))
      (k0_pay26 (k0_pay21 (k0_pay4 i) (View.ld kp (Rect.unit ![0, 256] ![128, 128] inb_S128x1024_S128x128_0_256)) (View.ld k (Rect.unit ![0, 0, 256] ![1, 128, 128] inb_S1x128x1024_S1x128x128_0_0_256)) (View.ld q (Rect.unit ![0, 0, 256] ![1, 128, 128] inb_S1x128x1024_S1x128x128_0_0_256)))
        (k0_pay23 (k0_pay4 i) k0_pay5 (View.ld kp (Rect.unit ![0, 256] ![128, 128] inb_S128x1024_S128x128_0_256)) (View.ld k (Rect.unit ![0, 0, 256] ![1, 128, 128] inb_S1x128x1024_S1x128x128_0_0_256)) (View.ld vp (Rect.unit ![0, 256] ![128, 128] inb_S128x1024_S128x128_0_256)) (View.ld v (Rect.unit ![0, 0, 256] ![1, 128, 128] inb_S1x128x1024_S1x128x128_0_0_256)) (View.ld q (Rect.unit ![0, 0, 256] ![1, 128, 128] inb_S1x128x1024_S1x128x128_0_0_256))))
      (k0_pay34 (k0_pay28 (k0_pay4 i) (View.ld kp (Rect.unit ![0, 384] ![128, 128] inb_S128x1024_S128x128_0_384)) (View.ld k (Rect.unit ![0, 0, 384] ![1, 128, 128] inb_S1x128x1024_S1x128x128_0_0_384)) (View.ld q (Rect.unit ![0, 0, 384] ![1, 128, 128] inb_S1x128x1024_S1x128x128_0_0_384)))
        (k0_pay32 (k0_pay4 i) k0_pay5 (View.ld kp (Rect.unit ![0, 384] ![128, 128] inb_S128x1024_S128x128_0_384)) (View.ld k (Rect.unit ![0, 0, 384] ![1, 128, 128] inb_S1x128x1024_S1x128x128_0_0_384)) (View.ld vp (Rect.unit ![0, 384] ![128, 128] inb_S128x1024_S128x128_0_384)) (View.ld v (Rect.unit ![0, 0, 384] ![1, 128, 128] inb_S1x128x1024_S1x128x128_0_0_384)) (View.ld q (Rect.unit ![0, 0, 384] ![1, 128, 128] inb_S1x128x1024_S1x128x128_0_0_384))) k0_pay33)
      (k0_pay40 (k0_pay4 i) k0_pay5 (View.ld kp (Rect.unit ![0, 512] ![128, 128] inb_S128x1024_S128x128_0_512)) (View.ld k (Rect.unit ![0, 0, 512] ![1, 128, 128] inb_S1x128x1024_S1x128x128_0_0_512)) (View.ld vp (Rect.unit ![0, 512] ![128, 128] inb_S128x1024_S128x128_0_512)) (View.ld v (Rect.unit ![0, 0, 512] ![1, 128, 128] inb_S1x128x1024_S1x128x128_0_0_512)) (View.ld q (Rect.unit ![0, 0, 512] ![1, 128, 128] inb_S1x128x1024_S1x128x128_0_0_512)))
      (k0_pay46 (k0_pay4 i) k0_pay5 (View.ld kp (Rect.unit ![0, 640] ![128, 128] inb_S128x1024_S128x128_0_640)) (View.ld k (Rect.unit ![0, 0, 640] ![1, 128, 128] inb_S1x128x1024_S1x128x128_0_0_640)) (View.ld vp (Rect.unit ![0, 640] ![128, 128] inb_S128x1024_S128x128_0_640)) (View.ld v (Rect.unit ![0, 0, 640] ![1, 128, 128] inb_S1x128x1024_S1x128x128_0_0_640)) (View.ld q (Rect.unit ![0, 0, 640] ![1, 128, 128] inb_S1x128x1024_S1x128x128_0_0_640)))
      (k0_pay53 (k0_pay4 i) k0_pay5 (k0_pay47 (View.ld kp (Rect.unit ![0, 768] ![128, 128] inb_S128x1024_S128x128_0_768)) (View.ld k (Rect.unit ![0, 0, 768] ![1, 128, 128] inb_S1x128x1024_S1x128x128_0_0_768))) (View.ld vp (Rect.unit ![0, 768] ![128, 128] inb_S128x1024_S128x128_0_768)) (View.ld v (Rect.unit ![0, 0, 768] ![1, 128, 128] inb_S1x128x1024_S1x128x128_0_0_768)) (View.ld q (Rect.unit ![0, 0, 768] ![1, 128, 128] inb_S1x128x1024_S1x128x128_0_0_768)))
      (k0_pay54 (View.ld kp (Rect.unit ![0, 896] ![128, 128] inb_S128x1024_S128x128_0_896)) (View.ld k (Rect.unit ![0, 0, 896] ![1, 128, 128] inb_S1x128x1024_S1x128x128_0_0_896))) (k0_pay55 (View.ld vp (Rect.unit ![0, 896] ![128, 128] inb_S128x1024_S128x128_0_896)) (View.ld v (Rect.unit ![0, 0, 896] ![1, 128, 128] inb_S1x128x1024_S1x128x128_0_0_896))) (View.ld q (Rect.unit ![0, 0, 896] ![1, 128, 128] inb_S1x128x1024_S1x128x128_0_0_896))
    = lseBlock (i 2).val q kp k := by
  rw [col0, col1, col2, col3, col5, col6, rows7]
  funext y
  obtain ⟨r, d, rfl⟩ : ∃ r d, y = ix4 (0 : Fin 1) (0 : Fin 1) r d :=
    ⟨y 2, y 3, by funext a; fin_cases a <;> first | rfl | exact Fin.ext (Nat.lt_one_iff.mp (y 0).isLt) | exact Fin.ext (Nat.lt_one_iff.mp (y 1).isLt)⟩
  rw [lanes _ _ _ _ _ _ _ _ _ _ _ (fun h => lse2 (score (i 2).val q kp k h r)) r
    (col i q k v kp vp 0 0 rfl _ _ r) (col i q k v kp vp 1 128 rfl _ _ r) (col i q k v kp vp 2 256 rfl _ _ r) (col i q k v kp vp 3 384 rfl _ _ r)
    (col i q k v kp vp 4 512 rfl _ _ r) (col i q k v kp vp 5 640 rfl _ _ r) (col i q k v kp vp 6 768 rfl _ _ r)
    (head_lse (i 2).val (k0_pay4 i) (bias_apply i) _ _ _ q kp k 7 (fun c e => rows_apply kp k 7 896 rfl _ _ c e)
      (fun r e => by unfold lane; pointwise) r)]
  rfl

end Pieces

variable (m : (ℓ : Loc nD τ sig) → Buf (Elt Ideal) ℓ)

theorem out_B (c : Dev nD) (t : Fin cfg0.N) (h0 : ¬t.val % 2 = 0) :
    (outsAt0 m c t.val t.isLt).1 = outBlock (grid0.coords t 2).val (iblk m c 0 t) (outsAt0 m c (t.val - 1) (by omega)).2.2.1 (iblk m c 1 t)
      (outsAt0 m c (t.val - 1) (by omega)).2.2.2 (iblk m c 2 t) := by
  rw [outsAt0_B m c t h0]
  dsimp only
  frame_out
  rw [read_unread_whole, read_unread_whole]
  funext y
  refine View.canon_append_of_piecesOf (outBlock (grid0.coords t 2).val (iblk m c 0 t) _ (iblk m c 1 t) _ (iblk m c 2 t)) []
    [_, _, _, _, _, _, _, _] ?_ y (View.cover_of_tiledL _ ![1, 128, 128] (by sl_kernel_rfl) y)
  exact ⟨piece _ _ _ _ _ _ 7 896 rfl _ _, piece _ _ _ _ _ _ 6 768 rfl _ _, piece _ _ _ _ _ _ 5 640 rfl _ _,
     piece _ _ _ _ _ _ 4 512 rfl _ _, piece _ _ _ _ _ _ 3 384 rfl _ _, piece _ _ _ _ _ _ 2 256 rfl _ _,
     piece _ _ _ _ _ _ 1 128 rfl _ _, piece _ _ _ _ _ _ 0 0 rfl _ _, trivial⟩

theorem lse_B (c : Dev nD) (t : Fin cfg0.N) (h0 : ¬t.val % 2 = 0) :
    (outsAt0 m c t.val t.isLt).2.1 = lseBlock (grid0.coords t 2).val (iblk m c 0 t) (outsAt0 m c (t.val - 1) (by omega)).2.2.1 (iblk m c 1 t) := by
  rw [outsAt0_B m c t h0]
  dsimp only
  frame_out
  rw [read_unread_whole, read_unread_whole]
  exact lse_store (grid0.coords t) (iblk m c 0 t) (iblk m c 1 t) (iblk m c 2 t) _ _

theorem out_A (c : Dev nD) (t : Fin cfg0.N) (h0 : t.val % 2 = 0) :
    (outsAt0 m c t.val t.isLt).1 = outBlock (grid0.coords t 2).val (iblk m c 0 t) (k0_pay2 (F := Ideal)) (iblk m c 1 t) (k0_pay3 (F := Ideal)) (iblk m c 2 t) := by
  rw [outsAt0_A m c t h0]
  dsimp only
  frame_out
  simp (disch := decide) only [View.readCov_fill]
  funext y
  refine View.canon_append_of_piecesOf (outBlock (grid0.coords t 2).val (iblk m c 0 t) _ (iblk m c 1 t) _ (iblk m c 2 t)) []
    [_, _, _, _, _, _, _, _] ?_ y (View.cover_of_tiledL _ ![1, 128, 128] (by sl_kernel_rfl) y)
  exact ⟨piece _ _ _ _ _ _ 7 896 rfl _ _, piece _ _ _ _ _ _ 6 768 rfl _ _, piece _ _ _ _ _ _ 5 640 rfl _ _,
     piece _ _ _ _ _ _ 4 512 rfl _ _, piece _ _ _ _ _ _ 3 384 rfl _ _, piece _ _ _ _ _ _ 2 256 rfl _ _,
     piece _ _ _ _ _ _ 1 128 rfl _ _, piece _ _ _ _ _ _ 0 0 rfl _ _, trivial⟩

theorem lse_A (c : Dev nD) (t : Fin cfg0.N) (h0 : t.val % 2 = 0) :
    (outsAt0 m c t.val t.isLt).2.1 = lseBlock (grid0.coords t 2).val (iblk m c 0 t) (k0_pay2 (F := Ideal)) (iblk m c 1 t) := by
  rw [outsAt0_A m c t h0]
  dsimp only
  frame_out
  simp (disch := decide) only [View.readCov_fill]
  generalize k0_pay2 (F := Ideal) = kp
  generalize k0_pay3 (F := Ideal) = vp
  exact lse_store (grid0.coords t) (iblk m c 0 t) (iblk m c 1 t) (iblk m c 2 t) kp vp

/-- The key scratch after a point holds the point's key block. -/
theorem keys_after (c : Dev nD) (t : Fin cfg0.N) : (outsAt0 m c t.val t.isLt).2.2.1 = fun y => iblk m c 1 t (ix3 0 (y 0) (y 1)) := by
  by_cases h0 : t.val % 2 = 0
  · rw [outsAt0_A m c t h0]
    dsimp only
    frame_out
    funext y
    idx_vars y
    pointwise [k0_pay62]
  · rw [outsAt0_B m c t h0]
    dsimp only
    frame_out
    funext y
    idx_vars y
    pointwise [k0_pay62]

/-- The value scratch after a point holds the point's value block. -/
theorem values_after (c : Dev nD) (t : Fin cfg0.N) : (outsAt0 m c t.val t.isLt).2.2.2 = fun y => iblk m c 2 t (ix3 0 (y 0) (y 1)) := by
  by_cases h0 : t.val % 2 = 0
  · rw [outsAt0_A m c t h0]
    dsimp only
    frame_out
    funext y
    idx_vars y
    pointwise [k0_pay1]
  · rw [outsAt0_B m c t h0]
    dsimp only
    frame_out
    funext y
    idx_vars y
    pointwise [k0_pay1]

/-- What block `j` finds in a scratch that carries blocks, `w` the block of the point before. -/
def kept (j : ℕ) (w : Vec Ideal S1x128x1024 .bf16) : Vec Ideal S128x1024 .bf16 :=
  fun y => if j = 0 then 0 else w (ix3 0 (y 0) (y 1))

theorem kept_first (j : ℕ) (w : Vec Ideal S1x128x1024 .bf16) (h : j = 0) : kept j w = fun _ => 0 :=
  funext fun _ => if_pos h

theorem kept_later (j : ℕ) (w : Vec Ideal S1x128x1024 .bf16) (h : ¬j = 0) : kept j w = fun y => w (ix3 0 (y 0) (y 1)) :=
  funext fun _ => if_neg h

/-- The point before. -/
def before (t : Fin cfg0.N) : Fin cfg0.N := ⟨t.val - 1, by omega⟩

section Places

variable {Q K V : ℕ → ℕ → EReal} {q k v w w' : Vec Ideal S1x128x1024 .bf16} (j g : ℕ)

/-- The 256 rows, when the blocks are rows of an array: block `j` at lanes from `g`. -/
theorem keyRow_eq (hk : ∀ r l, k (ix3 0 r l) = K (j * 128 + r.val) (g + l.val))
    (hw : ¬j = 0 → ∀ r l, w (ix3 0 r l) = K ((j - 1) * 128 + r.val) (g + l.val)) (c : Fin 256) (l : Fin 1024) :
    keyRow (kept j w) k c l = keyAt K j c (g + l.val) := by
  unfold keyRow keyAt
  split
  · by_cases h : j = 0
    · rw [kept_first _ _ h, if_pos h]
    · rw [kept_later _ _ h, if_neg h]
      exact hw h _ _
  · exact hk _ _

theorem score_eq (hq : ∀ r l, q (ix3 0 r l) = Q (j * 128 + r.val) (g + l.val))
    (hk : ∀ r l, k (ix3 0 r l) = K (j * 128 + r.val) (g + l.val))
    (hw : ¬j = 0 → ∀ r l, w (ix3 0 r l) = K ((j - 1) * 128 + r.val) (g + l.val)) (h : Fin 8) (r : Fin 128) :
    score j q (kept j w) k h r = scoreAt Q K j (g + 128 * h.val) r := by
  funext c
  unfold score scoreAt dotRow dotAt
  congr 1
  refine Finset.sum_congr rfl fun e _ => ?_
  rw [hq, keyRow_eq j g hk hw]
  simp only [lane, Nat.add_assoc]

theorem rowOf_eq (r : Fin 128) : rowOf (j * 128 + r.val) = r := Fin.ext (by simp only [rowOf]; omega)

variable (hq : ∀ r l, q (ix3 0 r l) = Q (j * 128 + r.val) (g + l.val)) (hk : ∀ r l, k (ix3 0 r l) = K (j * 128 + r.val) (g + l.val))
  (hw : ¬j = 0 → ∀ r l, w (ix3 0 r l) = K ((j - 1) * 128 + r.val) (g + l.val))

include hq hk hw

theorem mean_eq (hg : g % 1024 = 0) (hv : ∀ r l, v (ix3 0 r l) = V (j * 128 + r.val) (g + l.val))
    (hw' : ¬j = 0 → ∀ r l, w' (ix3 0 r l) = V ((j - 1) * 128 + r.val) (g + l.val)) (r : Fin 128) (l : Fin 1024) :
    mean (score j q (kept j w) k (headOf l) r) (fun c => keyRow (kept j w') v c l) = outAt Q K V (j * 128 + r.val) (g + l.val) := by
  unfold outAt
  rw [score_eq j g hq hk hw, funext fun c => keyRow_eq j g hv hw' c l, rowOf_eq j r, show (j * 128 + r.val) / 128 = j by omega,
    show (g + l.val) / 128 * 128 = g + 128 * (headOf l).val by simp only [headOf]; omega]

theorem lse2_eq (h : Fin 8) (r : Fin 128) :
    lse2 (score j q (kept j w) k h r) = lseAt Q K (j * 128 + r.val) (g + 128 * h.val) := by
  unfold lseAt
  rw [score_eq j g hq hk hw, rowOf_eq j r, show (j * 128 + r.val) / 128 = j by omega]

theorem outBlock_eq (hg : g % 1024 = 0) (hv : ∀ r l, v (ix3 0 r l) = V (j * 128 + r.val) (g + l.val))
    (hw' : ¬j = 0 → ∀ r l, w' (ix3 0 r l) = V ((j - 1) * 128 + r.val) (g + l.val)) (y : S1x128x1024.Idx) :
    outBlock j q (kept j w) k (kept j w') v y = outAt Q K V (j * 128 + (y 1).val) (g + (y 2).val) :=
  mean_eq j g hq hk hw hg hv hw' (y 1) (y 2)

theorem lseBlock_eq (y : S1x1x128x128.Idx) :
    lseBlock j q (kept j w) k y = if (y 3).val < 8 then lseAt Q K (j * 128 + (y 2).val) (g + 128 * (y 3).val) else 0 := by
  unfold lseBlock
  split
  · exact lse2_eq j g hq hk hw ⟨(y 3).val, by assumption⟩ (y 2)
  · rfl

end Places

theorem zeros2 : (k0_pay2 (F := Ideal)) = fun _ => 0 := by
  funext y
  idx_vars y
  pointwise [k0_pay2]

theorem zeros3 : (k0_pay3 (F := Ideal)) = fun _ => 0 := by
  funext y
  idx_vars y
  pointwise [k0_pay3]

/-- The output block of every point. -/
theorem out_after (c : Dev nD) (t : Fin cfg0.N) :
    (outsAt0 m c t.val t.isLt).1 = outBlock (grid0.coords t 2).val (iblk m c 0 t) (kept (t.val % 2) (iblk m c 1 (before t))) (iblk m c 1 t)
      (kept (t.val % 2) (iblk m c 2 (before t))) (iblk m c 2 t) := by
  by_cases h0 : t.val % 2 = 0
  · rw [out_A m c t h0, zeros2, zeros3, kept_first _ _ h0, kept_first _ _ h0]
  · rw [out_B m c t h0, kept_later _ _ h0, kept_later _ _ h0, ← keys_after m c (before t), ← values_after m c (before t)]
    rfl

/-- The log-sum-exp block of every point. -/
theorem lse_after (c : Dev nD) (t : Fin cfg0.N) :
    (outsAt0 m c t.val t.isLt).2.1
      = lseBlock (grid0.coords t 2).val (iblk m c 0 t) (kept (t.val % 2) (iblk m c 1 (before t))) (iblk m c 1 t) := by
  by_cases h0 : t.val % 2 = 0
  · rw [lse_A m c t h0, zeros2, kept_first _ _ h0]
  · rw [lse_B m c t h0, kept_later _ _ h0, ← keys_after m c (before t)]
    rfl

end Cert.Band

end
-- ==== Proof.Array.lean ====
/-
The two arrays after the run.

Point `t` of the 512 is batch `t / 32`, lane group `t / 2 % 16` (one of the sixteen dilated phases) and row block
`t % 2`. Each point writes its own block of both results, so the arrays are read point by point.
-/
module

public import proofs.«01_k».proof.Proof.Body
public import Idealize.ShloMosaic.Lib.Pipeline.Covers

@[expose] public section

set_option maxRecDepth 16384

noncomputable section

open Idealize.ShloMosaic Idealize.ShloMosaic.TcCoe Idealize.SL.Sem
open Cert.KernelIdeal Cert.KernelIdeal.Gen

namespace Cert.Band

/-- The attention result. -/
def outArr (Q K V : Vec Ideal S16x256x16384 .bf16) : Vec Ideal S16x256x16384 .bf16 :=
  fun y => outAt (rd Q (y 0)) (rd K (y 0)) (rd V (y 0)) (y 1).val (y 2).val

/-- The log-sum-exp result: eight lanes of 128 are used, one per head. -/
def lseArr (Q K : Vec Ideal S16x256x16384 .bf16) : Vec Ideal S16x16x256x128 .f32 :=
  fun y => if (y 3).val < 8 then lseAt (rd Q (y 0)) (rd K (y 0)) (y 2).val ((y 1).val * 1024 + 128 * (y 3).val) else 0

theorem outArr_at (Q K V : Vec Ideal S16x256x16384 .bf16) (i : S16x256x16384.Idx) (b : Fin 16) (n l : ℕ)
    (h0 : (i 0).val = b.val) (h1 : (i 1).val = n) (h2 : (i 2).val = l) : outArr Q K V i = outAt (rd Q b) (rd K b) (rd V b) n l := by
  subst h1 h2
  obtain rfl : i 0 = b := Fin.ext h0
  rfl

theorem lseArr_at (Q K : Vec Ideal S16x256x16384 .bf16) (i : S16x16x256x128.Idx) (b : Fin 16) (g n d : ℕ)
    (h0 : (i 0).val = b.val) (h1 : (i 1).val = g) (h2 : (i 2).val = n) (h3 : (i 3).val = d) :
    lseArr Q K i = if d < 8 then lseAt (rd Q b) (rd K b) n (g * 1024 + 128 * d) else 0 := by
  subst h1 h2 h3
  obtain rfl : i 0 = b := Fin.ext h0
  rfl

variable (m : (ℓ : Loc nD τ sig) → Buf (Elt Ideal) ℓ)

theorem idx : ∀ t : Fin cfg0.N, win0_0.index t = ![t.val / 32, t.val % 2, t.val / 2 % 16]
    ∧ win0_1.index t = ![t.val / 32, t.val % 2, t.val / 2 % 16] ∧ win0_2.index t = ![t.val / 32, t.val % 2, t.val / 2 % 16]
    ∧ win0_3.index t = ![t.val / 32, t.val % 2, t.val / 2 % 16] ∧ win0_4.index t = ![t.val / 32, t.val / 2 % 16, t.val % 2, 0]
    ∧ t.val < 512 ∧ (grid0.coords t 2).val = t.val % 2 :=
  (by decide +kernel : ∀ t : Fin grid0.N, _)

/-- The batch of a point. -/
def batch (t : Fin cfg0.N) : Fin 16 := ⟨t.val / 32, by have := (idx t).2.2.2.2.2.1; omega⟩

theorem blk0 (c : Dev nD) (t : Fin cfg0.N) (r : Fin 128) (l : Fin 1024) :
    iblk m c 0 t (ix3 0 r l) = rd (m ((c : Thread nD τ).loc main_arg0)) (batch t) (t.val % 2 * 128 + r.val) (t.val / 2 % 16 * 1024 + l.val) := by
  have := (idx t).2.2.2.2.2.1
  unfold rd batch
  blk_ext [iblk, V, idx t] <;> simp only [Fin.val_ofNat] <;> omega

theorem blk1 (c : Dev nD) (t : Fin cfg0.N) (r : Fin 128) (l : Fin 1024) :
    iblk m c 1 t (ix3 0 r l) = rd (m ((c : Thread nD τ).loc main_arg1)) (batch t) (t.val % 2 * 128 + r.val) (t.val / 2 % 16 * 1024 + l.val) := by
  have := (idx t).2.2.2.2.2.1
  unfold rd batch
  blk_ext [iblk, V, idx t] <;> simp only [Fin.val_ofNat] <;> omega

theorem blk2 (c : Dev nD) (t : Fin cfg0.N) (r : Fin 128) (l : Fin 1024) :
    iblk m c 2 t (ix3 0 r l) = rd (m ((c : Thread nD τ).loc main_arg2)) (batch t) (t.val % 2 * 128 + r.val) (t.val / 2 % 16 * 1024 + l.val) := by
  have := (idx t).2.2.2.2.2.1
  unfold rd batch
  blk_ext [iblk, V, idx t] <;> simp only [Fin.val_ofNat] <;> omega

/-- At a later block, the point before is the block before, of the same batch and lanes. -/
theorem step (t : Fin cfg0.N) (h : ¬t.val % 2 = 0) :
    batch (before t) = batch t ∧ (before t).val % 2 = t.val % 2 - 1 ∧ (before t).val / 2 % 16 = t.val / 2 % 16 := by
  unfold batch before
  refine ⟨Fin.ext ?_, ?_, ?_⟩ <;> dsimp only <;> omega

theorem blk1_before (c : Dev nD) (t : Fin cfg0.N) (h : ¬t.val % 2 = 0) (r : Fin 128) (l : Fin 1024) :
    iblk m c 1 (before t) (ix3 0 r l)
      = rd (m ((c : Thread nD τ).loc main_arg1)) (batch t) ((t.val % 2 - 1) * 128 + r.val) (t.val / 2 % 16 * 1024 + l.val) := by
  obtain ⟨h0, h1, h2⟩ := step t h
  rw [blk1, h0, h1, h2]

theorem blk2_before (c : Dev nD) (t : Fin cfg0.N) (h : ¬t.val % 2 = 0) (r : Fin 128) (l : Fin 1024) :
    iblk m c 2 (before t) (ix3 0 r l)
      = rd (m ((c : Thread nD τ).loc main_arg2)) (batch t) ((t.val % 2 - 1) * 128 + r.val) (t.val / 2 % 16 * 1024 + l.val) := by
  obtain ⟨h0, h1, h2⟩ := step t h
  rw [blk2, h0, h1, h2]

/-- The attention array after the run. -/
theorem final_out (c : Dev nD) : (dats m 0 c).arrAt 3 cfg0.N
    = outArr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out_after m c t, (idx t).2.2.2.2.2.2]
  refine (outBlock_eq _ _ (blk0 m c t) (blk1 m c t) (blk1_before m c t) (by omega) (blk2 m c t) (blk2_before m c t) y).trans ?_
  refine (outArr_at _ _ _ _ (batch t) _ _ ?_ ?_ ?_).symm <;> blk_simp [idx t] <;> simp [batch]

/-- The log-sum-exp array after the run. -/
theorem final_lse (c : Dev nD) : (dats m 0 c).arrAt 4 cfg0.N
    = lseArr (m ((c : Thread nD τ).loc main_arg0)) (m ((c : Thread nD τ).loc main_arg1)) := by
  refine (dats m 0 c).arrAt_eq_of_covers 4 _ (by decide +kernel) fun t _ y => ?_
  blk_simp
  rw [after0_4, lse_after m c t, (idx t).2.2.2.2.2.2]
  refine (lseBlock_eq _ _ (blk0 m c t) (blk1 m c t) (blk1_before m c t) y).trans ?_
  refine (lseArr_at _ _ _ (batch t) (t.val / 2 % 16) _ _ ?_ ?_ ?_ ?_).symm <;> blk_simp [idx t] <;> simp [batch]

end Cert.Band

end
-- ==== Proof.Mask.lean ====
/-
The reference's mask, a comparison of two positions held in 32-bit words, is the band.

Block `j`'s query row `r` stands at position `128 j + r`, row `c` of its 256 at position `128 j - 128 + c`. The words are
those of these integers, which are small, so the signed comparisons are comparisons of the integers.
-/
module

public import proofs.«01_k».proof.Proof.Spec
public import Idealize.ShloMosaic.Lib.WordCmp

@[expose] public section

noncomputable section

open Idealize.ShloMosaic

namespace Cert.Band

theorem ofInt_sub (a b : ℤ) : BitVec.ofInt 32 (a - b) = BitVec.ofInt 32 a - BitVec.ofInt 32 b := by
  have h := BitVec.ofInt_add (n := 32) (a - b) b
  rw [sub_add_cancel] at h
  rw [h, BitVec.add_sub_cancel]

/-- The word of row `c`'s position. -/
theorem place_word (j c : ℕ) :
    IntOp.addi (IntOp.subi (IntOp.muli (BitVec.ofNat 32 j) 128#32) 128#32) (BitVec.ofNat 32 c) = BitVec.ofInt 32 (j * 128 - 128 + c) := by
  rw [BitVec.ofInt_add, ofInt_sub, BitVec.ofInt_mul, BitVec.ofInt_natCast, BitVec.ofInt_natCast]
  rfl

/-- The word of the distance from row `c` to query row `r`. -/
theorem dist_word (j r c : ℕ) :
    IntOp.subi (IntOp.addi (IntOp.muli (BitVec.ofNat 32 j) 128#32) (BitVec.ofNat 32 r))
        (IntOp.addi (IntOp.subi (IntOp.muli (BitVec.ofNat 32 j) 128#32) 128#32) (BitVec.ofNat 32 c))
      = BitVec.ofInt 32 (128 + r - c) := by
  rw [place_word, show (128 + r - c : ℤ) = (j * 128 + r) - (j * 128 - 128 + c) by ring, ofInt_sub, BitVec.ofInt_add (x := (j * 128 : ℤ)) (y := r),
    BitVec.ofInt_mul, BitVec.ofInt_natCast, BitVec.ofInt_natCast]
  rfl

theorem toInt_word (a : ℤ) (h0 : -1000000 ≤ a) (h1 : a ≤ 1000000) : (BitVec.ofInt 32 a).toInt = a :=
  BitVec.toInt_ofInt_eq_self (by norm_num) (by norm_num; omega) (by norm_num; omega)

/-- The mask word says that the row is on the band. -/
theorem mask_word (j : ℕ) (hj : j < 1000) (r : Fin 128) (c : Fin 256) :
    IntOp.andi
        (IntOp.andi
          (IntOp.cmpi .sge
            (IntOp.subi (IntOp.addi (IntOp.muli (BitVec.ofNat 32 j) 128#32) (BitVec.ofNat 32 r.val))
              (IntOp.addi (IntOp.subi (IntOp.muli (BitVec.ofNat 32 j) 128#32) 128#32) (BitVec.ofNat 32 c.val))) 0#32)
          (IntOp.cmpi .sle
            (IntOp.subi (IntOp.addi (IntOp.muli (BitVec.ofNat 32 j) 128#32) (BitVec.ofNat 32 r.val))
              (IntOp.addi (IntOp.subi (IntOp.muli (BitVec.ofNat 32 j) 128#32) 128#32) (BitVec.ofNat 32 c.val))) 128#32))
        (IntOp.cmpi .sge (IntOp.addi (IntOp.subi (IntOp.muli (BitVec.ofNat 32 j) 128#32) 128#32) (BitVec.ofNat 32 c.val)) 0#32) = 1#1
      ↔ On j r c := by
  have := r.isLt
  have := c.isLt
  rw [dist_word, place_word, WordCmp.cmpi_sge_eq, WordCmp.cmpi_sle_eq, WordCmp.cmpi_sge_eq, WordCmp.andi_ofBool, WordCmp.andi_ofBool,
    WordCmp.ofBool_eq_one_iff, toInt_word _ (by omega) (by omega), toInt_word _ (by omega) (by omega),
    show (0#32 : BitVec 32).toInt = 0 from rfl, show (128#32 : BitVec 32).toInt = 128 from rfl]
  simp only [Bool.and_eq_true, decide_eq_true_eq]
  unfold On
  split <;> omega

end Cert.Band

end
-- ==== Proof.Reference.lean ====
/-
The reference's two results, read at an index.

The reference folds the sixteen dilated phases into the batch (`z = b * 16 + g`), cuts the rows into blocks of 128 and
takes each block's attention over the block before (zeros for the first) and itself. Stage by stage: the blocks, the
256 rows, the mask, the masked scores, their log-sum-exp, the weighted sums, and the two layouts.
-/
module

public import proofs.«01_k».proof.Proof.Mask
public import proofs.«01_k».proof.Proof.Gen.ReferenceIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.ReferenceIdeal Cert.ReferenceIdeal.Gen Cert.ReferenceIdeal.Read

namespace Cert.Band.Ref

variable (x0 x1 x2 : Vec Ideal S16x256x16384 .bf16)

/-- The batch of a folded index. -/
def bOf (z : Fin 256) : Fin 16 := ⟨z.val / 16, by omega⟩

/-- The first lane of a folded index's head. -/
def oOf (z : Fin 256) (h : Fin 8) : ℕ := z.val % 16 * 1024 + h.val * 128

theorem q_at (z : Fin 256) (j : Fin 2) (r : Fin 128) (h : Fin 8) (e : Fin 128) :
    val_main_v4 (F := Ideal) x0 (ix5 z j r h e) = rd (n := 256) (L := 16384) x0 (bOf z) (j.val * 128 + r.val) (oOf z h + e.val) := by
  pointwise [val_main_v4, val_main_v3, val_main_v2, val_main_v1]
  unfold rd
  congr 2
  · exact Fin.ext (by simp only [Fin.val_ofNat]; omega)
  · exact Fin.ext (by simp only [Fin.val_ofNat, oOf]; omega)

theorem k_at (z : Fin 256) (j : Fin 2) (c : Fin 256) (h : Fin 8) (e : Fin 128) :
    val_main_v13 (F := Ideal) x1 (ix5 z j c h e) = keyAt (rd (n := 256) (L := 16384) x1 (bOf z)) j.val c (oOf z h + e.val) := by
  pointwise [val_main_v13, val_main_v12, val_main_v11, val_main_v10, val_main_v9, val_main_cst_0]
  have e : ∀ (j : Fin 2) (r : Fin 128), val_main_v8 (F := Ideal) x1 (ix5 z j r h e)
      = rd (n := 256) (L := 16384) x1 (bOf z) (j.val * 128 + r.val) (oOf z h + e.val) := fun j r => q_at x1 z j r h e
  simp only [e]
  unfold keyAt
  split
  · split
    · rw [if_pos (by omega)]
    · rw [if_neg (by omega)]
  · rfl

theorem v_at (z : Fin 256) (j : Fin 2) (c : Fin 256) (h : Fin 8) (e : Fin 128) :
    val_main_v22 (F := Ideal) x2 (ix5 z j c h e) = keyAt (rd (n := 256) (L := 16384) x2 (bOf z)) j.val c (oOf z h + e.val) :=
  k_at x2 z j c h e

theorem mask_at (j : Fin 2) (r : Fin 128) (c : Fin 256) : val_main_v60 (F := Ideal) (ix3 j r c) = 1#1 ↔ On j.val r c := by
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_v27, val_main_v26,
    val_main_c, val_main_c_2, val_main_c_3, val_main_c_4, val_main_c_5, val_main_c_6]
  exact mask_word j.val (by omega) r c

theorem ln2_at : val_main_v0 (F := Ideal) ix0 = (Real.log 2 : ℝ) := by
  pointwise [val_main_v0, val_main_cst]
  exact ln2_eq

theorem score_at (z : Fin 256) (j : Fin 2) (h : Fin 8) (r : Fin 128) (c : Fin 256) :
    val_main_v62 (F := Ideal) x0 x1 (ix5 z j h r c)
      = naturalAt (rd (n := 256) (L := 16384) x0 (bOf z)) (rd (n := 256) (L := 16384) x1 (bOf z)) j.val (oOf z h) r c := by
  pointwise [val_main_v62, val_main_call0_v0, val_main_call0_v1, val_main_call0_v2, val_main_cst_7, val_main_v61, val_main_v25, val_main_v24, val_main_v23]
  simp only [q_at, k_at, ln2_at]
  unfold naturalAt dotAt
  refine Eq.trans ?_ (if_congr (mask_at j r c) rfl rfl)
  refine if_congr Iff.rfl rfl ?_
  exact ninf_eq

theorem lse_at (z : Fin 256) (j : Fin 2) (h : Fin 8) (r : Fin 128) :
    val_main_v70 (F := Ideal) x0 x1 (ix4 z j h r)
      = lseE (naturalAt (rd (n := 256) (L := 16384) x0 (bOf z)) (rd (n := 256) (L := 16384) x1 (bOf z)) j.val (oOf z h) r) := by
  pointwise [val_main_v70, val_main_v69, val_main_v68, val_main_v67, val_main_v66, val_main_v65, val_main_v64, val_main_v63, val_main_cst_8, val_main_cst_9]
  simp only [score_at]
  rw [ninf_eq]
  rfl

/-- The weighted sum of one row and lane, its place given by the folded coordinates. -/
theorem sum_at (b : Fin 16) (n : Fin 256) (l : Fin 16384) (z : Fin 256) (j : Fin 2) (r : Fin 128) (h : Fin 8) (e : Fin 128)
    (hz : z.val = b.val * 16 + l.val / 1024) (hj : j.val = n.val / 128) (hr : r.val = n.val % 128) (hh : h.val = l.val / 128 % 8)
    (he : e.val = l.val % 128) :
    (∑ c : Fin 256, val_main_v22 (F := Ideal) x2 (ix5 z j c h e)
        * Ideal.exp (val_main_v62 (F := Ideal) x0 x1 (ix5 z j h r c) - val_main_v70 (F := Ideal) x0 x1 (ix4 z j h r)) : EReal)
      = refOut (rd (n := 256) (L := 16384) x0 b) (rd (n := 256) (L := 16384) x1 b) (rd (n := 256) (L := 16384) x2 b) n.val l.val := by
  have e0 : bOf z = b := Fin.ext (by simp only [bOf]; omega)
  have e1 : oOf z h = l.val / 128 * 128 := by simp only [oOf]; omega
  have e2 : r = rowOf n.val := Fin.ext hr
  simp only [v_at, score_at, lse_at, e0, e1]
  rw [show l.val / 128 * 128 + e.val = l.val by omega, hj, e2]
  exact Finset.sum_congr rfl fun c _ => mul_comm _ _

theorem out_at (b : Fin 16) (n : Fin 256) (l : Fin 16384) : val_main_v86 (F := Ideal) x0 x1 x2 (ix3 b n l)
    = refOut (rd (n := 256) (L := 16384) x0 b) (rd (n := 256) (L := 16384) x1 b) (rd (n := 256) (L := 16384) x2 b) n.val l.val := by
  pointwise [val_main_v86, val_main_v79, val_main_v78, val_main_v77, val_main_v76, val_main_v75, val_main_v74, val_main_v73, val_main_v72, val_main_v71]
  exact sum_at x0 x1 x2 b n l _ _ _ _ _ rfl rfl rfl rfl rfl

/-- One row's log-sum-exp, its place given by the folded coordinates. -/
theorem row_at (b g : Fin 16) (n : Fin 256) (d : ℕ) (z : Fin 256) (j : Fin 2) (r : Fin 128) (h : Fin 8)
    (hz : z.val = b.val * 16 + g.val) (hj : j.val = n.val / 128) (hr : r.val = n.val % 128) (hh : h.val = d) :
    (Ideal.div (val_main_v70 (F := Ideal) x0 x1 (ix4 z j h r)) (val_main_v0 (F := Ideal) ix0) : EReal)
      = refLse (rd (n := 256) (L := 16384) x0 b) (rd (n := 256) (L := 16384) x1 b) n.val (g.val * 1024 + 128 * d) := by
  have e0 : bOf z = b := Fin.ext (by simp only [bOf]; omega)
  have e1 : oOf z h = g.val * 1024 + 128 * d := by simp only [oOf]; omega
  have e2 : r = rowOf n.val := Fin.ext hr
  rw [lse_at, ln2_at, e0, e1, hj, e2]
  rfl

theorem lses_at (b g : Fin 16) (n : Fin 256) (d : Fin 128) : val_main_v85 (F := Ideal) x0 x1 (ix4 b g n d)
    = if d.val < 8 then refLse (rd (n := 256) (L := 16384) x0 b) (rd (n := 256) (L := 16384) x1 b) n.val (g.val * 1024 + 128 * d.val) else 0 := by
  pointwise [val_main_v85, val_main_v84, val_main_v83, val_main_v82, val_main_v81, val_main_v80, val_main_cst_10]
  split
  · exact row_at x0 x1 b g n d.val _ _ _ _ rfl rfl rfl rfl
  · rfl

end Cert.Band.Ref

end
-- ==== Proof.Equation.lean ====
/-
The kernel's two arrays are the reference's two results, where the queries and keys are finite.

The precondition says, entry by entry, that the absolute value of a query or a key is below `⊤`; so each is a real.
-/
module

public import proofs.«01_k».proof.Proof.Array
public import proofs.«01_k».proof.Proof.Reference
public import proofs.«01_k».proof.Proof.Gen.Pre_finite_qk

@[expose] public section

set_option maxRecDepth 16384

noncomputable section

open Idealize.ShloMosaic

namespace Cert.Band

/-- An extended real of absolute value below `⊤` is a real. -/
theorem real_of_abs_lt (x : EReal) (h : max x (-x) < ⊤) : ∃ r : ℝ, x = r := by
  induction x with
  | bot => simp at h
  | coe r => exact ⟨r, rfl⟩
  | top => simp at h

/-- The pattern the precondition compares with. -/
theorem inf_eq : (FloatOps.ofBits (F := Ideal) .f32 0x7F800000#32 : EReal) = ⊤ := by
  simp [Ideal.ofBits_def, Ideal.ofBits, Ideal.ieee]

/-- The comparison's word at one entry. -/
theorem real_of_word (x : EReal)
    (h : FloatOps.cmpf (F := Ideal) (φ := .f32) .olt (FloatOps.hostAbsf (F := Ideal) (φ := .f32) x) (FloatOps.ofBits .f32 0x7F800000#32) = 1#1) :
    ∃ r : ℝ, x = r := by
  rw [show (FloatOps.ofBits (F := Ideal) .f32 0x7F800000#32 : Ideal .f32) = (⊤ : EReal) from inf_eq] at h
  refine real_of_abs_lt x ?_
  by_contra hn
  have h0 : BitVec.ofBool (decide (max x (-x) < (⊤ : EReal))) = 1#1 := h
  rw [decide_eq_false hn] at h0
  exact absurd h0 (by decide)

/-- An array whose every entry is a real, read as a matrix. -/
theorem finite_rd {B n L : ℕ} [NeZero n] [NeZero L] (A : (⟨3, ![B, n, L]⟩ : Shape).Idx → EReal)
    (h : ∀ y, ∃ r : ℝ, A y = r) (b : Fin B) : Finite (rd A b) := fun _ _ => h _

/-- What the precondition says of the queries and the keys. -/
theorem finite_of_pre [Cert.Pre_finite_qk.Facts] (q k v : FVec Ideal Cert.Pre_finite_qk.S16x256x16384 .bf16)
    (h : (Cert.Pre_finite_qk.fn (F := Ideal) q k v).1 = (fun _ => 1#1) ∧ (Cert.Pre_finite_qk.fn (F := Ideal) q k v).2 = (fun _ => 1#1)) :
    (∀ y, ∃ r : ℝ, (q y : EReal) = r) ∧ ∀ y, ∃ r : ℝ, (k y : EReal) = r :=
  ⟨fun y => real_of_word _ (congrFun h.1 y), fun y => real_of_word _ (congrFun h.2 y)⟩

section
variable (q k v : Vec Ideal Cert.KernelIdeal.S16x256x16384 .bf16)
  (hq : ∀ y, ∃ r : ℝ, (q y : EReal) = r) (hk : ∀ y, ∃ r : ℝ, (k y : EReal) = r)
include hq hk

/-- The attention. -/
theorem out_equation : Cert.ReferenceIdeal.Read.val_main_v86 (F := Ideal) q k v = outArr q k v := by
  funext y
  rw [eq_ix3 y]
  exact (Ref.out_at q k v _ _ _).trans (out_agree (finite_rd _ hq _) (finite_rd _ hk _) _ _ _).symm

/-- The log-sum-exps. -/
theorem lse_equation : Cert.ReferenceIdeal.Read.val_main_v85 (F := Ideal) q k = lseArr q k := by
  funext y
  rw [eq_ix4 y]
  refine (Ref.lses_at q k _ _ _ _).trans ?_
  show _ = (if (y 3).val < 8 then _ else _)
  refine if_congr Iff.rfl (lse_agree (finite_rd _ hq _) (finite_rd _ hk _) _ _).symm rfl

end

end Cert.Band

end
-- ==== Proof.ProjStore.lean ====
/-
How the projection kernel stores a block of 512 rows at a dilation.

At dilation `d` a stored row is `d` rows of the block side by side: lane `c` of stored row `n` is lane `c % 1024` of
row `n * d + c / 1024`. At dilation 1 this is one store. At 4 the block is first laid out head by head in a scratch, and
each of the 32 pieces of the result is a read of it with stride 4. At 16 the block has been put in the order of the
phases, and the 16 pieces are runs of 32 rows of it.
-/
module

public import Idealize.ShloMosaic.Lib.Pointwise
public import proofs.«01_k».proof.Proof.Gen.Kernel2Ideal.Value
public import Idealize.ShloMosaic.Lib.Pipeline.ReadBack
public import Idealize.ShloMosaic.Lib.Ring

@[expose] public section

set_option maxRecDepth 16384

noncomputable section

open Idealize.ShloMosaic Idealize.ShloMosaic.TcCoe
open Cert.Kernel2Ideal Cert.Kernel2Ideal.Gen

namespace Cert.Proj

/-- The cell of a block at row `p` and lane `l`. -/
def cell (X : S512x1024.Idx → EReal) (p l : ℕ) : EReal := X (ix2 (Fin.ofNat 512 p) (Fin.ofNat 1024 l))

theorem cell_eq (X : S512x1024.Idx → EReal) (p l : ℕ) (a : Fin 512) (b : Fin 1024) (ha : a.val = p) (hb : b.val = l) : X (ix2 a b) = cell X p l := by
  unfold cell
  rw [show a = Fin.ofNat 512 p from Fin.ext (by simp only [Fin.val_ofNat]; omega), show b = Fin.ofNat 1024 l from Fin.ext (by simp only [Fin.val_ofNat]; omega)]

/-- The block stored row by row. -/
def stored1 (X : S512x1024.Idx → EReal) : Vec Ideal S1x512x1024 .bf16 := fun y => cell X (y 1).val (y 2).val

/-- The block stored four rows to one. -/
def stored4 (X : S512x1024.Idx → EReal) : Vec Ideal S1x128x4096 .bf16 := fun y => cell X ((y 1).val * 4 + (y 2).val / 1024) ((y 2).val % 1024)

/-- The block, its rows in the order of the sixteen phases, stored phase beside phase. -/
def stored16 (X : S512x1024.Idx → EReal) : Vec Ideal S1x32x16384 .bf16 := fun y => cell X ((y 2).val / 1024 * 32 + (y 1).val) ((y 2).val % 1024)

theorem whole1 (X : FVec Ideal S512x1024 .bf16) : shapeCast S1x512x1024 X shapeCasts_S512x1024_S1x512x1024 = stored1 X := by
  funext y
  obtain ⟨p, l, rfl⟩ : ∃ p l, y = ix3 (0 : Fin 1) p l := ⟨y 1, y 2, by funext a; fin_cases a <;> first | rfl | exact Fin.ext (Nat.lt_one_iff.mp (y 0).isLt)⟩
  pointwise
  exact cell_eq X _ _ p l rfl rfl

theorem piece16 (X : FVec Ideal S512x1024 .bf16) (r o o' : ℕ) (ho : o = 32 * r) (ho' : o' = 1024 * r) (hr : r < 16)
    (h : Shape.Slices S512x1024 ![o, 0] S32x1024) (inb : ∀ a, (![0, 0, o'] : Fin 3 → ℕ) a + (![1, 32, 1024] : Fin 3 → ℕ) a ≤ S1x32x16384.size a)
    (x : (Rect.unit (s := S1x32x16384) ![0, 0, o'] ![1, 32, 1024] inb).shape.Idx) :
    shapeCast S1x32x1024 (extractStridedSlice S32x1024 ![o, 0] X h) shapeCasts_S32x1024_S1x32x1024 x
      = stored16 X ((Rect.unit (s := S1x32x16384) ![0, 0, o'] ![1, 32, 1024] inb).emb x) := by
  obtain ⟨n, l, rfl⟩ : ∃ n l, x = ix3 (0 : Fin 1) n l := ⟨x 1, x 2, by funext a; fin_cases a <;> first | rfl | exact Fin.ext (Nat.lt_one_iff.mp (x 0).isLt)⟩
  subst ho ho'
  have hn : n.val < 32 := n.isLt
  have hl : l.val < 1024 := l.isLt
  unfold stored16
  have e1 : ((Rect.unit (s := S1x32x16384) ![0, 0, 1024 * r] ![1, 32, 1024] inb).emb (ix3 (0 : Fin 1) n l) 1).val = n.val := by simp [Rect.emb, Rect.unit]
  have e2 : ((Rect.unit (s := S1x32x16384) ![0, 0, 1024 * r] ![1, 32, 1024] inb).emb (ix3 (0 : Fin 1) n l) 2).val = 1024 * r + l.val := by simp [Rect.emb, Rect.unit]
  rw [e1, e2]
  refine Eq.trans ?_ (cell_eq X _ _ ⟨32 * r + n.val, by omega⟩ l ?_ ?_)
  · pointwise
  · dsimp only; omega
  · omega

/-- One head of the block, as it is stored in the scratch. -/
def head (T : FVec Ideal S512x1024 .f32) (o : ℕ) (h : Shape.Slices S512x1024 ![0, o] S512x128) : FVec Ideal S1x512x128 .f32 :=
  shapeCast S1x512x128 (extractStridedSlice S512x128 ![0, o] T h) shapeCasts_S512x128_S1x512x128

/-- The scratch after its eight stores, over what was there. -/
def scratch (T : FVec Ideal S512x1024 .f32) (rest : List (View.Piece (Elt Ideal) S8x512x128 .f32)) : List (View.Piece (Elt Ideal) S8x512x128 .f32) :=
  ⟨Rect.unit ![7, 0, 0] ![1, 512, 128] inb_S8x512x128_S1x512x128_7_0_0, head T 896 slices_S512x1024_o0_896_S512x128⟩ ::
  ⟨Rect.unit ![6, 0, 0] ![1, 512, 128] inb_S8x512x128_S1x512x128_6_0_0, head T 768 slices_S512x1024_o0_768_S512x128⟩ ::
  ⟨Rect.unit ![5, 0, 0] ![1, 512, 128] inb_S8x512x128_S1x512x128_5_0_0, head T 640 slices_S512x1024_o0_640_S512x128⟩ ::
  ⟨Rect.unit ![4, 0, 0] ![1, 512, 128] inb_S8x512x128_S1x512x128_4_0_0, head T 512 slices_S512x1024_o0_512_S512x128⟩ ::
  ⟨Rect.unit ![3, 0, 0] ![1, 512, 128] inb_S8x512x128_S1x512x128_3_0_0, head T 384 slices_S512x1024_o0_384_S512x128⟩ ::
  ⟨Rect.unit ![2, 0, 0] ![1, 512, 128] inb_S8x512x128_S1x512x128_2_0_0, head T 256 slices_S512x1024_o0_256_S512x128⟩ ::
  ⟨Rect.unit ![1, 0, 0] ![1, 512, 128] inb_S8x512x128_S1x512x128_1_0_0, head T 128 slices_S512x1024_o0_128_S512x128⟩ ::
  ⟨Rect.unit ![0, 0, 0] ![1, 512, 128] inb_S8x512x128_S1x512x128_0_0_0, head T 0 slices_S512x1024_o0_0_S512x128⟩ :: rest

/-- What the scratch then holds. -/
def scratchAt (T : S512x1024.Idx → EReal) : S8x512x128.Idx → EReal := fun i => cell T (i 1).val ((i 0).val * 128 + (i 2).val)

theorem head_piece (T : FVec Ideal S512x1024 .f32) (n o : ℕ) (ho : o = 128 * n) (hn : n < 8) (h : Shape.Slices S512x1024 ![0, o] S512x128)
    (inb : ∀ a, (![n, 0, 0] : Fin 3 → ℕ) a + (![1, 512, 128] : Fin 3 → ℕ) a ≤ S8x512x128.size a)
    (x : (Rect.unit (s := S8x512x128) ![n, 0, 0] ![1, 512, 128] inb).shape.Idx) :
    head T o h x = scratchAt T ((Rect.unit (s := S8x512x128) ![n, 0, 0] ![1, 512, 128] inb).emb x) := by
  obtain ⟨p, d, rfl⟩ : ∃ p d, x = ix3 (0 : Fin 1) p d := ⟨x 1, x 2, by funext a; fin_cases a <;> first | rfl | exact Fin.ext (Nat.lt_one_iff.mp (x 0).isLt)⟩
  subst ho
  have hp : p.val < 512 := p.isLt
  have hd : d.val < 128 := d.isLt
  unfold scratchAt
  have e0 : ((Rect.unit (s := S8x512x128) ![n, 0, 0] ![1, 512, 128] inb).emb (ix3 (0 : Fin 1) p d) 0).val = n := by simp [Rect.emb, Rect.unit]
  have e1 : ((Rect.unit (s := S8x512x128) ![n, 0, 0] ![1, 512, 128] inb).emb (ix3 (0 : Fin 1) p d) 1).val = p.val := by simp [Rect.emb, Rect.unit]
  have e2 : ((Rect.unit (s := S8x512x128) ![n, 0, 0] ![1, 512, 128] inb).emb (ix3 (0 : Fin 1) p d) 2).val = d.val := by simp [Rect.emb, Rect.unit]
  rw [e0, e1, e2]
  refine Eq.trans ?_ (cell_eq T _ _ p ⟨128 * n + d.val, by omega⟩ rfl ?_)
  · pointwise [head]
  · dsimp only; omega

theorem canon_scratch (T : FVec Ideal S512x1024 .f32) (rest : List (View.Piece (Elt Ideal) S8x512x128 .f32)) (i : S8x512x128.Idx) :
    View.canon (scratch T rest) i = scratchAt T i := by
  refine View.canon_append_of_piecesOf (scratchAt T) rest (scratch T []) ?_ i (View.cover_of_tiledL _ ![1, 512, 128] (by sl_kernel_rfl) i)
  unfold scratch
  exact ⟨head_piece T 7 896 rfl (by decide) slices_S512x1024_o0_896_S512x128 inb_S8x512x128_S1x512x128_7_0_0,
    head_piece T 6 768 rfl (by decide) slices_S512x1024_o0_768_S512x128 inb_S8x512x128_S1x512x128_6_0_0,
    head_piece T 5 640 rfl (by decide) slices_S512x1024_o0_640_S512x128 inb_S8x512x128_S1x512x128_5_0_0,
    head_piece T 4 512 rfl (by decide) slices_S512x1024_o0_512_S512x128 inb_S8x512x128_S1x512x128_4_0_0,
    head_piece T 3 384 rfl (by decide) slices_S512x1024_o0_384_S512x128 inb_S8x512x128_S1x512x128_3_0_0,
    head_piece T 2 256 rfl (by decide) slices_S512x1024_o0_256_S512x128 inb_S8x512x128_S1x512x128_2_0_0,
    head_piece T 1 128 rfl (by decide) slices_S512x1024_o0_128_S512x128 inb_S8x512x128_S1x512x128_1_0_0,
    head_piece T 0 0 rfl (by decide) slices_S512x1024_o0_0_S512x128 inb_S8x512x128_S1x512x128_0_0_0, trivial⟩

/-- One of the 32 pieces: head `n` of the rows `r`, `r + 4`, `r + 8`, …. -/
theorem piece4 (T : FVec Ideal S512x1024 .f32) (rest : List (View.Piece (Elt Ideal) S8x512x128 .f32)) (n r o : ℕ) (ho : o = 1024 * r + 128 * n)
    (hn : n < 8) (hr : r < 4)
    (inbB : ∀ a, (![1, 128, 128] : Fin 3 → ℕ) a = 0 ∨ (![n, r, 0] : Fin 3 → ℕ) a + (![1, 4, 1] : Fin 3 → ℕ) a * ((![1, 128, 128] : Fin 3 → ℕ) a - 1) < S8x512x128.size a)
    (inb : ∀ a, (![0, 0, o] : Fin 3 → ℕ) a + (![1, 128, 128] : Fin 3 → ℕ) a ≤ S1x128x4096.size a)
    (x : (Rect.unit (s := S1x128x4096) ![0, 0, o] ![1, 128, 128] inb).shape.Idx) :
    k0_pay23 ((View.whole cc0_scratch0).readCov (scratch T rest) { off := ![n, r, 0], size := ![1, 128, 128], stride := ![1, 4, 1], inb := inbB }) x
      = stored4 T ((Rect.unit (s := S1x128x4096) ![0, 0, o] ![1, 128, 128] inb).emb x) := by
  obtain ⟨p, d, rfl⟩ : ∃ p d, x = ix3 (0 : Fin 1) p d := ⟨x 1, x 2, by funext a; fin_cases a <;> first | rfl | exact Fin.ext (Nat.lt_one_iff.mp (x 0).isLt)⟩
  subst ho
  have hp : p.val < 128 := p.isLt
  have hd : d.val < 128 := d.isLt
  rw [View.readCov_eq_canon']
  simp only [canon_scratch]
  have e1 : ((Rect.unit (s := S1x128x4096) ![0, 0, 1024 * r + 128 * n] ![1, 128, 128] inb).emb (ix3 (0 : Fin 1) p d) 1).val = p.val := by simp [Rect.emb, Rect.unit]
  have e2 : ((Rect.unit (s := S1x128x4096) ![0, 0, 1024 * r + 128 * n] ![1, 128, 128] inb).emb (ix3 (0 : Fin 1) p d) 2).val = 1024 * r + 128 * n + d.val := by
    simp [Rect.emb, Rect.unit]
  unfold stored4
  rw [e1, e2]
  pointwise [k0_pay23]
  refine congrArg₂ (cell T) ?_ ?_
  · show r + 4 * p.val = _
    omega
  · show n * 128 + d.val = _
    omega

theorem at4 (k : Fin 32) : ∀ a, (![0, 0, 128 * k.val] : Fin 3 → ℕ) a + (![1, 128, 128] : Fin 3 → ℕ) a ≤ S1x128x4096.size a := by
  have := k.isLt
  intro a
  fin_cases a <;> simp <;> omega

theorem from4 (k : Fin 32) : ∀ a, (![1, 128, 128] : Fin 3 → ℕ) a = 0 ∨ (![k.val % 8, k.val / 8, 0] : Fin 3 → ℕ) a
    + (![1, 4, 1] : Fin 3 → ℕ) a * ((![1, 128, 128] : Fin 3 → ℕ) a - 1) < S8x512x128.size a := by
  have := k.isLt
  intro a
  fin_cases a <;> simp <;> omega

theorem at16 (k : Fin 16) : ∀ a, (![0, 0, 1024 * k.val] : Fin 3 → ℕ) a + (![1, 32, 1024] : Fin 3 → ℕ) a ≤ S1x32x16384.size a := by
  have := k.isLt
  intro a
  fin_cases a <;> simp <;> omega

theorem from16 (k : Fin 16) : Shape.Slices S512x1024 ![32 * k.val, 0] S32x1024 := by
  have := k.isLt
  refine ⟨rfl, fun a => ?_⟩
  fin_cases a <;> simp <;> omega

/-- A piece of a block stored at dilation 4: head `n` of phase `r`, read off the scratch and put at column `o`. -/
def tile4 (T : FVec Ideal S512x1024 .f32) (rest : List (View.Piece (Elt Ideal) S8x512x128 .f32)) (n r o : ℕ)
    (inbB : ∀ a, (![1, 128, 128] : Fin 3 → ℕ) a = 0 ∨ (![n, r, 0] : Fin 3 → ℕ) a + (![1, 4, 1] : Fin 3 → ℕ) a * ((![1, 128, 128] : Fin 3 → ℕ) a - 1) < S8x512x128.size a)
    (inb : ∀ a, (![0, 0, o] : Fin 3 → ℕ) a + (![1, 128, 128] : Fin 3 → ℕ) a ≤ S1x128x4096.size a) : View.Piece (Elt Ideal) S1x128x4096 .bf16 :=
  ⟨Rect.unit ![0, 0, o] ![1, 128, 128] inb,
    k0_pay23 ((View.whole cc0_scratch0).readCov (scratch T rest) { off := ![n, r, 0], size := ![1, 128, 128], stride := ![1, 4, 1], inb := inbB })⟩

theorem tile4_eq (T : FVec Ideal S512x1024 .f32) (rest : List (View.Piece (Elt Ideal) S8x512x128 .f32)) (n r o : ℕ) (ho : o = 1024 * r + 128 * n)
    (hn : n < 8) (hr : r < 4)
    (inbB : ∀ a, (![1, 128, 128] : Fin 3 → ℕ) a = 0 ∨ (![n, r, 0] : Fin 3 → ℕ) a + (![1, 4, 1] : Fin 3 → ℕ) a * ((![1, 128, 128] : Fin 3 → ℕ) a - 1) < S8x512x128.size a)
    (inb : ∀ a, (![0, 0, o] : Fin 3 → ℕ) a + (![1, 128, 128] : Fin 3 → ℕ) a ≤ S1x128x4096.size a)
    (x : (tile4 T rest n r o inbB inb).1.shape.Idx) :
    (tile4 T rest n r o inbB inb).2 x = stored4 T ((tile4 T rest n r o inbB inb).1.emb x) := by
  dsimp only [tile4] at x ⊢
  exact piece4 T rest n r o ho hn hr inbB inb x

/-- The 32 pieces, last first. -/
def pieces4 (T : FVec Ideal S512x1024 .f32) (rest : List (View.Piece (Elt Ideal) S8x512x128 .f32)) : List (View.Piece (Elt Ideal) S1x128x4096 .bf16) :=
  ([31, 30, 29, 28, 27, 26, 25, 24, 23, 22, 21, 20, 19, 18, 17, 16, 15, 14, 13, 12, 11, 10, 9, 8, 7, 6, 5, 4, 3, 2, 1, 0] : List (Fin 32)).map fun k =>
    tile4 T rest (k.val % 8) (k.val / 8) (128 * k.val) (from4 k) (at4 k)

theorem every32 : ∀ k : Fin 32, k ∈ ([31, 30, 29, 28, 27, 26, 25, 24, 23, 22, 21, 20, 19, 18, 17, 16, 15, 14, 13, 12, 11, 10, 9, 8, 7, 6, 5, 4, 3, 2, 1, 0] : List (Fin 32)) := by
  decide

theorem canon_pieces4 (T : FVec Ideal S512x1024 .f32) (rest : List (View.Piece (Elt Ideal) S8x512x128 .f32)) :
    View.canon (pieces4 T rest) = stored4 T := by
  funext y
  refine View.canon_apply_of_pieces (stored4 T) (pieces4 T rest) (fun p hp x => ?_) y ?_
  · obtain ⟨k, -, rfl⟩ := List.mem_map.mp hp
    exact tile4_eq T rest _ _ _ (by have := k.isLt; omega) (by omega) (by have := k.isLt; omega) _ _ x
  · have h2 : (y 2).val < 4096 := (y 2).isLt
    have h0 : (y 0).val < 1 := (y 0).isLt
    have h1 : (y 1).val < 128 := (y 1).isLt
    have hk : (y 2).val / 128 < 32 := by omega
    refine ⟨_, List.mem_map.mpr ⟨⟨(y 2).val / 128, hk⟩, every32 _, rfl⟩, (Rect.mem_set_unit (inb := at4 _)).mpr fun a => ?_⟩
    fin_cases a
    · exact ⟨Nat.zero_le _, h0⟩
    · exact ⟨Nat.zero_le _, by show (y 1).val < 0 + 128; omega⟩
    · exact ⟨by show 128 * ((y 2).val / 128) ≤ (y 2).val; omega, by show (y 2).val < 128 * ((y 2).val / 128) + 128; omega⟩

/-- The sixteen pieces of a block stored at dilation 16, last first: piece `k` is the run of 32 rows of phase `k`. -/
def pieces16 (X : FVec Ideal S512x1024 .bf16) : List (View.Piece (Elt Ideal) S1x32x16384 .bf16) :=
  ([15, 14, 13, 12, 11, 10, 9, 8, 7, 6, 5, 4, 3, 2, 1, 0] : List (Fin 16)).map fun k =>
    ⟨Rect.unit ![0, 0, 1024 * k.val] ![1, 32, 1024] (at16 k),
      shapeCast S1x32x1024 (extractStridedSlice S32x1024 ![32 * k.val, 0] X (from16 k)) shapeCasts_S32x1024_S1x32x1024⟩

theorem canon_pieces16 (X : FVec Ideal S512x1024 .bf16) : View.canon (pieces16 X) = stored16 X := by
  funext y
  refine View.canon_apply_of_pieces (stored16 X) (pieces16 X) ?_ y (View.cover_of_tiledL _ ![1, 32, 1024] (by sl_kernel_rfl) y)
  intro p hp x
  obtain ⟨k, -, rfl⟩ := List.mem_map.mp hp
  exact piece16 X k.val (32 * k.val) (1024 * k.val) rfl rfl k.isLt (from16 k) (at16 k) x

end Cert.Proj

end
-- ==== Proof.ProjSpec.lean ====
/-
The projections of one row of the sequence, as plain functions of a lane.

A row of the hidden state is normalised by its root mean square, multiplied by a matrix and, for keys and queries,
turned head by head: a head is 128 lanes wide, and each lane is combined with the lane half a head away, with a cosine
and a (signed) sine that depend on the row's position. Queries are also scaled, and the gate passes through `x * sigmoid x`.
-/
module

public import Idealize.ShloMosaic.PureOps.Ideal
public import Idealize.ShloMosaic.Lib.Pointwise

@[expose] public section

noncomputable section

open Idealize.ShloMosaic

namespace Cert.Proj

/-- The row over its root mean square, times a gain. -/
def rms (x g : Fin 1024 → EReal) (l : Fin 1024) : EReal :=
  x l * Ideal.rsqrt (Ideal.div (∑ d, x d * x d) (Ideal.ofBits FTy.f32 0x44800000#32) + Ideal.ofBits FTy.f32 0x358637BD#32) * g l

/-- The modulation of a normalised row by the condition's scale and shift. -/
def modulate (x scale shift : Fin 1024 → EReal) (l : Fin 1024) : EReal := x l * (1 + scale l) + shift l

/-- A row times a matrix. -/
def project (x : Fin 1024 → EReal) (w : Fin 1024 → Fin 1024 → EReal) (l : Fin 1024) : EReal := ∑ d, x d * w d l

/-- A lane's place in its head. -/
def inHead (l : Fin 1024) : Fin 128 := ⟨l.val % 128, Nat.mod_lt _ (by norm_num)⟩

/-- The lane half a head away, in the same head. -/
def partner (l : Fin 1024) : Fin 1024 := ⟨l.val / 128 * 128 + (l.val % 128 + 64) % 128, by omega⟩

/-- The rotation of every head of a row. -/
def rotary (t : Fin 1024 → EReal) (c s : Fin 128 → EReal) (l : Fin 1024) : EReal :=
  t l * c (inHead l) + t (partner l) * s (inHead l)

/-- `x * sigmoid x`. -/
def silu (x : EReal) : EReal := x * Ideal.div 1 (1 + Ideal.exp (0 - x))

/-- The factor of the queries: `1 / (√128 · log 2)`. -/
def qscale : EReal := (((Real.sqrt 128)⁻¹ * (Real.log 2)⁻¹ : ℝ) : EReal)

theorem c128_eq : Ideal.ofBits FTy.f32 0x43000000#32 = ((128 : ℝ) : EReal) := by
  simp [Ideal.ofBits, Ideal.ieee]
  rw [← EReal.coe_mul]
  norm_num

theorem c2_eq : Ideal.ofBits FTy.f32 0x40000000#32 = ((2 : ℝ) : EReal) := by
  simp [Ideal.ofBits, Ideal.ieee]
  rw [← EReal.coe_mul]
  norm_num

/-- Dividing by `√128`, then by `log 2`, is multiplying by `qscale`. -/
theorem div_div_eq (x : EReal) :
    Ideal.div (Ideal.div x (Ideal.sqrt (Ideal.ofBits FTy.f32 0x43000000#32))) (Ideal.log (Ideal.ofBits FTy.f32 0x40000000#32)) = x * qscale := by
  have hs : (Real.sqrt 128) ≠ 0 := by positivity
  have hl : Real.log 2 ≠ 0 := (Real.log_pos (by norm_num)).ne'
  rw [c128_eq, c2_eq, Ideal.log_coe, if_neg (by norm_num), Ideal.sqrt_coe, if_neg (by norm_num), Ideal.div_coe hl, Ideal.div_coe hs,
    mul_assoc, ← EReal.coe_mul]
  unfold qscale
  rw [one_div, one_div]

end Cert.Proj

end
-- ==== Proof.ProjBlock.lean ====
/-
What the projection kernel computes of one block of 512 rows.

The kernel cuts a projected block into its eight heads, turns each and puts them together again (`ropeBlock`); the
print cuts the same operations at different places for keys and for each group of queries, and all the cuts are this one
function. `keyBlock`, `valueBlock`, `queryBlock` and `gateBlock` say what the blocks hold, row by row and lane by lane.
-/
module

public import proofs.«01_k».proof.Proof.ProjSpec
public import proofs.«01_k».proof.Proof.Gen.Kernel2Ideal.Skeleton
public import Idealize.ShloMosaic.Lib.Pipeline.Value

@[expose] public section

set_option maxRecDepth 16384

noncomputable section

open Idealize.ShloMosaic Idealize.ShloMosaic.TcCoe
open Cert.Kernel2Ideal Cert.Kernel2Ideal.Gen

namespace Cert.Proj

/-- One head, cut out at lane `o`, turned and scaled. -/
def turn (c s : FVec Ideal S512x128 .f32) (k : Ideal .f32) (t : FVec Ideal S512x1024 .f32) (o : ℕ)
    (h : Shape.Slices S512x1024 ![0, o] S512x128) : FVec Ideal S512x128 .f32 :=
  mulf (addf (mulf (extractStridedSlice S512x128 ![0, o] t h) c)
    (mulf (dynamicRotate 1 64#32 none (extractStridedSlice S512x128 ![0, o] t h) rotates_S512x128_d1) s)) (broadcast S512x128 k)

/-- The eight heads turned and put together. -/
def ropeBlock (c s : FVec Ideal S512x128 .f32) (k : Ideal .f32) (t : FVec Ideal S512x1024 .f32) : FVec Ideal S512x1024 .f32 :=
  concatenate S512x1024 1 [⟨S512x128, turn c s k t 0 slices_S512x1024_o0_0_S512x128⟩, ⟨S512x128, turn c s k t 128 slices_S512x1024_o0_128_S512x128⟩,
    ⟨S512x128, turn c s k t 256 slices_S512x1024_o0_256_S512x128⟩, ⟨S512x128, turn c s k t 384 slices_S512x1024_o0_384_S512x128⟩,
    ⟨S512x128, turn c s k t 512 slices_S512x1024_o0_512_S512x128⟩, ⟨S512x128, turn c s k t 640 slices_S512x1024_o0_640_S512x128⟩,
    ⟨S512x128, turn c s k t 768 slices_S512x1024_o0_768_S512x128⟩, ⟨S512x128, turn c s k t 896 slices_S512x1024_o0_896_S512x128⟩]
    concatenates_S512x128_S512x128_S512x128_S512x128_S512x128_S512x128_S512x128_S512x128_S512x1024_d1

theorem turn_apply (c s : FVec Ideal S512x128 .f32) (k : Ideal .f32) (t : FVec Ideal S512x1024 .f32) (o : ℕ)
    (h : Shape.Slices S512x1024 ![0, o] S512x128) (p : Fin 512) (d : Fin 128) (l : Fin 1024) (hl : l.val = o + d.val) (ho : o % 128 = 0) :
    turn c s k t o h (ix2 p d) = rotary (fun e => t (ix2 p e)) (fun e => c (ix2 p e)) (fun e => s (ix2 p e)) l * k := by
  pointwise [turn]
  unfold rotary
  have e1 : l = ⟨o + d.val, by omega⟩ := Fin.ext hl
  have e2 : inHead l = d := Fin.ext (by simp only [inHead]; omega)
  have e3 : partner l = ⟨o + (d.val + 128 - 64) % 128, by omega⟩ := Fin.ext (by simp only [partner]; omega)
  rw [e2, e3, ← e1]

theorem ropeBlock_apply (c s : FVec Ideal S512x128 .f32) (k : Ideal .f32) (t : FVec Ideal S512x1024 .f32) (p : Fin 512) (l : Fin 1024) :
    ropeBlock c s k t (ix2 p l) = rotary (fun e => t (ix2 p e)) (fun e => c (ix2 p e)) (fun e => s (ix2 p e)) l * k := by
  pointwise [ropeBlock]
  obtain ⟨l, hl⟩ := l
  dsimp only
  have key (o : ℕ) (h : Shape.Slices S512x1024 ![0, o] S512x128) (ho : o % 128 = 0) (d : Fin 128) (hd : l = o + d.val) :
      turn c s k t o h (ix2 p d) = rotary (fun e => t (ix2 p e)) (fun e => c (ix2 p e)) (fun e => s (ix2 p e)) ⟨l, hl⟩ * k :=
    turn_apply c s k t o h p d ⟨l, hl⟩ hd ho
  split_ifs <;> exact key _ _ (by decide) _ (by dsimp only; omega)

section Cuts

variable (v0 : Vec Ideal S512x1024 .f32) (v1 v3 : Vec Ideal S1x512x128 .f32) (v15 : Vec Ideal S1x1024 .f32) (w : Vec Ideal S1024x1024 .bf16)
  (c s : FVec Ideal S512x128 .f32) (n : FVec Ideal S512x1024 .bf16) (v672 : Vec Ideal S1x1024 .f32) (v682 : FVec Ideal S512x1024 .f32)
  (v685 v691 : Vec Ideal S1x1x1024 .f32) (perm : Vec Ideal S1x512x512 .bf16)

/-- The queries' scale as the kernel has it. -/
abbrev qs : Ideal .f32 := Named.named (F := Ideal) κ "qscale" (φ := .f32) 0x3E0293EE#32

theorem keys_cut : k0_pay10 (k0_pay1 v1) (k0_pay2 v3) (k0_pay4 v0 v15 w) (k0_pay5 v0 v1 v3 v15 w) (k0_pay6 v0 v1 v3 v15 w) (k0_pay8 v0 v15 w) (k0_pay9 v0 v1 v15 w)
    = ropeBlock (k0_pay1 v1) (k0_pay2 v3) (Scalar.ofBits .f32 0x3F800000#32) (k0_pay4 v0 v15 w) := rfl

theorem query4_cut : k0_pay161 (k0_pay153 c s n w) (k0_pay154 c s (k0_pay152 n w)) (k0_pay155 c s (k0_pay152 n w)) (k0_pay156 c s (k0_pay152 n w))
      (k0_pay157 c s (k0_pay152 n w)) (k0_pay158 c s (k0_pay152 n w)) (k0_pay159 c s (k0_pay152 n w)) (k0_pay160 c s (k0_pay152 n w))
    = ropeBlock c s qs (k0_pay152 n w) := rfl

theorem query16_cut : k0_pay213 c s (k0_pay206 n w) (k0_pay207 c s n w) (k0_pay208 c s n w) (k0_pay209 c s n w) (k0_pay210 c s n w) (k0_pay211 c s n w) (k0_pay212 c s n w) perm
    = k0_pay59 (truncf .bf16 (ropeBlock c s qs (k0_pay206 n w)) bitsLt_bf16_f32) perm := rfl

theorem query1_cut : k0_pay151 c s (k0_pay145 v672 v682 v685 v691 w) (k0_pay146 c s v672 v682 v685 v691 w) (k0_pay147 c s v672 v682 v685 v691 w)
      (k0_pay148 c s v672 v682 v685 v691 w) (k0_pay149 c s v672 v682 v685 v691 w) k0_pay150
    = shapeCast S1x512x1024 (truncf .bf16 (ropeBlock c s qs (k0_pay152 (k0_pay144 v672 v682 v685 v691) w)) bitsLt_bf16_f32) shapeCasts_S512x1024_S1x512x1024 := rfl

/-- The rotated keys of a block. -/
theorem keys_apply (p : Fin 512) (l : Fin 1024) :
    ropeBlock (k0_pay1 v1) (k0_pay2 v3) (Scalar.ofBits .f32 0x3F800000#32) (k0_pay4 v0 v15 w) (ix2 p l)
      = rotary (project (rms (fun d => v0 (ix2 p d)) (fun d => v15 (ix2 0 d))) (fun d e => w (ix2 d e))) (fun e => v1 (ix3 0 p e)) (fun e => v3 (ix3 0 p e)) l := by
  rw [ropeBlock_apply]
  have e (l : Fin 1024) : k0_pay4 v0 v15 w (ix2 p l) = project (rms (fun d => v0 (ix2 p d)) (fun d => v15 (ix2 0 d))) (fun d e => w (ix2 d e)) l := by
    pointwise [k0_pay4, k0_pay3]
    rfl
  simp only [e]
  have e1 (d : Fin 128) : k0_pay1 v1 (ix2 p d) = v1 (ix3 0 p d) := by pointwise [k0_pay1]
  have e2 (d : Fin 128) : k0_pay2 v3 (ix2 p d) = v3 (ix3 0 p d) := by pointwise [k0_pay2]
  simp only [e1, e2]
  pointwise

/-- The values of a block. -/
theorem values_apply (p : Fin 512) (l : Fin 1024) :
    k0_pay78 (k0_pay3 v0 v15) w (ix2 p l) = project (rms (fun d => v0 (ix2 p d)) (fun d => v15 (ix2 0 d))) (fun d e => w (ix2 d e)) l := by
  pointwise [k0_pay78, k0_pay3]
  rfl

/-- The modulated row of a block. -/
theorem modulated_apply (p : Fin 512) (l : Fin 1024) : k0_pay144 v672 (k0_pay143 v0) v685 v691 (ix2 p l)
    = modulate (rms (fun d => v0 (ix2 p d)) (fun d => v672 (ix2 0 d))) (fun d => v685 (ix3 0 0 d)) (fun d => v691 (ix3 0 0 d)) l := by
  pointwise [k0_pay144, k0_pay143]
  rfl

/-- The rotated and scaled queries of a block. -/
theorem queries_apply (p : Fin 512) (l : Fin 1024) :
    ropeBlock (k0_pay1 v1) (k0_pay2 v3) qs (k0_pay152 (k0_pay144 v672 (k0_pay143 v0) v685 v691) w) (ix2 p l)
      = rotary (project (modulate (rms (fun d => v0 (ix2 p d)) (fun d => v672 (ix2 0 d))) (fun d => v685 (ix3 0 0 d)) (fun d => v691 (ix3 0 0 d)))
          (fun d e => w (ix2 d e))) (fun e => v1 (ix3 0 p e)) (fun e => v3 (ix3 0 p e)) l * qscale := by
  rw [ropeBlock_apply]
  have e (l : Fin 1024) : k0_pay152 (k0_pay144 v672 (k0_pay143 v0) v685 v691) w (ix2 p l)
      = project (modulate (rms (fun d => v0 (ix2 p d)) (fun d => v672 (ix2 0 d))) (fun d => v685 (ix3 0 0 d)) (fun d => v691 (ix3 0 0 d))) (fun d e => w (ix2 d e)) l := by
    rw [show project _ _ l = ∑ d, _ * _ from rfl]
    simp only [← modulated_apply]
    pointwise [k0_pay152]
  simp only [e]
  have e1 (d : Fin 128) : k0_pay1 v1 (ix2 p d) = v1 (ix3 0 p d) := by pointwise [k0_pay1]
  have e2 (d : Fin 128) : k0_pay2 v3 (ix2 p d) = v3 (ix3 0 p d) := by pointwise [k0_pay2]
  simp only [e1, e2]
  rfl

/-- The gate of a block. -/
theorem gate_apply (p : Fin 512) (l : Fin 1024) :
    k0_pay232 (k0_pay144 v672 (k0_pay143 v0) v685 v691) w (ix2 p l)
      = silu (project (modulate (rms (fun d => v0 (ix2 p d)) (fun d => v672 (ix2 0 d))) (fun d => v685 (ix3 0 0 d)) (fun d => v691 (ix3 0 0 d)))
          (fun d e => w (ix2 d e)) l) := by
  rw [show project _ _ l = ∑ d, _ * _ from rfl]
  simp only [← modulated_apply]
  pointwise [k0_pay232]
  rfl

end Cuts

end Cert.Proj

end
-- ==== Proof.ProjBody.lean ====
/-
What one point of the grid leaves in its ten output blocks: the four matrices of the point (keys, values, three kinds
of queries, the gate), stored at the three dilations.
-/
module

public import proofs.«01_k».proof.Proof.Gen.Kernel2Ideal.Value
public import proofs.«01_k».proof.Proof.ProjStore
public import proofs.«01_k».proof.Proof.ProjBlock
public import Idealize.ShloMosaic.Lib.Pointwise
public import Idealize.ShloMosaic.Lib.Pipeline.ValueKit.Acc
public import Idealize.ShloMosaic.Lib.Pipeline.ReadBack
public import Idealize.ShloMosaic.Lib.Ring

@[expose] public section

set_option maxRecDepth 16384

noncomputable section

open Idealize.ShloMosaic Idealize.ShloMosaic.TcCoe
open Cert.Kernel2Ideal Cert.Kernel2Ideal.Gen

namespace Cert.Proj

variable (m : (ℓ : Loc nD τ sig) → Buf (Elt Ideal) ℓ)

/-- The first half of the key-value weights. -/
def keyW (c : Dev nD) (t : Fin cfg0.N) : Vec Ideal S1024x1024 .bf16 :=
  View.ld (iblk m c 4 t) (Rect.unit (s := S1024x2048) ![0, 0] ![1024, 1024] inb_S1024x2048_S1024x1024_0_0)

/-- The second half of the key-value weights. -/
def valueW (c : Dev nD) (t : Fin cfg0.N) : Vec Ideal S1024x1024 .bf16 :=
  View.ld (iblk m c 4 t) (Rect.unit (s := S1024x2048) ![0, 1024] ![1024, 1024] inb_S1024x2048_S1024x1024_0_1024)

/-- The query weights of dilation 1, 4 and 16, and the gate's. -/
def queryW1 (c : Dev nD) (t : Fin cfg0.N) : Vec Ideal S1024x1024 .bf16 :=
  View.ld (iblk m c 5 t) (Rect.unit (s := S1024x4096) ![0, 0] ![1024, 1024] inb_S1024x4096_S1024x1024_0_0)

def queryW4 (c : Dev nD) (t : Fin cfg0.N) : Vec Ideal S1024x1024 .bf16 :=
  View.ld (iblk m c 5 t) (Rect.unit (s := S1024x4096) ![0, 1024] ![1024, 1024] inb_S1024x4096_S1024x1024_0_1024)

def queryW16 (c : Dev nD) (t : Fin cfg0.N) : Vec Ideal S1024x1024 .bf16 :=
  View.ld (iblk m c 5 t) (Rect.unit (s := S1024x4096) ![0, 2048] ![1024, 1024] inb_S1024x4096_S1024x1024_0_2048)

def gateW (c : Dev nD) (t : Fin cfg0.N) : Vec Ideal S1024x1024 .bf16 :=
  View.ld (iblk m c 5 t) (Rect.unit (s := S1024x4096) ![0, 3072] ![1024, 1024] inb_S1024x4096_S1024x1024_0_3072)

/-- The matrix that puts the rows of a block in the order of the sixteen phases. -/
def perm (c : Dev nD) (t : Fin cfg0.N) : Vec Ideal S1x512x512 .bf16 :=
  View.ld (iblk m c 8 t) (Rect.unit (s := S2x512x512) ![1, 0, 0] ![1, 512, 512] inb_S2x512x512_S1x512x512_1_0_0)

/-- The condition's scale and shift. -/
def scaleRow (c : Dev nD) (t : Fin cfg0.N) : Vec Ideal S1x1x1024 .f32 :=
  View.ld (iblk m c 1 t) (Rect.unit (s := S1x3x1024) ![0, 1, 0] ![1, 1, 1024] inb_S1x3x1024_S1x1x1024_0_1_0)

def shiftRow (c : Dev nD) (t : Fin cfg0.N) : Vec Ideal S1x1x1024 .f32 :=
  View.ld (iblk m c 1 t) (Rect.unit (s := S1x3x1024) ![0, 0, 0] ![1, 1, 1024] inb_S1x3x1024_S1x1x1024_0_0_0)

/-- The keys of a point. -/
def keyT (c : Dev nD) (t : Fin cfg0.N) : FVec Ideal S512x1024 .f32 :=
  ropeBlock (k0_pay1 (iblk m c 6 t)) (k0_pay2 (iblk m c 7 t)) (Scalar.ofBits .f32 0x3F800000#32) (k0_pay4 (iblk m c 0 t) (iblk m c 3 t) (keyW m c t))

/-- The values of a point. -/
def valueT (c : Dev nD) (t : Fin cfg0.N) : FVec Ideal S512x1024 .f32 := k0_pay78 (k0_pay3 (iblk m c 0 t) (iblk m c 3 t)) (valueW m c t)

/-- The modulated rows of a point. -/
def modT (c : Dev nD) (t : Fin cfg0.N) : FVec Ideal S512x1024 .bf16 :=
  k0_pay144 (iblk m c 2 t) (k0_pay143 (iblk m c 0 t)) (scaleRow m c t) (shiftRow m c t)

/-- The queries of a point under the weights `w`. -/
def queryT (c : Dev nD) (t : Fin cfg0.N) (w : Vec Ideal S1024x1024 .bf16) : FVec Ideal S512x1024 .f32 :=
  ropeBlock (k0_pay1 (iblk m c 6 t)) (k0_pay2 (iblk m c 7 t)) qs (k0_pay152 (modT m c t) w)

/-- The rows of a block in the order of the phases. -/
def permuted (c : Dev nD) (t : Fin cfg0.N) (X : FVec Ideal S512x1024 .f32) : FVec Ideal S512x1024 .bf16 :=
  k0_pay59 (truncf .bf16 X bitsLt_bf16_f32) (perm m c t)

variable (c : Dev nD) (t : Fin cfg0.N)

theorem out9 : (outsAt0 m c t).1 = stored1 (keyT m c t) := by
  unfold outsAt0
  dsimp only
  frame_out
  exact whole1 (truncf .bf16 (keyT m c t) bitsLt_bf16_f32)

theorem out10 : (outsAt0 m c t).2.1 = stored4 (keyT m c t) := by
  unfold outsAt0
  dsimp only
  frame_out
  exact canon_pieces4 (keyT m c t) []

theorem out11 : (outsAt0 m c t).2.2.1 = stored16 (permuted m c t (keyT m c t)) := by
  unfold outsAt0
  dsimp only
  frame_out
  exact canon_pieces16 (permuted m c t (keyT m c t))

theorem out12 : (outsAt0 m c t).2.2.2.1 = stored1 (valueT m c t) := by
  unfold outsAt0
  dsimp only
  frame_out
  exact whole1 (truncf .bf16 (valueT m c t) bitsLt_bf16_f32)

theorem out13 : (outsAt0 m c t).2.2.2.2.1 = stored4 (valueT m c t) := by
  unfold outsAt0
  dsimp only
  frame_out
  exact canon_pieces4 (valueT m c t) (scratch (keyT m c t) [])

theorem out14 : (outsAt0 m c t).2.2.2.2.2.1 = stored16 (permuted m c t (valueT m c t)) := by
  unfold outsAt0
  dsimp only
  frame_out
  exact canon_pieces16 (permuted m c t (valueT m c t))

theorem out15 : (outsAt0 m c t).2.2.2.2.2.2.1 = stored1 (queryT m c t (queryW1 m c t)) := by
  unfold outsAt0
  dsimp only
  frame_out
  exact whole1 (truncf .bf16 (queryT m c t (queryW1 m c t)) bitsLt_bf16_f32)

theorem out16 : (outsAt0 m c t).2.2.2.2.2.2.2.1 = stored4 (queryT m c t (queryW4 m c t)) := by
  unfold outsAt0
  dsimp only
  frame_out
  exact canon_pieces4 (queryT m c t (queryW4 m c t)) (scratch (valueT m c t) (scratch (keyT m c t) []))

theorem out17 : (outsAt0 m c t).2.2.2.2.2.2.2.2.1 = stored16 (permuted m c t (queryT m c t (queryW16 m c t))) := by
  unfold outsAt0
  dsimp only
  frame_out
  exact canon_pieces16 (permuted m c t (queryT m c t (queryW16 m c t)))

theorem out18 : (outsAt0 m c t).2.2.2.2.2.2.2.2.2 = k0_pay232 (modT m c t) (gateW m c t) := by
  unfold outsAt0
  dsimp only
  frame_out
  rfl

end Cert.Proj

end
-- ==== Proof.ProjPerm.lean ====
/-
The permutation matrix of dilation 16. It is computed before the launch, from an iota: row `p` has its one at
`p % 32 * 16 + p / 32`. Multiplying a block by it puts the rows in the order of the sixteen phases.
-/
module

public import proofs.«01_k».proof.Proof.ProjBody
public import Idealize.ShloMosaic.Lib.Pipeline.ValueKit
public import Idealize.ShloMosaic.Lib.StableHlo.RunRead
public import Idealize.ShloMosaic.Lib.StableHlo.RunClose

@[expose] public section

set_option maxRecDepth 16384

noncomputable section

open Idealize.ShloMosaic Idealize.ShloMosaic.TcCoe
open Cert.Kernel2Ideal Cert.Kernel2Ideal.Gen

namespace Cert.Proj

variable (m : (ℓ : Loc nD τ sig) → Buf (Elt Ideal) ℓ)

/-- The row a permuted block has at `p`. -/
def src (p : Fin 512) : Fin 512 := ⟨p.val % 32 * 16 + p.val / 32, by omega⟩

theorem indicator (w : BitVec 32) (k s : Fin 512) (h : w = BitVec.ofNat 32 k.val) :
    (FloatOps.uitofp .bf16 (IntOp.cmpi .eq w (BitVec.ofNat 32 s.val)) : Ideal .bf16) = if s = k then (1 : EReal) else 0 := by
  subst h
  have e : (BitVec.ofNat 32 k.val = BitVec.ofNat 32 s.val) ↔ s = k := by
    rw [← BitVec.toNat_inj, Fin.ext_iff, BitVec.toNat_ofNat, BitVec.toNat_ofNat]
    have := k.isLt
    have := s.isLt
    omega
  by_cases hs : s = k
  · rw [if_pos hs, show IntOp.cmpi .eq (BitVec.ofNat 32 k.val) (BitVec.ofNat 32 s.val) = 1#1 by simp [IntOp.cmpi, e.mpr hs]]
    show ((((1#1 : BitVec 1).toNat : ℝ) : EReal)) = 1
    simp
  · rw [if_neg hs, show IntOp.cmpi .eq (BitVec.ofNat 32 k.val) (BitVec.ofNat 32 s.val) = 0#1 by
      simp only [IntOp.cmpi]
      rw [beq_eq_false_iff_ne.mpr (mt e.mp hs)]
      rfl]
    show ((((0#1 : BitVec 1).toNat : ℝ) : EReal)) = 0
    simp

/-- The matrix as it is computed before the launch. -/
theorem matrix_at (c : Dev nD) (p s : Fin 512) : (V m c main_v25 : Vec Ideal S2x512x512 .bf16) (ix3 1 p s) = if s = src p then (1 : EReal) else 0 := by
  unfold V
  simp only [List.flatten_cons, List.flatten_nil, List.cons_append, List.nil_append, List.append_nil]
  after_reads_simp
  pointwise
  refine indicator _ (src p) s ?_
  revert p
  decide +kernel

theorem idx8 : ∀ t : Fin cfg0.N, win0_8.index t = ![0, 0, 0] := (by decide +kernel : ∀ t : Fin grid0.N, _)

theorem perm_at (c : Dev nD) (t : Fin cfg0.N) (p s : Fin 512) : perm m c t (ix3 0 p s) = if s = src p then (1 : EReal) else 0 := by
  rw [← matrix_at m c p s]
  unfold perm
  pointwise
  blk_ext [iblk, idx8 t]

/-- A permuted block has row `src p` at `p`. -/
theorem permuted_at (c : Dev nD) (t : Fin cfg0.N) (X : FVec Ideal S512x1024 .f32) (p : Fin 512) (l : Fin 1024) :
    permuted m c t X (ix2 p l) = X (ix2 (src p) l) := by
  unfold permuted
  pointwise [k0_pay59]
  simp only [perm_at, ite_mul, one_mul, zero_mul, Finset.sum_ite_eq', Finset.sum_ite_eq, Finset.mem_univ, if_true]

end Cert.Proj

end
-- ==== Proof.ProjRows.lean ====
/-
The ten results as functions of a row of the sequence (65536 rows, sixteen batches of 4096) and a lane, and the three
layouts they are stored in: at dilation `d`, position `n * d + r` of a batch is row `n`, lanes `r * 1024 …`.
-/
module

public import proofs.«01_k».proof.Proof.ProjPerm

@[expose] public section

set_option maxRecDepth 16384

noncomputable section

open Idealize.ShloMosaic Idealize.ShloMosaic.TcCoe
open Cert.Kernel2Ideal Cert.Kernel2Ideal.Gen

namespace Cert.Proj

section Rows

variable (H : Vec Ideal S65536x1024 .f32) (M : Vec Ideal S16x3x1024 .f32) (G : Vec Ideal S1x1024 .f32)
  (WKV : Vec Ideal S1024x2048 .bf16) (WIN : Vec Ideal S1024x4096 .bf16) (C S : Vec Ideal S3x65536x128 .f32) (R : Fin 65536)

/-- The row normalised. -/
def rmsRow : Fin 1024 → EReal := rms (fun d => H (ix2 R d)) (fun d => G (ix2 0 d))

/-- The row normalised and modulated by the condition of its batch. -/
def modRow : Fin 1024 → EReal :=
  modulate (rmsRow H G R) (fun d => M (ix3 (⟨R.val / 4096, by omega⟩ : Fin 16) 1 d)) (fun d => M (ix3 (⟨R.val / 4096, by omega⟩ : Fin 16) 0 d))

/-- The rotation of the row's position. -/
def turnRow (x : Fin 1024 → EReal) : Fin 1024 → EReal := rotary x (fun e => C (ix3 2 R e)) (fun e => S (ix3 2 R e))

/-- Lane `e` of the `i`-th half of the key-value weights. -/
def half (i : Fin 2) (e : Fin 1024) : Fin 2048 := ⟨i.val * 1024 + e.val, by omega⟩

/-- Lane `e` of the `i`-th quarter of the input weights. -/
def quarter (i : Fin 4) (e : Fin 1024) : Fin 4096 := ⟨i.val * 1024 + e.val, by omega⟩

def keyRow : Fin 1024 → EReal := turnRow C S R (project (rmsRow H G R) (fun d e => WKV (ix2 d (half 0 e))))

def valueRow : Fin 1024 → EReal := project (rmsRow H G R) (fun d e => WKV (ix2 d (half 1 e)))

def queryRow (i : Fin 4) (l : Fin 1024) : EReal := turnRow C S R (project (modRow H M G R) (fun d e => WIN (ix2 d (quarter i e)))) l * qscale

def gateRow (l : Fin 1024) : EReal := silu (project (modRow H M G R) (fun d e => WIN (ix2 d (quarter 3 e))) l)

end Rows

/-- Row `r` and lane `l` of a result. -/
def pick (f : Fin 65536 → Fin 1024 → EReal) (r l : ℕ) : EReal := f (Fin.ofNat 65536 r) (Fin.ofNat 1024 l)

theorem pick_eq (f : Fin 65536 → Fin 1024 → EReal) (R : Fin 65536) (l : Fin 1024) (r k : ℕ) (hr : R.val = r) (hl : l.val = k) : f R l = pick f r k := by
  unfold pick
  rw [show R = Fin.ofNat 65536 r from Fin.ext (by simp only [Fin.val_ofNat]; omega), show l = Fin.ofNat 1024 k from Fin.ext (by simp only [Fin.val_ofNat]; omega)]

def phases1 (f : Fin 65536 → Fin 1024 → EReal) : Vec Ideal S16x4096x1024 .bf16 := fun y => pick f ((y 0).val * 4096 + (y 1).val) (y 2).val

def phases4 (f : Fin 65536 → Fin 1024 → EReal) : Vec Ideal S16x1024x4096 .bf16 :=
  fun y => pick f ((y 0).val * 4096 + (y 1).val * 4 + (y 2).val / 1024) ((y 2).val % 1024)

def phases16 (f : Fin 65536 → Fin 1024 → EReal) : Vec Ideal S16x256x16384 .bf16 :=
  fun y => pick f ((y 0).val * 4096 + (y 1).val * 16 + (y 2).val / 1024) ((y 2).val % 1024)

def plain (f : Fin 65536 → Fin 1024 → EReal) : Vec Ideal S65536x1024 .bf16 := fun y => f (y 0) (y 1)

/-- A block of rows starting at row `512 t`. -/
def Holds (X : S512x1024.Idx → EReal) (f : Fin 65536 → Fin 1024 → EReal) (t : ℕ) : Prop :=
  ∀ (p : Fin 512) (l : Fin 1024), X (ix2 p l) = pick f (t * 512 + p.val) l.val

theorem cell_pick {X : S512x1024.Idx → EReal} {f : Fin 65536 → Fin 1024 → EReal} {t : ℕ} (h : Holds X f t) (p l : ℕ) (hp : p < 512) (hl : l < 1024) :
    cell X p l = pick f (t * 512 + p) l := by
  have e := h ⟨p, hp⟩ ⟨l, hl⟩
  rw [← e]
  exact (cell_eq X p l ⟨p, hp⟩ ⟨l, hl⟩ rfl rfl).symm

theorem stored1_at {X : S512x1024.Idx → EReal} {f : Fin 65536 → Fin 1024 → EReal} {t : ℕ} (h : Holds X f t) (y : S1x512x1024.Idx) (i : S16x4096x1024.Idx)
    (h0 : (i 0).val = t / 8) (h1 : (i 1).val = t % 8 * 512 + (y 1).val) (h2 : (i 2).val = (y 2).val) : stored1 X y = phases1 f i := by
  have hy1 : (y 1).val < 512 := (y 1).isLt
  have hy2 : (y 2).val < 1024 := (y 2).isLt
  unfold stored1 phases1
  rw [cell_pick h _ _ hy1 hy2, h0, h1, h2]
  exact congrArg₂ (pick f) (by omega) rfl

theorem stored4_at {X : S512x1024.Idx → EReal} {f : Fin 65536 → Fin 1024 → EReal} {t : ℕ} (h : Holds X f t) (y : S1x128x4096.Idx) (i : S16x1024x4096.Idx)
    (h0 : (i 0).val = t / 8) (h1 : (i 1).val = t % 8 * 128 + (y 1).val) (h2 : (i 2).val = (y 2).val) : stored4 X y = phases4 f i := by
  have hy1 : (y 1).val < 128 := (y 1).isLt
  have hy2 : (y 2).val < 4096 := (y 2).isLt
  unfold stored4 phases4
  rw [cell_pick h _ _ (by omega) (by omega), h0, h1, h2]
  exact congrArg₂ (pick f) (by omega) rfl

/-- For dilation 16 the block's rows are in the order of the phases. -/
theorem stored16_at {X Y : S512x1024.Idx → EReal} {f : Fin 65536 → Fin 1024 → EReal} {t : ℕ} (h : Holds X f t)
    (hY : ∀ (p : Fin 512) (l : Fin 1024), Y (ix2 p l) = X (ix2 (src p) l)) (y : S1x32x16384.Idx) (i : S16x256x16384.Idx)
    (h0 : (i 0).val = t / 8) (h1 : (i 1).val = t % 8 * 32 + (y 1).val) (h2 : (i 2).val = (y 2).val) : stored16 Y y = phases16 f i := by
  have hy1 : (y 1).val < 32 := (y 1).isLt
  have hy2 : (y 2).val < 16384 := (y 2).isLt
  have hp : (y 2).val / 1024 * 32 + (y 1).val < 512 := by omega
  have hl : (y 2).val % 1024 < 1024 := by omega
  unfold stored16 phases16
  rw [← cell_eq Y _ _ ⟨_, hp⟩ ⟨_, hl⟩ rfl rfl, hY, h, h0, h1, h2]
  exact congrArg₂ (pick f) (by simp only [src]; omega) rfl

end Cert.Proj

end
-- ==== Proof.ProjArray.lean ====
/-
The ten arrays after the run. Point `t` of the 128 has rows `512 t …` of the sequence, of batch `t / 8`.
-/
module

public import proofs.«01_k».proof.Proof.ProjRows
public import Idealize.ShloMosaic.Lib.Pipeline.Covers

@[expose] public section

set_option maxRecDepth 16384

noncomputable section

open Idealize.ShloMosaic Idealize.ShloMosaic.TcCoe Idealize.SL.Sem
open Cert.Kernel2Ideal Cert.Kernel2Ideal.Gen

namespace Cert.Proj

variable (m : (ℓ : Loc nD τ sig) → Buf (Elt Ideal) ℓ) (c : Dev nD)

/-! The operands, and the results' rows in terms of them. -/

abbrev hidden : Vec Ideal S65536x1024 .f32 := m ((c : Thread nD τ).loc main_arg0)
abbrev condition : Vec Ideal S16x3x1024 .f32 := m ((c : Thread nD τ).loc main_arg1)
abbrev gain : Vec Ideal S1x1024 .f32 := m ((c : Thread nD τ).loc main_arg2)
abbrev kvGain : Vec Ideal S1x1024 .f32 := m ((c : Thread nD τ).loc main_arg3)
abbrev kvWeights : Vec Ideal S1024x2048 .bf16 := m ((c : Thread nD τ).loc main_arg4)
abbrev inWeights : Vec Ideal S1024x4096 .bf16 := m ((c : Thread nD τ).loc main_arg5)
abbrev cosTable : Vec Ideal S3x65536x128 .f32 := m ((c : Thread nD τ).loc main_arg6)
abbrev sinTable : Vec Ideal S3x65536x128 .f32 := m ((c : Thread nD τ).loc main_arg7)

abbrev keys : Fin 65536 → Fin 1024 → EReal := keyRow (hidden m c) (kvGain m c) (kvWeights m c) (cosTable m c) (sinTable m c)
abbrev values : Fin 65536 → Fin 1024 → EReal := valueRow (hidden m c) (kvGain m c) (kvWeights m c)
abbrev queries (i : Fin 4) : Fin 65536 → Fin 1024 → EReal := fun R =>
  queryRow (hidden m c) (condition m c) (gain m c) (inWeights m c) (cosTable m c) (sinTable m c) R i
abbrev gates : Fin 65536 → Fin 1024 → EReal := gateRow (hidden m c) (condition m c) (gain m c) (inWeights m c)

theorem idx : ∀ t : Fin cfg0.N, win0_0.index t = ![t.val, 0] ∧ win0_1.index t = ![t.val / 8, 0, 0] ∧ win0_2.index t = ![0, 0]
    ∧ win0_3.index t = ![0, 0] ∧ win0_4.index t = ![0, 0] ∧ win0_5.index t = ![0, 0] ∧ win0_6.index t = ![2, t.val, 0] ∧ win0_7.index t = ![2, t.val, 0]
    ∧ win0_18.index t = ![t.val, 0] ∧ t.val < 128 :=
  (by decide +kernel : ∀ t : Fin grid0.N, _)

theorem idxOut : ∀ t : Fin cfg0.N, win0_9.index t = ![t.val / 8, t.val % 8, 0] ∧ win0_10.index t = ![t.val / 8, t.val % 8, 0]
    ∧ win0_11.index t = ![t.val / 8, t.val % 8, 0] ∧ win0_12.index t = ![t.val / 8, t.val % 8, 0] ∧ win0_13.index t = ![t.val / 8, t.val % 8, 0]
    ∧ win0_14.index t = ![t.val / 8, t.val % 8, 0] ∧ win0_15.index t = ![t.val / 8, t.val % 8, 0] ∧ win0_16.index t = ![t.val / 8, t.val % 8, 0]
    ∧ win0_17.index t = ![t.val / 8, t.val % 8, 0] :=
  (by decide +kernel : ∀ t : Fin grid0.N, _)

/-- The row of the sequence that row `p` of point `t` is. -/
def rowOf (t : Fin cfg0.N) (p : Fin 512) : Fin 65536 := ⟨t.val * 512 + p.val, by have := (idx t).2.2.2.2.2.2.2.2.2; omega⟩

variable (t : Fin cfg0.N)

theorem hidden_blk (p : Fin 512) (d : Fin 1024) : iblk m c 0 t (ix2 p d) = hidden m c (ix2 (rowOf t p) d) := by
  unfold rowOf
  blk_ext [iblk, V, idx t]

theorem condition_blk (p : Fin 512) (i : Fin 3) (d : Fin 1024) :
    iblk m c 1 t (ix3 0 i d) = condition m c (ix3 (⟨(rowOf t p).val / 4096, by have := (rowOf t p).isLt; omega⟩ : Fin 16) i d) := by
  have := p.isLt
  unfold rowOf
  blk_ext [iblk, V, idx t] <;> omega

theorem gain_blk (d : Fin 1024) : iblk m c 2 t (ix2 0 d) = gain m c (ix2 0 d) := by blk_ext [iblk, V, idx t]

theorem kvGain_blk (d : Fin 1024) : iblk m c 3 t (ix2 0 d) = kvGain m c (ix2 0 d) := by blk_ext [iblk, V, idx t]

theorem kvWeights_blk (d : Fin 1024) (e : Fin 2048) : iblk m c 4 t (ix2 d e) = kvWeights m c (ix2 d e) := by blk_ext [iblk, V, idx t]

theorem inWeights_blk (d : Fin 1024) (e : Fin 4096) : iblk m c 5 t (ix2 d e) = inWeights m c (ix2 d e) := by blk_ext [iblk, V, idx t]

theorem cos_blk (p : Fin 512) (e : Fin 128) : iblk m c 6 t (ix3 0 p e) = cosTable m c (ix3 2 (rowOf t p) e) := by
  unfold rowOf
  blk_ext [iblk, V, idx t]

theorem sin_blk (p : Fin 512) (e : Fin 128) : iblk m c 7 t (ix3 0 p e) = sinTable m c (ix3 2 (rowOf t p) e) := by
  unfold rowOf
  blk_ext [iblk, V, idx t]

/-! The weights a point cuts out of its blocks. -/

theorem half_zero (e : Fin 1024) : half 0 e = ⟨e.val, by omega⟩ := Fin.ext (by simp [half])

theorem quarter_zero (e : Fin 1024) : quarter 0 e = ⟨e.val, by omega⟩ := Fin.ext (by simp [quarter])

theorem keyW_at (d e : Fin 1024) : keyW m c t (ix2 d e) = kvWeights m c (ix2 d (half 0 e)) := by
  rw [← kvWeights_blk m c t, half_zero]
  pointwise [keyW]

theorem valueW_at (d e : Fin 1024) : valueW m c t (ix2 d e) = kvWeights m c (ix2 d (half 1 e)) := by
  rw [← kvWeights_blk m c t]
  pointwise [valueW]
  rfl

theorem queryW1_at (d e : Fin 1024) : queryW1 m c t (ix2 d e) = inWeights m c (ix2 d (quarter 0 e)) := by
  rw [← inWeights_blk m c t, quarter_zero]
  pointwise [queryW1]

theorem queryW4_at (d e : Fin 1024) : queryW4 m c t (ix2 d e) = inWeights m c (ix2 d (quarter 1 e)) := by
  rw [← inWeights_blk m c t]
  pointwise [queryW4]
  rfl

theorem queryW16_at (d e : Fin 1024) : queryW16 m c t (ix2 d e) = inWeights m c (ix2 d (quarter 2 e)) := by
  rw [← inWeights_blk m c t]
  pointwise [queryW16]
  rfl

theorem gateW_at (d e : Fin 1024) : gateW m c t (ix2 d e) = inWeights m c (ix2 d (quarter 3 e)) := by
  rw [← inWeights_blk m c t]
  pointwise [gateW]
  rfl

theorem scale_at (p : Fin 512) (d : Fin 1024) :
    scaleRow m c t (ix3 0 0 d) = condition m c (ix3 (⟨(rowOf t p).val / 4096, by have := (rowOf t p).isLt; omega⟩ : Fin 16) 1 d) := by
  rw [← condition_blk m c t]
  pointwise [scaleRow]

theorem shift_at (p : Fin 512) (d : Fin 1024) :
    shiftRow m c t (ix3 0 0 d) = condition m c (ix3 (⟨(rowOf t p).val / 4096, by have := (rowOf t p).isLt; omega⟩ : Fin 16) 0 d) := by
  rw [← condition_blk m c t]
  pointwise [shiftRow]

/-! The matrices of a point. -/

theorem holds_keys : Holds (keyT m c t) (keys m c) t.val := by
  intro p l
  rw [← pick_eq (keys m c) (rowOf t p) l (t.val * 512 + p.val) l.val rfl rfl]
  refine (keys_apply _ _ _ _ _ p l).trans ?_
  simp only [hidden_blk, kvGain_blk, cos_blk, sin_blk, keyW_at]
  rfl

theorem holds_values : Holds (valueT m c t) (values m c) t.val := by
  intro p l
  rw [← pick_eq (values m c) (rowOf t p) l (t.val * 512 + p.val) l.val rfl rfl]
  refine (values_apply _ _ _ p l).trans ?_
  simp only [hidden_blk, kvGain_blk, valueW_at]
  rfl

theorem holds_queries (w : Vec Ideal S1024x1024 .bf16) (i : Fin 4) (hw : ∀ d e, w (ix2 d e) = inWeights m c (ix2 d (quarter i e))) :
    Holds (queryT m c t w) (queries m c i) t.val := by
  intro p l
  rw [← pick_eq (queries m c i) (rowOf t p) l (t.val * 512 + p.val) l.val rfl rfl]
  refine (queries_apply _ _ _ _ _ _ _ p l).trans ?_
  simp only [hidden_blk, gain_blk, cos_blk, sin_blk, hw, scale_at m c t p, shift_at m c t p]
  rfl

theorem gate_at (p : Fin 512) (l : Fin 1024) : k0_pay232 (modT m c t) (gateW m c t) (ix2 p l) = gates m c (rowOf t p) l := by
  refine (gate_apply _ _ _ _ _ p l).trans ?_
  simp only [hidden_blk, gain_blk, gateW_at, scale_at m c t p, shift_at m c t p]
  rfl

/-! The arrays. -/

theorem final_k1 : (dats m 0 c).arrAt 9 cfg0.N = phases1 (keys m c) := by
  refine (dats m 0 c).arrAt_eq_of_covers 9 _ (by decide +kernel) fun t _ y => ?_
  blk_simp
  rw [after0_9, out9 m c t]
  refine stored1_at (holds_keys m c t) y _ ?_ ?_ ?_ <;> blk_simp [idxOut t]

theorem final_k4 : (dats m 0 c).arrAt 10 cfg0.N = phases4 (keys m c) := by
  refine (dats m 0 c).arrAt_eq_of_covers 10 _ (by decide +kernel) fun t _ y => ?_
  blk_simp
  rw [after0_10, out10 m c t]
  refine stored4_at (holds_keys m c t) y _ ?_ ?_ ?_ <;> blk_simp [idxOut t]

theorem final_k16 : (dats m 0 c).arrAt 11 cfg0.N = phases16 (keys m c) := by
  refine (dats m 0 c).arrAt_eq_of_covers 11 _ (by decide +kernel) fun t _ y => ?_
  blk_simp
  rw [after0_11, out11 m c t]
  refine stored16_at (holds_keys m c t) (permuted_at m c t _) y _ ?_ ?_ ?_ <;> blk_simp [idxOut t]

theorem final_v1 : (dats m 0 c).arrAt 12 cfg0.N = phases1 (values m c) := by
  refine (dats m 0 c).arrAt_eq_of_covers 12 _ (by decide +kernel) fun t _ y => ?_
  blk_simp
  rw [after0_12, out12 m c t]
  refine stored1_at (holds_values m c t) y _ ?_ ?_ ?_ <;> blk_simp [idxOut t]

theorem final_v4 : (dats m 0 c).arrAt 13 cfg0.N = phases4 (values m c) := by
  refine (dats m 0 c).arrAt_eq_of_covers 13 _ (by decide +kernel) fun t _ y => ?_
  blk_simp
  rw [after0_13, out13 m c t]
  refine stored4_at (holds_values m c t) y _ ?_ ?_ ?_ <;> blk_simp [idxOut t]

theorem final_v16 : (dats m 0 c).arrAt 14 cfg0.N = phases16 (values m c) := by
  refine (dats m 0 c).arrAt_eq_of_covers 14 _ (by decide +kernel) fun t _ y => ?_
  blk_simp
  rw [after0_14, out14 m c t]
  refine stored16_at (holds_values m c t) (permuted_at m c t _) y _ ?_ ?_ ?_ <;> blk_simp [idxOut t]

theorem final_q1 : (dats m 0 c).arrAt 15 cfg0.N = phases1 (queries m c 0) := by
  refine (dats m 0 c).arrAt_eq_of_covers 15 _ (by decide +kernel) fun t _ y => ?_
  blk_simp
  rw [after0_15, out15 m c t]
  refine stored1_at (holds_queries m c t _ 0 (queryW1_at m c t)) y _ ?_ ?_ ?_ <;> blk_simp [idxOut t]

theorem final_q4 : (dats m 0 c).arrAt 16 cfg0.N = phases4 (queries m c 1) := by
  refine (dats m 0 c).arrAt_eq_of_covers 16 _ (by decide +kernel) fun t _ y => ?_
  blk_simp
  rw [after0_16, out16 m c t]
  refine stored4_at (holds_queries m c t _ 1 (queryW4_at m c t)) y _ ?_ ?_ ?_ <;> blk_simp [idxOut t]

theorem final_q16 : (dats m 0 c).arrAt 17 cfg0.N = phases16 (queries m c 2) := by
  refine (dats m 0 c).arrAt_eq_of_covers 17 _ (by decide +kernel) fun t _ y => ?_
  blk_simp
  rw [after0_17, out17 m c t]
  refine stored16_at (holds_queries m c t _ 2 (queryW16_at m c t)) (permuted_at m c t _) y _ ?_ ?_ ?_ <;> blk_simp [idxOut t]

theorem final_gate : (dats m 0 c).arrAt 18 cfg0.N = plain (gates m c) := by
  refine (dats m 0 c).arrAt_eq_of_covers 18 _ (by decide +kernel) fun t _ y => ?_
  blk_simp
  rw [after0_18, out18 m c t]
  obtain ⟨p, l, rfl⟩ : ∃ p l, y = ix2 p l := ⟨y 0, y 1, by funext a; fin_cases a <;> rfl⟩
  refine (gate_at m c t p l).trans ?_
  unfold plain
  refine congrArg₂ (gates m c) ?_ ?_ <;> refine Fin.ext ?_ <;> blk_simp [idx t] <;> rfl

end Cert.Proj

end
-- ==== Proof.ProjReference.lean ====
/-
The reference's ten results. Its matrices hold all 65536 rows at once; the rotation takes a head's two halves apart,
and the dilated layouts are reshapes.
-/
module

public import proofs.«01_k».proof.Proof.ProjRows
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem
open Cert.Reference2Ideal Cert.Reference2Ideal.Gen Cert.Reference2Ideal.Read

namespace Cert.Proj.Ref

variable (x0 : Vec Ideal S65536x1024 .f32) (x1 : Vec Ideal S16x3x1024 .f32) (x2 x3 : Vec Ideal S1x1024 .f32)
  (x4 : Vec Ideal S1024x2048 .bf16) (x5 : Vec Ideal S1024x4096 .bf16) (x6 x7 : Vec Ideal S3x65536x128 .f32)

/-! Normalised rows and the products. -/

theorem norm_at (R : Fin 65536) (d : Fin 1024) : val_main_v15 (F := Ideal) x0 x3 (ix2 R d) = rmsRow x0 x3 R d := by
  pointwise [val_main_v15, val_main_v14, val_main_v13, val_main_v12, val_main_v11, val_main_v10, val_main_v9, val_main_v8, val_main_v7, val_main_v6,
    val_main_v5, val_main_v4, val_main_cst, val_main_cst_0, val_main_cst_1]
  rfl

theorem kv_at (R : Fin 65536) (e : Fin 2048) : val_main_v17 (F := Ideal) x0 x3 x4 (ix2 R e) = ∑ d, rmsRow x0 x3 R d * x4 (ix2 d e) := by
  simp only [← norm_at]
  pointwise [val_main_v17, val_main_v16]

theorem mod_at (R : Fin 65536) (d : Fin 1024) : val_main_v62 (F := Ideal) x0 x1 x2 (ix2 R d) = modRow x0 x1 x2 R d := by
  unfold modRow modulate
  rw [← norm_at]
  have e : val_main_v54 (F := Ideal) x0 x2 = val_main_v15 (F := Ideal) x0 x2 := rfl
  pointwise [val_main_v62, val_main_v61, val_main_v60, val_main_v59, val_main_v58, val_main_v57, val_main_v56, val_main_v55, val_main_v42, val_main_v41, val_main_cst_5]
  rw [e]

theorem proj_at (R : Fin 65536) (e : Fin 4096) : val_main_v64 (F := Ideal) x0 x1 x2 x5 (ix2 R e) = ∑ d, modRow x0 x1 x2 R d * x5 (ix2 d e) := by
  simp only [← mod_at]
  pointwise [val_main_v64, val_main_v63]

/-! The rotation, of any matrix. -/

/-- The two halves of every head. -/
def half1 (T : FVec Ideal S65536x1024 .f32) : FVec Ideal S65536x8x64 .f32 :=
  extractStridedSlice S65536x8x64 ![0, 0, 0] (shapeCast S65536x8x128 T shapeCasts_S65536x1024_S65536x8x128) slices_S65536x8x128_S65536x8x64_0_0_0

def half2 (T : FVec Ideal S65536x1024 .f32) : FVec Ideal S65536x8x64 .f32 :=
  extractStridedSlice S65536x8x64 ![0, 0, 64] (shapeCast S65536x8x128 T shapeCasts_S65536x1024_S65536x8x128) slices_S65536x8x128_S65536x8x64_0_0_64

/-- Every head rotated. -/
def rotated (T : FVec Ideal S65536x1024 .f32) : FVec Ideal S65536x1024 .f32 :=
  shapeCast S65536x1024 (concatenate S65536x8x128 2
    [⟨S65536x8x64, addf (mulf (half1 T) (val_main_v28 (F := Ideal) x6)) (mulf (half2 T) (val_main_v30 (F := Ideal) x7))⟩,
     ⟨S65536x8x64, addf (mulf (half2 T) (val_main_v33 (F := Ideal) x6)) (mulf (half1 T) (val_main_v35 (F := Ideal) x7))⟩]
    concatenates_S65536x8x64_S65536x8x64_S65536x8x128_d2) shapeCasts_S65536x8x128_S65536x1024

theorem pair (T : FVec Ideal S65536x1024 .f32) (R : Fin 65536) (a b l p : Fin 1024) (d i : Fin 128) (ha : a = l) (hb : b = p) (hd : d = i) :
    (T (ix2 R a) * x6 (ix3 2 R d) + T (ix2 R b) * x7 (ix3 2 R d) : EReal) = T (ix2 R l) * x6 (ix3 2 R i) + T (ix2 R p) * x7 (ix3 2 R i) := by
  subst ha hb hd
  rfl

theorem rotated_at (T : FVec Ideal S65536x1024 .f32) (R : Fin 65536) (l : Fin 1024) : rotated x6 x7 T (ix2 R l) = turnRow x6 x7 R (fun e => T (ix2 R e)) l := by
  unfold turnRow rotary inHead partner
  pointwise [rotated, half1, half2, val_main_v28, val_main_v30, val_main_v33, val_main_v35, val_main_v22, val_main_v23, val_main_v24, val_main_v25, val_main_v26,
    val_main_v27, val_main_v0, val_main_v1, val_main_v2, val_main_v3]
  have hl := l.isLt
  split
  · exact pair x6 x7 T R _ _ _ _ _ _ rfl (Fin.ext (by dsimp only; omega)) rfl
  · exact pair x6 x7 T R _ _ _ _ _ _ (Fin.ext (by dsimp only; omega)) (Fin.ext (by dsimp only; omega)) (Fin.ext (by dsimp only; omega))

theorem keys_at (R : Fin 65536) (l : Fin 1024) : val_main_v39 (F := Ideal) x0 x3 x4 x6 x7 (ix2 R l) = keyRow x0 x3 x4 x6 x7 R l := by
  refine (rotated_at x6 x7 (val_main_v18 (F := Ideal) x0 x3 x4) R l).trans ?_
  unfold keyRow
  refine congrArg (fun x => turnRow x6 x7 R x l) (funext fun e => ?_)
  refine Eq.trans ?_ (kv_at x0 x3 x4 R (half 0 e))
  rw [show half 0 e = ⟨e.val, by omega⟩ from Fin.ext (by simp [half])]
  pointwise [val_main_v18]

theorem values_at (R : Fin 65536) (l : Fin 1024) : val_main_v40 (F := Ideal) x0 x3 x4 (ix2 R l) = valueRow x0 x3 x4 R l := by
  refine Eq.trans ?_ (kv_at x0 x3 x4 R (half 1 l))
  pointwise [val_main_v40]
  rfl

/-- The scaling of the queries. -/
def scaled (T : FVec Ideal S65536x1024 .f32) : FVec Ideal S65536x1024 .f32 :=
  Host.divf (Host.divf T (val_main_v88 (F := Ideal))) (val_main_v91 (F := Ideal))

theorem scaled_at (T : FVec Ideal S65536x1024 .f32) (R : Fin 65536) (l : Fin 1024) : scaled T (ix2 R l) = T (ix2 R l) * qscale := by
  rw [← div_div_eq]
  pointwise [scaled, val_main_v88, val_main_v91, val_main_v87, val_main_v90, val_main_cst_6, val_main_cst_7]

theorem query_at (i : Fin 4) (T : FVec Ideal S65536x1024 .f32) (hT : ∀ R e, T (ix2 R e) = val_main_v64 (F := Ideal) x0 x1 x2 x5 (ix2 R (quarter i e)))
    (R : Fin 65536) (l : Fin 1024) : scaled (rotated x6 x7 T) (ix2 R l) = queryRow x0 x1 x2 x5 x6 x7 R i l := by
  rw [scaled_at, rotated_at]
  simp only [hT, proj_at]
  rfl

theorem query1_at (R : Fin 65536) (l : Fin 1024) : val_main_v92 (F := Ideal) x0 x1 x2 x5 x6 x7 (ix2 R l) = queryRow x0 x1 x2 x5 x6 x7 R 0 l := by
  refine query_at x0 x1 x2 x5 x6 x7 0 (val_main_v65 (F := Ideal) x0 x1 x2 x5) (fun R e => ?_) R l
  rw [show quarter 0 e = ⟨e.val, by omega⟩ from Fin.ext (by simp [quarter])]
  pointwise [val_main_v65]

theorem query4_at (R : Fin 65536) (l : Fin 1024) : val_main_v120 (F := Ideal) x0 x1 x2 x5 x6 x7 (ix2 R l) = queryRow x0 x1 x2 x5 x6 x7 R 1 l := by
  refine query_at x0 x1 x2 x5 x6 x7 1 (val_main_v93 (F := Ideal) x0 x1 x2 x5) (fun R e => ?_) R l
  pointwise [val_main_v93]
  rfl

theorem query16_at (R : Fin 65536) (l : Fin 1024) : val_main_v148 (F := Ideal) x0 x1 x2 x5 x6 x7 (ix2 R l) = queryRow x0 x1 x2 x5 x6 x7 R 2 l := by
  refine query_at x0 x1 x2 x5 x6 x7 2 (val_main_v121 (F := Ideal) x0 x1 x2 x5) (fun R e => ?_) R l
  pointwise [val_main_v121]
  rfl

theorem gate_at (R : Fin 65536) (l : Fin 1024) : val_main_v169 (F := Ideal) x0 x1 x2 x5 (ix2 R l) = gateRow x0 x1 x2 x5 R l := by
  have e : val_main_v149 (F := Ideal) x0 x1 x2 x5 (ix2 R l) = project (modRow x0 x1 x2 R) (fun d e => x5 (ix2 d (quarter 3 e))) l := by
    refine Eq.trans ?_ (proj_at x0 x1 x2 x5 R (quarter 3 l))
    pointwise [val_main_v149]
    rfl
  unfold gateRow silu
  rw [← e, sub_eq_add_neg, zero_add]
  pointwise [val_main_v169, val_main_v150, val_main_call0_v5, val_main_call0_v4, val_main_call0_v3, val_main_call0_v2, val_main_call0_v1, val_main_call0_v0,
    val_main_call0_cst, val_main_call0_cst_0]

/-! The layouts. -/

theorem layout1 (T : FVec Ideal S65536x1024 .f32) (f : Fin 65536 → Fin 1024 → EReal) (h : ∀ R l, T (ix2 R l) = f R l) :
    truncf .bf16 (shapeCast S16x4096x1024 T shapeCasts_S65536x1024_S16x4096x1024) bitsLt_bf16_f32 = phases1 f := by
  funext y
  obtain ⟨b, n, l, rfl⟩ : ∃ b n l, y = ix3 b n l := ⟨y 0, y 1, y 2, by funext a; fin_cases a <;> rfl⟩
  pointwise
  rw [h]
  exact pick_eq f _ _ _ _ rfl rfl

theorem layout4 (T : FVec Ideal S65536x1024 .f32) (f : Fin 65536 → Fin 1024 → EReal) (h : ∀ R l, T (ix2 R l) = f R l) :
    truncf .bf16 (shapeCast S16x1024x4096 T shapeCasts_S65536x1024_S16x1024x4096) bitsLt_bf16_f32 = phases4 f := by
  funext y
  obtain ⟨b, n, l, rfl⟩ : ∃ b n l, y = ix3 b n l := ⟨y 0, y 1, y 2, by funext a; fin_cases a <;> rfl⟩
  pointwise
  rw [h]
  exact pick_eq f _ _ _ _ rfl rfl

theorem layout16 (T : FVec Ideal S65536x1024 .f32) (f : Fin 65536 → Fin 1024 → EReal) (h : ∀ R l, T (ix2 R l) = f R l) :
    truncf .bf16 (shapeCast S16x256x16384 T shapeCasts_S65536x1024_S16x256x16384) bitsLt_bf16_f32 = phases16 f := by
  funext y
  obtain ⟨b, n, l, rfl⟩ : ∃ b n l, y = ix3 b n l := ⟨y 0, y 1, y 2, by funext a; fin_cases a <;> rfl⟩
  pointwise
  rw [h]
  exact pick_eq f _ _ _ _ rfl rfl

/-! The ten results. -/

theorem k1_eq : val_main_v152 (F := Ideal) x0 x3 x4 x6 x7 = phases1 (keyRow x0 x3 x4 x6 x7) := layout1 _ _ (keys_at x0 x3 x4 x6 x7)
theorem k4_eq : val_main_v154 (F := Ideal) x0 x3 x4 x6 x7 = phases4 (keyRow x0 x3 x4 x6 x7) := layout4 _ _ (keys_at x0 x3 x4 x6 x7)
theorem k16_eq : val_main_v156 (F := Ideal) x0 x3 x4 x6 x7 = phases16 (keyRow x0 x3 x4 x6 x7) := layout16 _ _ (keys_at x0 x3 x4 x6 x7)
theorem v1_eq : val_main_v158 (F := Ideal) x0 x3 x4 = phases1 (valueRow x0 x3 x4) := layout1 _ _ (values_at x0 x3 x4)
theorem v4_eq : val_main_v160 (F := Ideal) x0 x3 x4 = phases4 (valueRow x0 x3 x4) := layout4 _ _ (values_at x0 x3 x4)
theorem v16_eq : val_main_v162 (F := Ideal) x0 x3 x4 = phases16 (valueRow x0 x3 x4) := layout16 _ _ (values_at x0 x3 x4)
theorem q1_eq : val_main_v164 (F := Ideal) x0 x1 x2 x5 x6 x7 = phases1 (fun R => queryRow x0 x1 x2 x5 x6 x7 R 0) := layout1 _ _ (query1_at x0 x1 x2 x5 x6 x7)
theorem q4_eq : val_main_v166 (F := Ideal) x0 x1 x2 x5 x6 x7 = phases4 (fun R => queryRow x0 x1 x2 x5 x6 x7 R 1) := layout4 _ _ (query4_at x0 x1 x2 x5 x6 x7)
theorem q16_eq : val_main_v168 (F := Ideal) x0 x1 x2 x5 x6 x7 = phases16 (fun R => queryRow x0 x1 x2 x5 x6 x7 R 2) := layout16 _ _ (query16_at x0 x1 x2 x5 x6 x7)
theorem gate_eq : val_main_v169 (F := Ideal) x0 x1 x2 x5 = plain (gateRow x0 x1 x2 x5) := by
  funext y
  obtain ⟨R, l, rfl⟩ : ∃ R l, y = ix2 R l := ⟨y 0, y 1, by funext a; fin_cases a <;> rfl⟩
  exact gate_at x0 x1 x2 x5 R l

end Cert.Proj.Ref

end
-- ==== Proof.ProjRun.lean ====
/-
The reference's run ends with the specification's ten arrays, at every device, and keeps its arguments.
-/
module

public import proofs.«01_k».proof.Proof.ProjReference
public import proofs.«01_k».proof.Proof.Gen.Reference2Ideal.Run
public import proofs.«01_k».proof.Proof.Gen.Reference2Ideal.Read

@[expose] public section

noncomputable section

namespace Cert.Proj.Ref

open Idealize.ShloMosaic Idealize.ShloMosaic.TcCoe Idealize.SL.Sem
open Cert.Reference2Ideal Cert.Reference2Ideal.Gen Cert.Reference2Ideal.Read

section Arguments

variable (m : (ℓ : Loc nD τ sig) → Buf (Elt Ideal) ℓ) (c : Dev nD)

/-! The reference's eight arguments on a device. -/

abbrev hidden : Vec Ideal S65536x1024 .f32 := m ((c : Thread nD τ).loc main_arg0)
abbrev condition : Vec Ideal S16x3x1024 .f32 := m ((c : Thread nD τ).loc main_arg1)
abbrev gain : Vec Ideal S1x1024 .f32 := m ((c : Thread nD τ).loc main_arg2)
abbrev kvGain : Vec Ideal S1x1024 .f32 := m ((c : Thread nD τ).loc main_arg3)
abbrev kvWeights : Vec Ideal S1024x2048 .bf16 := m ((c : Thread nD τ).loc main_arg4)
abbrev inWeights : Vec Ideal S1024x4096 .bf16 := m ((c : Thread nD τ).loc main_arg5)
abbrev cosTable : Vec Ideal S3x65536x128 .f32 := m ((c : Thread nD τ).loc main_arg6)
abbrev sinTable : Vec Ideal S3x65536x128 .f32 := m ((c : Thread nD τ).loc main_arg7)

end Arguments

theorem run_spec (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v152) = phases1 (keyRow (hidden m c) (kvGain m c) (kvWeights m c) (cosTable m c) (sinTable m c))
      ∧ r.2.mem ((c.tc : Thread nD τ).loc main_v154) = phases4 (keyRow (hidden m c) (kvGain m c) (kvWeights m c) (cosTable m c) (sinTable m c))
      ∧ r.2.mem ((c.tc : Thread nD τ).loc main_v156) = phases16 (keyRow (hidden m c) (kvGain m c) (kvWeights m c) (cosTable m c) (sinTable m c))
      ∧ r.2.mem ((c.tc : Thread nD τ).loc main_v158) = phases1 (valueRow (hidden m c) (kvGain m c) (kvWeights m c))
      ∧ r.2.mem ((c.tc : Thread nD τ).loc main_v160) = phases4 (valueRow (hidden m c) (kvGain m c) (kvWeights m c))
      ∧ r.2.mem ((c.tc : Thread nD τ).loc main_v162) = phases16 (valueRow (hidden m c) (kvGain m c) (kvWeights m c))
      ∧ r.2.mem ((c.tc : Thread nD τ).loc main_v164) = phases1 (fun R => queryRow (hidden m c) (condition m c) (gain m c) (inWeights m c) (cosTable m c) (sinTable m c) R 0)
      ∧ r.2.mem ((c.tc : Thread nD τ).loc main_v166) = phases4 (fun R => queryRow (hidden m c) (condition m c) (gain m c) (inWeights m c) (cosTable m c) (sinTable m c) R 1)
      ∧ r.2.mem ((c.tc : Thread nD τ).loc main_v168) = phases16 (fun R => queryRow (hidden m c) (condition m c) (gain m c) (inWeights m c) (cosTable m c) (sinTable m c) R 2)
      ∧ r.2.mem ((c.tc : Thread nD τ).loc main_v169) = plain (gateRow (hidden m c) (condition m c) (gain m c) (inWeights m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((Read.val_main_v152_eq _).trans (k1_eq ..)),
      (h c).2.1.trans ((Read.val_main_v154_eq _).trans (k4_eq ..)),
      (h c).2.2.1.trans ((Read.val_main_v156_eq _).trans (k16_eq ..)),
      (h c).2.2.2.1.trans ((Read.val_main_v158_eq _).trans (v1_eq ..)),
      (h c).2.2.2.2.1.trans ((Read.val_main_v160_eq _).trans (v4_eq ..)),
      (h c).2.2.2.2.2.1.trans ((Read.val_main_v162_eq _).trans (v16_eq ..)),
      (h c).2.2.2.2.2.2.1.trans ((Read.val_main_v164_eq _).trans (q1_eq ..)),
      (h c).2.2.2.2.2.2.2.1.trans ((Read.val_main_v166_eq _).trans (q4_eq ..)),
      (h c).2.2.2.2.2.2.2.2.1.trans ((Read.val_main_v168_eq _).trans (q16_eq ..)),
      (h c).2.2.2.2.2.2.2.2.2.1.trans ((Read.val_main_v169_eq _).trans (gate_eq ..)),
      (h c).2.2.2.2.2.2.2.2.2.2⟩)
    (Value.run (F := Ideal) m g)

end Cert.Proj.Ref

end
-- ==== Proof.LatSpec.lean ====
/-
The projections of mixer A for one row of the sequence, as plain functions of a lane.

A row of the hidden state, normalised and modulated, is multiplied by the columns of the input weights. The latent
queries are scaled; the queries' rotary part, the shared rotary key and the index queries and keys are turned in groups
of 32 or 64 lanes, each lane with the lane half a group away; the latent keys and values are normalised again; the gate
passes through `x * sigmoid x`.
-/
module

public import proofs.«01_k».proof.Proof.ProjSpec

@[expose] public section

noncomputable section

open Idealize.ShloMosaic

namespace Cert.Latent

/-- The lane `h` away in the same group of `2 h` lanes. -/
def mate (h : ℕ) (l : Fin 128) : Fin 128 := Fin.ofNat 128 (if l.val % (2 * h) < h then l.val + h else l.val + 128 - h)

/-- The rotation of 128 lanes in groups of `2 h`. -/
def turn (h : ℕ) (x c s : Fin 128 → EReal) (l : Fin 128) : EReal := x l * c l + x (mate h l) * s l

/-- Lane `d` of the 128 lanes that hold lane `e` of 512. -/
def among (e : Fin 512) (d : Fin 128) : Fin 512 := ⟨e.val / 128 * 128 + d.val, by omega⟩

/-- The rotation of 512 lanes. -/
def turn4 (h : ℕ) (x : Fin 512 → EReal) (c s : Fin 128 → EReal) (e : Fin 512) : EReal :=
  turn h (fun d => x (among e d)) c s ⟨e.val % 128, Nat.mod_lt _ (by norm_num)⟩

/-- 128 lanes over their root mean square, times a gain. -/
def rms128 (x g : Fin 128 → EReal) (l : Fin 128) : EReal :=
  x l * Ideal.rsqrt (Ideal.div (∑ d, x d * x d) (Ideal.ofBits FTy.f32 0x43000000#32) + Ideal.ofBits FTy.f32 0x358637BD#32) * g l

/-- The factor of the queries: `1 / (√160 · log 2)`. -/
def qscale : EReal := (((Real.sqrt 160)⁻¹ * (Real.log 2)⁻¹ : ℝ) : EReal)

theorem c160_eq : Ideal.ofBits FTy.f32 0x43200000#32 = ((160 : ℝ) : EReal) := by
  simp [Ideal.ofBits, Ideal.ieee]
  rw [← EReal.coe_mul]
  norm_num

/-- Dividing by `√160`, then by `log 2`, is multiplying by `qscale`. -/
theorem div_div_eq (x : EReal) :
    Ideal.div (Ideal.div x (Ideal.sqrt (Ideal.ofBits FTy.f32 0x43200000#32))) (Ideal.log (Ideal.ofBits FTy.f32 0x40000000#32)) = x * qscale := by
  have hs : (Real.sqrt 160) ≠ 0 := by positivity
  have hl : Real.log 2 ≠ 0 := (Real.log_pos (by norm_num)).ne'
  rw [c160_eq, Cert.Proj.c2_eq, Ideal.log_coe, if_neg (by norm_num), Ideal.sqrt_coe, if_neg (by norm_num), Ideal.div_coe hl, Ideal.div_coe hs,
    mul_assoc, ← EReal.coe_mul]
  unfold qscale
  rw [one_div, one_div]

/-! How the parts of a row are put together. -/

/-- Lane `f` of head `h` of the queries: 128 latent lanes, 32 rotary lanes, 96 zeros. -/
def query (a : Fin 2048 → EReal) (b : Fin 512 → EReal) (h : Fin 16) (f : Fin 256) : EReal :=
  if hf : f.val < 128 then a ⟨h.val * 128 + f.val, by omega⟩ else if hf' : f.val < 160 then b ⟨h.val * 32 + (f.val - 128), by omega⟩ else 0

/-- Lane `l` of the keys: 128 latent lanes, 32 rotary lanes, 96 zeros. -/
def key (a b : Fin 128 → EReal) (l : Fin 256) : EReal :=
  if h : l.val < 128 then a ⟨l.val, h⟩ else if l.val - 128 < 32 then b ⟨l.val - 128, by omega⟩ else 0

/-- Lane `l` of the values: 128 latent lanes, sixteen ones. -/
def value (a : Fin 128 → EReal) (l : Fin 144) : EReal := if h : l.val < 128 then a ⟨l.val, h⟩ else 1

/-- Lane `f` of index head `h`: two heads share 128 lanes, and each has zeros where the other is. -/
def index (q : Fin 512 → EReal) (h : Fin 8) (f : Fin 128) : EReal :=
  if f.val / 64 = h.val % 2 then q ⟨h.val / 2 * 128 + f.val, by omega⟩ else 0

end Cert.Latent

end
-- ==== Proof.LatBlock.lean ====
/-
What the kernel of mixer A's projections computes of one block of 256 rows: rotations under the masks the kernel builds
from a lane count, and the products.
-/
module

public import proofs.«01_k».proof.Proof.LatSpec
public import proofs.«01_k».proof.Proof.Gen.Kernel3Ideal.Skeleton
public import Idealize.ShloMosaic.Lib.Pipeline.Value
public import Idealize.ShloMosaic.Lib.Pointwise

@[expose] public section

set_option maxRecDepth 16384

noncomputable section

open Idealize.ShloMosaic Idealize.ShloMosaic.TcCoe
open Cert.Kernel3Ideal Cert.Kernel3Ideal.Gen

namespace Cert.Latent

/-- A block turned: under the mask a lane takes its partner from the left rotation by `a`, elsewhere by `b`. -/
def turned (mask : IVec S256x128 1) (a b : BitVec 32) (c s T : FVec Ideal S256x128 .f32) : FVec Ideal S256x128 .f32 :=
  addf (mulf T c) (mulf (select mask (dynamicRotate 1 a none T rotates_S256x128_d1) (dynamicRotate 1 b none T rotates_S256x128_d1)) s)

/-- The first halves of the groups of 32, and of 64, lanes. -/
abbrev mask32 : IVec S256x128 1 := k0_pay31
abbrev mask64 : IVec S256x128 1 := cmpi .slt k0_pay90 k0_pay91

theorem mask32_at (p : Fin 256) (l : Fin 128) : mask32 (ix2 p l) = if l.val % 32 < 16 then 1#1 else 0#1 := by
  pointwise [mask32, k0_pay31]
  revert l
  decide +kernel

theorem mask64_at (p : Fin 256) (l : Fin 128) : mask64 (ix2 p l) = if l.val % 64 < 32 then 1#1 else 0#1 := by
  pointwise [mask64, k0_pay90, k0_pay91]
  revert l
  decide +kernel

variable (c s T : FVec Ideal S256x128 .f32) (p : Fin 256) (l : Fin 128)

theorem turned32 (mask : IVec S256x128 1) (hm : ∀ (p : Fin 256) (l : Fin 128), mask (ix2 p l) = if l.val % 32 < 16 then 1#1 else 0#1) :
    turned mask 112#32 16#32 c s T (ix2 p l) = turn 16 (fun d => T (ix2 p d)) (fun d => c (ix2 p d)) (fun d => s (ix2 p d)) l := by
  unfold turn mate
  pointwise [turned]
  rw [hm]
  by_cases h : l.val % 32 < 16
  · rw [if_pos h, if_pos h]
    exact congrArg (fun k => T (ix2 p l) * c (ix2 p l) + T (ix2 p k) * s (ix2 p l)) (Fin.ext (by simp only [Fin.val_ofNat]; omega))
  · rw [if_neg h, if_neg h]
    exact congrArg (fun k => T (ix2 p l) * c (ix2 p l) + T (ix2 p k) * s (ix2 p l)) (Fin.ext (by simp only [Fin.val_ofNat]))

theorem turned64 (mask : IVec S256x128 1) (hm : ∀ (p : Fin 256) (l : Fin 128), mask (ix2 p l) = if l.val % 64 < 32 then 1#1 else 0#1) :
    turned mask 96#32 32#32 c s T (ix2 p l) = turn 32 (fun d => T (ix2 p d)) (fun d => c (ix2 p d)) (fun d => s (ix2 p d)) l := by
  unfold turn mate
  pointwise [turned]
  rw [hm]
  by_cases h : l.val % 64 < 32
  · rw [if_pos h, if_pos h]
    exact congrArg (fun k => T (ix2 p l) * c (ix2 p l) + T (ix2 p k) * s (ix2 p l)) (Fin.ext (by simp only [Fin.val_ofNat]; omega))
  · rw [if_neg h, if_neg h]
    exact congrArg (fun k => T (ix2 p l) * c (ix2 p l) + T (ix2 p k) * s (ix2 p l)) (Fin.ext (by simp only [Fin.val_ofNat]))

/-- The queries' scale as the kernel has it. -/
abbrev qs : Ideal .f32 := Named.named (F := Ideal) κ "qscale" (φ := .f32) 0x3DE995B3#32

/-- 128 of the queries' 512 rotary lanes, turned and scaled, rows in the lanes. -/
def ropeT (Q : FVec Ideal S256x512 .f32) (o : ℕ) (h : Shape.Slices S256x512 ![0, o] S256x128) : FVec Ideal S128x256 .f32 :=
  transpose S128x256 [1, 0] (mulf (turned mask32 112#32 16#32 c s (extractStridedSlice S256x128 ![0, o] Q h)) (broadcast S256x128 qs))
    transposes_S256x128_p1_0_S128x256

/-- 128 of the index queries' 512 lanes, turned, rows in the lanes. -/
def indexT (Q : FVec Ideal S256x512 .f32) (o : ℕ) (h : Shape.Slices S256x512 ![0, o] S256x128) : FVec Ideal S128x256 .f32 :=
  transpose S128x256 [1, 0] (turned mask64 96#32 32#32 c s (extractStridedSlice S256x128 ![0, o] Q h)) transposes_S256x128_p1_0_S128x256

theorem ropeT_apply (Q : FVec Ideal S256x512 .f32) (o : ℕ) (h : Shape.Slices S256x512 ![0, o] S256x128) (ho : o % 128 = 0) (e : Fin 512) (he : e.val = o + l.val) :
    ropeT c s Q o h (ix2 l p) = turn4 16 (fun e => Q (ix2 p e)) (fun d => c (ix2 p d)) (fun d => s (ix2 p d)) e * qscale := by
  pointwise [ropeT]
  rw [turned32 c s _ p l mask32 mask32_at]
  unfold turn4
  have e1 : l = ⟨e.val % 128, Nat.mod_lt _ (by norm_num)⟩ := Fin.ext (by dsimp only; omega)
  rw [← e1]
  refine congrArg (fun x => turn 16 x _ _ l * qscale) (funext fun d => ?_)
  pointwise
  exact congrArg (fun k => Q (ix2 p k)) (Fin.ext (by simp only [among]; omega))

theorem indexT_apply (Q : FVec Ideal S256x512 .f32) (o : ℕ) (h : Shape.Slices S256x512 ![0, o] S256x128) (ho : o % 128 = 0) (e : Fin 512) (he : e.val = o + l.val) :
    indexT c s Q o h (ix2 l p) = turn4 32 (fun e => Q (ix2 p e)) (fun d => c (ix2 p d)) (fun d => s (ix2 p d)) e := by
  pointwise [indexT]
  rw [turned64 c s _ p l mask64 mask64_at]
  unfold turn4
  have e1 : l = ⟨e.val % 128, Nat.mod_lt _ (by norm_num)⟩ := Fin.ext (by dsimp only; omega)
  rw [← e1]
  refine congrArg (fun x => turn 32 x _ _ l) (funext fun d => ?_)
  pointwise
  exact congrArg (fun k => Q (ix2 p k)) (Fin.ext (by simp only [among]; omega))

/-! The rows and products of a block. -/

variable (n : FVec Ideal S256x1024 .bf16)

theorem modulated_apply (v0 : Vec Ideal S256x1024 .f32) (v1 : Vec Ideal S1x1024 .f32) (v14 v20 : Vec Ideal S1x1x1024 .f32) (d : Fin 1024) :
    k0_pay3 v0 v1 v14 v20 (ix2 p d) = Cert.Proj.modulate (Cert.Proj.rms (fun d => v0 (ix2 p d)) (fun d => v1 (ix2 0 d))) (fun d => v14 (ix3 0 0 d)) (fun d => v20 (ix3 0 0 d)) d := by
  pointwise [k0_pay3]
  rfl

theorem latent_apply (w : Vec Ideal S1024x2048 .bf16) (e : Fin 2048) : k0_pay8 n w (ix2 p e) = (∑ d, n (ix2 p d) * w (ix2 d e)) * qscale := by
  pointwise [k0_pay8]
  rfl

theorem rope_apply (w : Vec Ideal S1024x512 .bf16) (e : Fin 512) : k0_pay9 n w (ix2 p e) = ∑ d, n (ix2 p d) * w (ix2 d e) := by
  pointwise [k0_pay9]

theorem index_apply (w : Vec Ideal S1024x512 .bf16) (e : Fin 512) : k0_pay93 n w (ix2 p e) = ∑ d, n (ix2 p d) * w (ix2 d e) := by
  pointwise [k0_pay93]

theorem prod_apply (w : Vec Ideal S1024x128 .bf16) : k0_pay79 n w (ix2 p l) = ∑ d, n (ix2 p d) * w (ix2 d l) := by
  pointwise [k0_pay79]

theorem gate_apply (w : Vec Ideal S1024x2048 .bf16) (e : Fin 2048) : k0_pay2 n w (ix2 p e) = Cert.Proj.silu (∑ d, n (ix2 p d) * w (ix2 d e)) := by
  pointwise [k0_pay2]
  rfl

/-- The latent keys of a block. -/
def latentT (w : Vec Ideal S1024x128 .bf16) (g : Vec Ideal S1x128 .f32) : FVec Ideal S256x128 .f32 := k0_pay81 (k0_pay79 n w) (k0_pay80 n w) g

theorem latentT_apply (w : Vec Ideal S1024x128 .bf16) (g : Vec Ideal S1x128 .f32) :
    latentT n w g (ix2 p l) = rms128 (fun l => ∑ d, n (ix2 p d) * w (ix2 d l)) (fun l => g (ix2 0 l)) l := by
  unfold rms128
  simp only [← prod_apply]
  pointwise [latentT, k0_pay81, k0_pay80]

/-- The mask of the rotary keys, cut elsewhere by the kernel, and the lanes that are kept. -/
abbrev keyMask : IVec S256x128 1 := cmpi .slt k0_pay86 (broadcast S256x128 16#32)

theorem keyMask_at (p : Fin 256) (l : Fin 128) : keyMask (ix2 p l) = if l.val % 32 < 16 then 1#1 else 0#1 := by
  pointwise [keyMask, k0_pay86]
  revert l
  decide +kernel

abbrev keptMask : IVec S256x128 1 := cmpi .slt (iota .tc S256x128 32 [1] iota_S256x128_d1_w32) (broadcast S256x128 32#32)

theorem keptMask_at (p : Fin 256) (l : Fin 128) : keptMask (ix2 p l) = if l.val < 32 then 1#1 else 0#1 := by
  pointwise [keptMask]
  revert l
  decide +kernel

/-- The rotary keys of a block: all lanes turned, the first 32 kept. -/
def ropeKeyT : FVec Ideal S256x128 .bf16 := k0_pay87 c s (iota .tc S256x128 32 [1] iota_S256x128_d1_w32) T k0_pay86

theorem ropeKeyT_apply : ropeKeyT c s T (ix2 p l)
    = if l.val < 32 then turn 16 (fun d => T (ix2 p d)) (fun d => c (ix2 p d)) (fun d => s (ix2 p d)) l else 0 := by
  have e : ropeKeyT c s T (ix2 p l) = Scalar.select (keptMask (ix2 p l)) (turned keyMask 112#32 16#32 c s T (ix2 p l)) (Ideal.ofBits .f32 0x00000000#32) := rfl
  rw [e, keptMask_at, turned32 c s T p l keyMask keyMask_at]
  split
  · rfl
  · exact Ideal.ofBits_zero_f32

theorem indexKey_apply : k0_pay92 c s T k0_pay90 k0_pay91 (ix2 p l)
    = turn 32 (fun d => T (ix2 p d)) (fun d => c (ix2 p d)) (fun d => s (ix2 p d)) l := by
  exact turned64 c s T p l mask64 mask64_at

theorem aux_apply : k0_pay88 T (ix2 p l) = T (ix2 p l) * Ideal.ofBits .f32 0x3EB504F3#32 := by
  pointwise [k0_pay88]

end Cert.Latent

end
-- ==== Proof.LatStore.lean ====
/-
How a block of 256 rows is stored. The queries' result has the rows in its lanes: for every head 128 latent rows, 32
rotary rows and 96 rows of zeros are stored one under the other. The index queries are stored head beside head, the keys
and values in two pieces each.
-/
module

public import proofs.«01_k».proof.Proof.LatBlock
public import proofs.«01_k».proof.Proof.Gen.Kernel3Ideal.Value
public import Idealize.ShloMosaic.Lib.Pipeline.ReadBack
public import Idealize.ShloMosaic.Lib.Ring

@[expose] public section

set_option maxRecDepth 16384

noncomputable section

open Idealize.ShloMosaic Idealize.ShloMosaic.TcCoe
open Cert.Kernel3Ideal Cert.Kernel3Ideal.Gen

namespace Cert.Latent

/-- What the blocks hold, from the parts of each row. -/
def storedQ (a : Fin 256 → Fin 2048 → EReal) (b : Fin 256 → Fin 512 → EReal) : Vec Ideal S1x1x16x256x256 .bf16 := fun y => query (a (y 4)) (b (y 4)) (y 2) (y 3)

def storedK (a b : Fin 256 → Fin 128 → EReal) : Vec Ideal S256x256 .bf16 := fun y => key (a (y 0)) (b (y 0)) (y 1)

def storedV (a : Fin 256 → Fin 128 → EReal) : Vec Ideal S1x1x144x256 .bf16 := fun y => value (a (y 3)) (y 2)

/-- Head `y / 256`, token `y % 256`. -/
def storedI (q : Fin 256 → Fin 512 → EReal) : Vec Ideal S1x1x128x2048 .bf16 := fun y =>
  index (q ⟨(y 3).val % 256, Nat.mod_lt _ (by norm_num)⟩) ⟨(y 3).val / 256, by have : (y 3).val < 2048 := (y 3).isLt; omega⟩ (y 2)

/-! The queries' three kinds of pieces. -/

theorem storedQ_at (a : Fin 256 → Fin 2048 → EReal) (b : Fin 256 → Fin 512 → EReal) (y : S1x1x16x256x256.Idx) (h : Fin 16) (f p : Fin 256)
    (h2 : (y 2).val = h.val) (h3 : (y 3).val = f.val) (h4 : (y 4).val = p.val) : storedQ a b y = query (a p) (b p) h f := by
  unfold storedQ
  rw [show y 2 = h from Fin.ext h2, show y 3 = f from Fin.ext h3, show y 4 = p from Fin.ext h4]

section Pieces

variable (A : FVec Ideal S256x2048 .f32) (c s : FVec Ideal S256x128 .f32) (Q : FVec Ideal S256x512 .f32)

/-- The parts of a row: the latent queries, and the rotary ones. -/
abbrev latRows : Fin 256 → Fin 2048 → EReal := fun p e => A (ix2 p e)
abbrev ropeRows : Fin 256 → Fin 512 → EReal := fun p e => turn4 16 (fun e => Q (ix2 p e)) (fun d => c (ix2 p d)) (fun d => s (ix2 p d)) e * qscale
abbrev indexRows : Fin 256 → Fin 512 → EReal := fun p e => turn4 32 (fun e => Q (ix2 p e)) (fun d => c (ix2 p d)) (fun d => s (ix2 p d)) e

theorem slicesA (k : Fin 16) : Shape.Slices S256x2048 ![0, 128 * k.val] S256x128 := by
  have := k.isLt
  refine ⟨rfl, fun a => ?_⟩
  fin_cases a <;> simp <;> omega

theorem slicesQ (k : Fin 4) : Shape.Slices S256x512 ![0, 128 * k.val] S256x128 := by
  have := k.isLt
  refine ⟨rfl, fun a => ?_⟩
  fin_cases a <;> simp <;> omega

theorem slicesR (k : Fin 16) : Shape.Slices S128x256 ![32 * (k.val % 4), 0] S32x256 := by
  refine ⟨rfl, fun a => ?_⟩
  fin_cases a <;> simp <;> omega

theorem inbLat (k : Fin 16) : ∀ a, (![0, 0, k.val, 0, 0] : Fin 5 → ℕ) a + (![1, 1, 1, 128, 256] : Fin 5 → ℕ) a ≤ S1x1x16x256x256.size a := by
  have := k.isLt
  intro a
  fin_cases a <;> simp <;> omega

theorem inbRope (k : Fin 16) : ∀ a, (![0, 0, k.val, 128, 0] : Fin 5 → ℕ) a + (![1, 1, 1, 32, 256] : Fin 5 → ℕ) a ≤ S1x1x16x256x256.size a := by
  have := k.isLt
  intro a
  fin_cases a <;> simp <;> omega

theorem inbPad (k : Fin 16) : ∀ a, (![0, 0, k.val, 160, 0] : Fin 5 → ℕ) a + (![1, 1, 1, 96, 256] : Fin 5 → ℕ) a ≤ S1x1x16x256x256.size a := by
  have := k.isLt
  intro a
  fin_cases a <;> simp <;> omega

/-- The group of 128 lanes that holds head `k`'s rotary lanes. -/
def quad (k : Fin 16) : Fin 4 := ⟨k.val / 4, by omega⟩

theorem lat_at (k : Fin 16) (x : (Rect.unit (s := S1x1x16x256x256) ![0, 0, k.val, 0, 0] ![1, 1, 1, 128, 256] (inbLat k)).shape.Idx) :
    shapeCast S1x1x1x128x256 (truncf .bf16 (transpose S128x256 [1, 0] (extractStridedSlice S256x128 ![0, 128 * k.val] A (slicesA k))
      transposes_S256x128_p1_0_S128x256) bitsLt_bf16_f32) shapeCasts_S128x256_S1x1x1x128x256 x
      = storedQ (latRows A) (ropeRows c s Q) ((Rect.unit (s := S1x1x16x256x256) ![0, 0, k.val, 0, 0] ![1, 1, 1, 128, 256] (inbLat k)).emb x) := by
  obtain ⟨f, p, rfl⟩ : ∃ f p, x = ix5 (0 : Fin 1) (0 : Fin 1) (0 : Fin 1) f p := ⟨x 3, x 4, by
    funext a; fin_cases a <;> first | rfl | exact Fin.ext (Nat.lt_one_iff.mp (x _).isLt)⟩
  have hf : f.val < 128 := f.isLt
  rw [storedQ_at _ _ _ k (⟨0 + f.val, by omega⟩ : Fin 256) p (by simp [Rect.emb, Rect.unit]) (by simp [Rect.emb, Rect.unit]) (by simp [Rect.emb, Rect.unit])]
  unfold query
  rw [dif_pos (by dsimp only; omega)]
  pointwise
  exact congrArg (fun e => A (ix2 p e)) (Fin.ext (by dsimp only; omega))

theorem rope_at (k : Fin 16) (x : (Rect.unit (s := S1x1x16x256x256) ![0, 0, k.val, 128, 0] ![1, 1, 1, 32, 256] (inbRope k)).shape.Idx) :
    shapeCast S1x1x1x32x256 (truncf .bf16 (extractStridedSlice S32x256 ![32 * (k.val % 4), 0] (ropeT c s Q (128 * (quad k).val) (slicesQ (quad k))) (slicesR k))
      bitsLt_bf16_f32) shapeCasts_S32x256_S1x1x1x32x256 x
      = storedQ (latRows A) (ropeRows c s Q) ((Rect.unit (s := S1x1x16x256x256) ![0, 0, k.val, 128, 0] ![1, 1, 1, 32, 256] (inbRope k)).emb x) := by
  obtain ⟨f, p, rfl⟩ : ∃ f p, x = ix5 (0 : Fin 1) (0 : Fin 1) (0 : Fin 1) f p := ⟨x 3, x 4, by
    funext a; fin_cases a <;> first | rfl | exact Fin.ext (Nat.lt_one_iff.mp (x _).isLt)⟩
  have hf : f.val < 32 := f.isLt
  rw [storedQ_at _ _ _ k (⟨128 + f.val, by omega⟩ : Fin 256) p (by simp [Rect.emb, Rect.unit]) (by simp [Rect.emb, Rect.unit]) (by simp [Rect.emb, Rect.unit])]
  unfold query
  rw [dif_neg (by dsimp only; omega), dif_pos (by dsimp only; omega)]
  pointwise
  exact ropeT_apply c s p ⟨32 * (k.val % 4) + f.val, by omega⟩ Q _ (slicesQ (quad k)) (by omega) _ (by simp only [quad]; omega)

theorem pad_at (k : Fin 16) (x : (Rect.unit (s := S1x1x16x256x256) ![0, 0, k.val, 160, 0] ![1, 1, 1, 96, 256] (inbPad k)).shape.Idx) :
    shapeCast S1x1x1x96x256 (truncf .bf16 (k0_pay10 (F := Ideal)) bitsLt_bf16_f32) shapeCasts_S96x256_S1x1x1x96x256 x
      = storedQ (latRows A) (ropeRows c s Q) ((Rect.unit (s := S1x1x16x256x256) ![0, 0, k.val, 160, 0] ![1, 1, 1, 96, 256] (inbPad k)).emb x) := by
  obtain ⟨f, p, rfl⟩ : ∃ f p, x = ix5 (0 : Fin 1) (0 : Fin 1) (0 : Fin 1) f p := ⟨x 3, x 4, by
    funext a; fin_cases a <;> first | rfl | exact Fin.ext (Nat.lt_one_iff.mp (x _).isLt)⟩
  have hf : f.val < 96 := f.isLt
  rw [storedQ_at _ _ _ k (⟨160 + f.val, by omega⟩ : Fin 256) p (by simp [Rect.emb, Rect.unit]) (by simp [Rect.emb, Rect.unit]) (by simp [Rect.emb, Rect.unit])]
  unfold query
  rw [dif_neg (by dsimp only; omega), dif_neg (by dsimp only; omega)]
  pointwise [k0_pay10]

/-- The latent piece of head `k`. -/
def latPiece (k : Fin 16) : View.Piece (Elt Ideal) S1x1x16x256x256 .bf16 :=
  ⟨Rect.unit ![0, 0, k.val, 0, 0] ![1, 1, 1, 128, 256] (inbLat k),
    shapeCast S1x1x1x128x256 (truncf .bf16 (transpose S128x256 [1, 0] (extractStridedSlice S256x128 ![0, 128 * k.val] A (slicesA k))
      transposes_S256x128_p1_0_S128x256) bitsLt_bf16_f32) shapeCasts_S128x256_S1x1x1x128x256⟩

theorem latPiece_eq (k : Fin 16) (x : (latPiece A k).1.shape.Idx) :
    (latPiece A k).2 x = storedQ (latRows A) (ropeRows c s Q) ((latPiece A k).1.emb x) := by
  dsimp only [latPiece] at x ⊢
  exact lat_at A c s Q k x

/-- The rotary piece of head `k`. -/
def ropePiece (k : Fin 16) : View.Piece (Elt Ideal) S1x1x16x256x256 .bf16 :=
  ⟨Rect.unit ![0, 0, k.val, 128, 0] ![1, 1, 1, 32, 256] (inbRope k),
    shapeCast S1x1x1x32x256 (truncf .bf16 (extractStridedSlice S32x256 ![32 * (k.val % 4), 0] (ropeT c s Q (128 * (quad k).val) (slicesQ (quad k))) (slicesR k))
      bitsLt_bf16_f32) shapeCasts_S32x256_S1x1x1x32x256⟩

theorem ropePiece_eq (k : Fin 16) (x : (ropePiece c s Q k).1.shape.Idx) :
    (ropePiece c s Q k).2 x = storedQ (latRows A) (ropeRows c s Q) ((ropePiece c s Q k).1.emb x) := by
  dsimp only [ropePiece] at x ⊢
  exact rope_at A c s Q k x

/-- The zeros of head `k`. -/
def padPiece (k : Fin 16) : View.Piece (Elt Ideal) S1x1x16x256x256 .bf16 :=
  ⟨Rect.unit ![0, 0, k.val, 160, 0] ![1, 1, 1, 96, 256] (inbPad k),
    shapeCast S1x1x1x96x256 (truncf .bf16 (k0_pay10 (F := Ideal)) bitsLt_bf16_f32) shapeCasts_S96x256_S1x1x1x96x256⟩

theorem padPiece_eq (k : Fin 16) (x : (padPiece k).1.shape.Idx) :
    (padPiece k).2 x = storedQ (latRows A) (ropeRows c s Q) ((padPiece k).1.emb x) := by
  dsimp only [padPiece] at x ⊢
  exact pad_at A c s Q k x

/-- The heads, last first. -/
abbrev heads : List (Fin 16) := [15, 14, 13, 12, 11, 10, 9, 8, 7, 6, 5, 4, 3, 2, 1, 0]

theorem every16 : ∀ k : Fin 16, k ∈ heads := by decide

/-- The 48 pieces of the queries, last first. -/
def piecesQ : List (View.Piece (Elt Ideal) S1x1x16x256x256 .bf16) :=
  (heads.flatMap fun k => [padPiece k, ropePiece c s Q k]) ++ heads.map (latPiece A)

theorem canon_piecesQ : View.canon (piecesQ A c s Q) = storedQ (latRows A) (ropeRows c s Q) := by
  funext y
  refine View.canon_apply_of_pieces (storedQ (latRows A) (ropeRows c s Q)) (piecesQ A c s Q) (fun p hp x => ?_) y ?_
  · rcases List.mem_append.mp hp with hp | hp
    · obtain ⟨k, -, hp⟩ := List.mem_flatMap.mp hp
      rcases List.mem_cons.mp hp with rfl | hp
      · exact padPiece_eq A c s Q k x
      · obtain rfl := List.mem_singleton.mp hp
        exact ropePiece_eq A c s Q k x
    · obtain ⟨k, -, rfl⟩ := List.mem_map.mp hp
      exact latPiece_eq A c s Q k x
  · have h0 : (y 0).val < 1 := (y 0).isLt
    have h1 : (y 1).val < 1 := (y 1).isLt
    have h2 : (y 2).val < 16 := (y 2).isLt
    have h3 : (y 3).val < 256 := (y 3).isLt
    have h4 : (y 4).val < 256 := (y 4).isLt
    have cov (o w : ℕ) (inb : ∀ a, (![0, 0, (y 2).val, o, 0] : Fin 5 → ℕ) a + (![1, 1, 1, w, 256] : Fin 5 → ℕ) a ≤ S1x1x16x256x256.size a)
        (ho : o ≤ (y 3).val) (hw : (y 3).val < o + w) : y ∈ (Rect.unit (s := S1x1x16x256x256) ![0, 0, (y 2).val, o, 0] ![1, 1, 1, w, 256] inb).set := by
      refine (Rect.mem_set_unit (inb := inb)).mpr fun a => ?_
      fin_cases a
      · exact ⟨Nat.zero_le _, h0⟩
      · exact ⟨Nat.zero_le _, h1⟩
      · exact ⟨le_refl _, Nat.lt_succ_self _⟩
      · exact ⟨ho, hw⟩
      · exact ⟨Nat.zero_le _, by show (y 4).val < 0 + 256; omega⟩
    by_cases c1 : (y 3).val < 128
    · exact ⟨_, List.mem_append_right _ (List.mem_map.mpr ⟨⟨(y 2).val, h2⟩, every16 _, rfl⟩), cov 0 128 (inbLat ⟨_, h2⟩) (Nat.zero_le _) (by omega)⟩
    · by_cases c2 : (y 3).val < 160
      · exact ⟨_, List.mem_append_left _ (List.mem_flatMap.mpr ⟨⟨(y 2).val, h2⟩, every16 _, List.mem_cons_of_mem _ (List.mem_singleton.mpr rfl)⟩),
          cov 128 32 (inbRope ⟨_, h2⟩) (by omega) (by omega)⟩
      · exact ⟨_, List.mem_append_left _ (List.mem_flatMap.mpr ⟨⟨(y 2).val, h2⟩, every16 _, List.mem_cons_self⟩),
          cov 160 96 (inbPad ⟨_, h2⟩) (by omega) (by omega)⟩

/-! The index queries: a piece for every head. -/

theorem inbIndex (k : Fin 8) : ∀ a, (![0, 0, 0, 256 * k.val] : Fin 4 → ℕ) a + (![1, 1, 128, 256] : Fin 4 → ℕ) a ≤ S1x1x128x2048.size a := by
  have := k.isLt
  intro a
  fin_cases a <;> simp <;> omega

/-- The group of 128 lanes that holds index head `k`. -/
def twin (k : Fin 8) : Fin 4 := ⟨k.val / 2, by omega⟩

/-- The lanes of index head `k` in its group. -/
def laneMask (k : Fin 8) : IVec S128x256 1 :=
  andi (cmpi .sge (iota .tc S128x256 32 [0] iota_S128x256_d0_w32) (broadcast S128x256 (BitVec.ofNat 32 (64 * (k.val % 2)))))
    (cmpi .slt (iota .tc S128x256 32 [0] iota_S128x256_d0_w32) (broadcast S128x256 (BitVec.ofNat 32 (64 * (k.val % 2) + 64))))

theorem laneMask_at (k : Fin 8) (f : Fin 128) (p : Fin 256) : laneMask k (ix2 f p) = if f.val / 64 = k.val % 2 then 1#1 else 0#1 := by
  pointwise [laneMask]
  revert k f
  decide +kernel

/-- Index head `k` of a block, zero in the lanes of the other head. -/
def indexBlk (k : Fin 8) : FVec Ideal S1x1x128x256 .bf16 :=
  shapeCast S1x1x128x256 (truncf .bf16 (select (laneMask k) (indexT c s Q (128 * (twin k).val) (slicesQ (twin k)))
    (broadcast S128x256 (Scalar.ofBits .f32 0x00000000#32))) bitsLt_bf16_f32) shapeCasts_S128x256_S1x1x128x256

theorem indexBlk_apply (k : Fin 8) (f : Fin 128) (p : Fin 256) : indexBlk c s Q k (ix4 (0 : Fin 1) (0 : Fin 1) f p) = index (indexRows c s Q p) k f := by
  pointwise [indexBlk]
  rw [laneMask_at]
  unfold index
  by_cases h : f.val / 64 = k.val % 2
  · rw [if_pos h, if_pos h]
    exact indexT_apply c s p f Q _ (slicesQ (twin k)) (by omega) _ (by simp only [twin]; omega)
  · rw [if_neg h, if_neg h]
    rfl

theorem index_at (k : Fin 8) (x : (Rect.unit (s := S1x1x128x2048) ![0, 0, 0, 256 * k.val] ![1, 1, 128, 256] (inbIndex k)).shape.Idx) :
    indexBlk c s Q k x = storedI (indexRows c s Q) ((Rect.unit (s := S1x1x128x2048) ![0, 0, 0, 256 * k.val] ![1, 1, 128, 256] (inbIndex k)).emb x) := by
  obtain ⟨f, p, rfl⟩ : ∃ f p, x = ix4 (0 : Fin 1) (0 : Fin 1) f p := ⟨x 2, x 3, by
    funext a; fin_cases a <;> first | rfl | exact Fin.ext (Nat.lt_one_iff.mp (x _).isLt)⟩
  have hf : f.val < 128 := f.isLt
  have hp : p.val < 256 := p.isLt
  have e2 : ((Rect.unit (s := S1x1x128x2048) ![0, 0, 0, 256 * k.val] ![1, 1, 128, 256] (inbIndex k)).emb (ix4 (0 : Fin 1) (0 : Fin 1) f p) 2).val = f.val := by
    simp [Rect.emb, Rect.unit]
  have e3 : ((Rect.unit (s := S1x1x128x2048) ![0, 0, 0, 256 * k.val] ![1, 1, 128, 256] (inbIndex k)).emb (ix4 (0 : Fin 1) (0 : Fin 1) f p) 3).val = 256 * k.val + p.val := by
    simp [Rect.emb, Rect.unit]
  refine (indexBlk_apply c s Q k f p).trans ?_
  unfold storedI
  refine congr (congr (congrArg index (congrArg (indexRows c s Q) ?_)) ?_) ?_
  · exact Fin.ext (by dsimp only; omega)
  · exact Fin.ext (by dsimp only; omega)
  · exact Fin.ext e2.symm

def indexPiece (k : Fin 8) : View.Piece (Elt Ideal) S1x1x128x2048 .bf16 :=
  ⟨Rect.unit ![0, 0, 0, 256 * k.val] ![1, 1, 128, 256] (inbIndex k), indexBlk c s Q k⟩

theorem indexPiece_eq (k : Fin 8) (x : (indexPiece c s Q k).1.shape.Idx) :
    (indexPiece c s Q k).2 x = storedI (indexRows c s Q) ((indexPiece c s Q k).1.emb x) := by
  dsimp only [indexPiece] at x ⊢
  exact index_at c s Q k x

/-- The eight pieces, last first. -/
def piecesI : List (View.Piece (Elt Ideal) S1x1x128x2048 .bf16) := ([7, 6, 5, 4, 3, 2, 1, 0] : List (Fin 8)).map (indexPiece c s Q)

theorem canon_piecesI : View.canon (piecesI c s Q) = storedI (indexRows c s Q) := by
  funext y
  refine View.canon_apply_of_pieces (storedI (indexRows c s Q)) (piecesI c s Q) ?_ y (View.cover_of_tiledL _ ![1, 1, 128, 256] (by sl_kernel_rfl) y)
  intro p hp x
  obtain ⟨k, -, rfl⟩ := List.mem_map.mp hp
  exact indexPiece_eq c s Q k x

/-! The keys and the values: two pieces each. -/

variable (L : FVec Ideal S256x128 .f32) (K : FVec Ideal S256x128 .f32)

/-- The rotary lanes of the keys, before they are masked. -/
abbrev keyRows : Fin 256 → Fin 128 → EReal := fun p l => turn 16 (fun d => K (ix2 p d)) (fun d => c (ix2 p d)) (fun d => s (ix2 p d)) l

abbrev rows128 : Fin 256 → Fin 128 → EReal := fun p l => L (ix2 p l)

def piecesK : List (View.Piece (Elt Ideal) S256x256 .bf16) :=
  [⟨Rect.unit ![0, 128] ![256, 128] inb_S256x256_S256x128_0_128, ropeKeyT c s K⟩,
   ⟨Rect.unit ![0, 0] ![256, 128] inb_S256x256_S256x128_0_0, truncf .bf16 L bitsLt_bf16_f32⟩]

theorem keyRope_at (x : (Rect.unit (s := S256x256) ![0, 128] ![256, 128] inb_S256x256_S256x128_0_128).shape.Idx) :
    ropeKeyT c s K x = storedK (rows128 L) (keyRows c s K) ((Rect.unit (s := S256x256) ![0, 128] ![256, 128] inb_S256x256_S256x128_0_128).emb x) := by
  obtain ⟨p, l, rfl⟩ : ∃ p l, x = ix2 p l := ⟨x 0, x 1, by funext a; fin_cases a <;> rfl⟩
  have hl : l.val < 128 := l.isLt
  have e0 : (Rect.unit (s := S256x256) ![0, 128] ![256, 128] inb_S256x256_S256x128_0_128).emb (ix2 p l) 0 = p := Fin.ext (by simp [Rect.emb, Rect.unit])
  have e1 : (Rect.unit (s := S256x256) ![0, 128] ![256, 128] inb_S256x256_S256x128_0_128).emb (ix2 p l) 1 = (⟨128 + l.val, by omega⟩ : Fin 256) :=
    Fin.ext (by simp [Rect.emb, Rect.unit])
  refine (ropeKeyT_apply c s K p l).trans ?_
  unfold storedK key
  rw [e0, e1, dif_neg (by dsimp only; omega)]
  by_cases h : l.val < 32
  · rw [if_pos h, if_pos (by dsimp only; omega)]
    exact congrArg (keyRows c s K p) (Fin.ext (by dsimp only; omega))
  · rw [if_neg h, if_neg (by dsimp only; omega)]

theorem keyLatent_at (x : (Rect.unit (s := S256x256) ![0, 0] ![256, 128] inb_S256x256_S256x128_0_0).shape.Idx) :
    truncf .bf16 L bitsLt_bf16_f32 x = storedK (rows128 L) (keyRows c s K) ((Rect.unit (s := S256x256) ![0, 0] ![256, 128] inb_S256x256_S256x128_0_0).emb x) := by
  obtain ⟨p, l, rfl⟩ : ∃ p l, x = ix2 p l := ⟨x 0, x 1, by funext a; fin_cases a <;> rfl⟩
  have hl : l.val < 128 := l.isLt
  have e0 : (Rect.unit (s := S256x256) ![0, 0] ![256, 128] inb_S256x256_S256x128_0_0).emb (ix2 p l) 0 = p := Fin.ext (by simp [Rect.emb, Rect.unit])
  have e1 : (Rect.unit (s := S256x256) ![0, 0] ![256, 128] inb_S256x256_S256x128_0_0).emb (ix2 p l) 1 = (⟨l.val, by omega⟩ : Fin 256) :=
    Fin.ext (by simp [Rect.emb, Rect.unit])
  unfold storedK key
  rw [e0, e1, dif_pos hl]
  rfl

theorem canon_piecesK : View.canon (piecesK c s L K) = storedK (rows128 L) (keyRows c s K) := by
  funext y
  exact View.canon_append_of_piecesOf (storedK (rows128 L) (keyRows c s K)) [] (piecesK c s L K)
    ⟨keyRope_at c s L K, keyLatent_at c s L K, trivial⟩ y (View.cover_of_tiledL _ ![256, 128] (by sl_kernel_rfl) y)

def piecesV : List (View.Piece (Elt Ideal) S1x1x144x256 .bf16) :=
  [⟨Rect.unit ![0, 0, 128, 0] ![1, 1, 16, 256] inb_S1x1x144x256_S1x1x16x256_0_0_128_0, k0_pay84 (F := Ideal)⟩,
   ⟨Rect.unit ![0, 0, 0, 0] ![1, 1, 128, 256] inb_S1x1x144x256_S1x1x128x256_0_0_0_0,
    shapeCast S1x1x128x256 (truncf .bf16 (transpose S128x256 [1, 0] L transposes_S256x128_p1_0_S128x256) bitsLt_bf16_f32) shapeCasts_S128x256_S1x1x128x256⟩]

theorem ones_at (x : (Rect.unit (s := S1x1x144x256) ![0, 0, 128, 0] ![1, 1, 16, 256] inb_S1x1x144x256_S1x1x16x256_0_0_128_0).shape.Idx) :
    k0_pay84 (F := Ideal) x = storedV (rows128 L) ((Rect.unit (s := S1x1x144x256) ![0, 0, 128, 0] ![1, 1, 16, 256] inb_S1x1x144x256_S1x1x16x256_0_0_128_0).emb x) := by
  obtain ⟨f, p, rfl⟩ : ∃ f p, x = ix4 (0 : Fin 1) (0 : Fin 1) f p := ⟨x 2, x 3, by
    funext a; fin_cases a <;> first | rfl | exact Fin.ext (Nat.lt_one_iff.mp (x _).isLt)⟩
  have e2 : ((Rect.unit (s := S1x1x144x256) ![0, 0, 128, 0] ![1, 1, 16, 256] inb_S1x1x144x256_S1x1x16x256_0_0_128_0).emb (ix4 (0 : Fin 1) (0 : Fin 1) f p) 2).val = 128 + f.val := by
    simp [Rect.emb, Rect.unit]
  unfold storedV value
  rw [dif_neg (by omega)]
  pointwise [k0_pay84]

theorem valueLatent_at (x : (Rect.unit (s := S1x1x144x256) ![0, 0, 0, 0] ![1, 1, 128, 256] inb_S1x1x144x256_S1x1x128x256_0_0_0_0).shape.Idx) :
    shapeCast S1x1x128x256 (truncf .bf16 (transpose S128x256 [1, 0] L transposes_S256x128_p1_0_S128x256) bitsLt_bf16_f32) shapeCasts_S128x256_S1x1x128x256 x
      = storedV (rows128 L) ((Rect.unit (s := S1x1x144x256) ![0, 0, 0, 0] ![1, 1, 128, 256] inb_S1x1x144x256_S1x1x128x256_0_0_0_0).emb x) := by
  obtain ⟨f, p, rfl⟩ : ∃ f p, x = ix4 (0 : Fin 1) (0 : Fin 1) f p := ⟨x 2, x 3, by
    funext a; fin_cases a <;> first | rfl | exact Fin.ext (Nat.lt_one_iff.mp (x _).isLt)⟩
  have hf : f.val < 128 := f.isLt
  have e2 : (Rect.unit (s := S1x1x144x256) ![0, 0, 0, 0] ![1, 1, 128, 256] inb_S1x1x144x256_S1x1x128x256_0_0_0_0).emb (ix4 (0 : Fin 1) (0 : Fin 1) f p) 2
      = (⟨f.val, by omega⟩ : Fin 144) := Fin.ext (by simp [Rect.emb, Rect.unit])
  have e3 : (Rect.unit (s := S1x1x144x256) ![0, 0, 0, 0] ![1, 1, 128, 256] inb_S1x1x144x256_S1x1x128x256_0_0_0_0).emb (ix4 (0 : Fin 1) (0 : Fin 1) f p) 3
      = p := Fin.ext (by simp [Rect.emb, Rect.unit])
  unfold storedV value
  rw [e2, e3, dif_pos hf]
  pointwise

theorem canon_piecesV : View.canon (piecesV L) = storedV (rows128 L) := by
  funext y
  refine View.canon_append_of_piecesOf (storedV (rows128 L)) [] (piecesV L) ⟨ones_at L, valueLatent_at L, trivial⟩ y ?_
  have h0 : (y 0).val < 1 := (y 0).isLt
  have h1 : (y 1).val < 1 := (y 1).isLt
  have h2 : (y 2).val < 144 := (y 2).isLt
  have h3 : (y 3).val < 256 := (y 3).isLt
  have cov (o w : ℕ) (inb : ∀ a, (![0, 0, o, 0] : Fin 4 → ℕ) a + (![1, 1, w, 256] : Fin 4 → ℕ) a ≤ S1x1x144x256.size a) (ho : o ≤ (y 2).val)
      (hw : (y 2).val < o + w) : y ∈ (Rect.unit (s := S1x1x144x256) ![0, 0, o, 0] ![1, 1, w, 256] inb).set := by
    refine (Rect.mem_set_unit (inb := inb)).mpr fun a => ?_
    fin_cases a
    · exact ⟨Nat.zero_le _, h0⟩
    · exact ⟨Nat.zero_le _, h1⟩
    · exact ⟨ho, hw⟩
    · exact ⟨Nat.zero_le _, by show (y 3).val < 0 + 256; omega⟩
  by_cases h : (y 2).val < 128
  · exact ⟨_, List.mem_cons_of_mem _ (List.mem_singleton.mpr rfl), cov 0 128 inb_S1x1x144x256_S1x1x128x256_0_0_0_0 (Nat.zero_le _) (by omega)⟩
  · exact ⟨_, List.mem_cons_self, cov 128 16 inb_S1x1x144x256_S1x1x16x256_0_0_128_0 (by omega) (by omega)⟩

end Pieces

end Cert.Latent

end
-- ==== Proof.LatBody.lean ====
/-
What one point of the grid leaves in its seven output blocks.
-/
module

public import proofs.«01_k».proof.Proof.LatStore
public import Idealize.ShloMosaic.Lib.Pipeline.ValueKit.Acc
public import Idealize.ShloMosaic.Lib.Pipeline.ReadBack
public import Idealize.ShloMosaic.Lib.Ring

@[expose] public section

set_option maxRecDepth 16384

noncomputable section

open Idealize.ShloMosaic Idealize.ShloMosaic.TcCoe
open Cert.Kernel3Ideal Cert.Kernel3Ideal.Gen

namespace Cert.Latent

variable (m : (ℓ : Loc nD τ sig) → Buf (Elt Ideal) ℓ)

/-! The parts of the weights a point multiplies by. -/

def latW (c : Dev nD) (t : Fin cfg0.N) : Vec Ideal S1024x2048 .bf16 :=
  View.ld (iblk m c 4 t) (Rect.unit (s := S1024x5504) ![0, 0] ![1024, 2048] inb_S1024x5504_S1024x2048_0_0)

def ropeW (c : Dev nD) (t : Fin cfg0.N) : Vec Ideal S1024x512 .bf16 :=
  View.ld (iblk m c 4 t) (Rect.unit (s := S1024x5504) ![0, 2048] ![1024, 512] inb_S1024x5504_S1024x512_0_2048)

def kvW (c : Dev nD) (t : Fin cfg0.N) : Vec Ideal S1024x128 .bf16 :=
  View.ld (iblk m c 4 t) (Rect.unit (s := S1024x5504) ![0, 2560] ![1024, 128] inb_S1024x5504_S1024x128_0_2560)

def auxW (c : Dev nD) (t : Fin cfg0.N) : Vec Ideal S1024x128 .bf16 :=
  View.ld (iblk m c 4 t) (Rect.unit (s := S1024x5504) ![0, 2688] ![1024, 128] inb_S1024x5504_S1024x128_0_2688)

def dupW (c : Dev nD) (t : Fin cfg0.N) : Vec Ideal S1024x128 .bf16 :=
  View.ld (iblk m c 4 t) (Rect.unit (s := S1024x5504) ![0, 2816] ![1024, 128] inb_S1024x5504_S1024x128_0_2816)

def gateW (c : Dev nD) (t : Fin cfg0.N) : Vec Ideal S1024x2048 .bf16 :=
  View.ld (iblk m c 4 t) (Rect.unit (s := S1024x5504) ![0, 2944] ![1024, 2048] inb_S1024x5504_S1024x2048_0_2944)

def indexW (c : Dev nD) (t : Fin cfg0.N) : Vec Ideal S1024x512 .bf16 :=
  View.ld (iblk m c 4 t) (Rect.unit (s := S1024x5504) ![0, 4992] ![1024, 512] inb_S1024x5504_S1024x512_0_4992)

/-- The condition's scale and shift. -/
def scaleRow (c : Dev nD) (t : Fin cfg0.N) : Vec Ideal S1x1x1024 .f32 :=
  View.ld (iblk m c 1 t) (Rect.unit (s := S1x3x1024) ![0, 1, 0] ![1, 1, 1024] inb_S1x3x1024_S1x1x1024_0_1_0)

def shiftRow (c : Dev nD) (t : Fin cfg0.N) : Vec Ideal S1x1x1024 .f32 :=
  View.ld (iblk m c 1 t) (Rect.unit (s := S1x3x1024) ![0, 0, 0] ![1, 1, 1024] inb_S1x3x1024_S1x1x1024_0_0_0)

/-- The tables' blocks: cosine and sine for groups of 32 lanes, then of 64. -/
def cos32 (c : Dev nD) (t : Fin cfg0.N) : FVec Ideal S256x128 .f32 :=
  k0_pay4 (View.ld (X0_5 m c t) (Rect.unit (s := S2x256x128) ![0, 0, 0] ![1, 256, 128] inb_S2x256x128_S1x256x128_0_0_0))

def sin32 (c : Dev nD) (t : Fin cfg0.N) : FVec Ideal S256x128 .f32 :=
  k0_pay5 (View.ld (X0_6 m c t) (Rect.unit (s := S2x256x128) ![0, 0, 0] ![1, 256, 128] inb_S2x256x128_S1x256x128_0_0_0))

def cos64 (c : Dev nD) (t : Fin cfg0.N) : FVec Ideal S256x128 .f32 :=
  k0_pay6 (View.ld (X0_5 m c t) (Rect.unit (s := S2x256x128) ![1, 0, 0] ![1, 256, 128] inb_S2x256x128_S1x256x128_1_0_0))

def sin64 (c : Dev nD) (t : Fin cfg0.N) : FVec Ideal S256x128 .f32 :=
  k0_pay7 (View.ld (X0_6 m c t) (Rect.unit (s := S2x256x128) ![1, 0, 0] ![1, 256, 128] inb_S2x256x128_S1x256x128_1_0_0))

/-- The modulated rows of a point. -/
def modT (c : Dev nD) (t : Fin cfg0.N) : FVec Ideal S256x1024 .bf16 := k0_pay3 (iblk m c 0 t) (iblk m c 2 t) (scaleRow m c t) (shiftRow m c t)

/-- The latent keys of a point. -/
abbrev kvT (c : Dev nD) (t : Fin cfg0.N) : FVec Ideal S256x128 .f32 := latentT (modT m c t) (kvW m c t) (iblk m c 3 t)

variable (c : Dev nD) (t : Fin cfg0.N)

theorem out7 : (outsAt0 m c t).1 = storedQ (latRows (k0_pay8 (modT m c t) (latW m c t)))
    (ropeRows (cos32 m c t) (sin32 m c t) (k0_pay9 (modT m c t) (ropeW m c t))) := by
  unfold outsAt0
  dsimp only
  frame_out
  exact canon_piecesQ (k0_pay8 (modT m c t) (latW m c t)) (cos32 m c t) (sin32 m c t) (k0_pay9 (modT m c t) (ropeW m c t))

theorem out8 : (outsAt0 m c t).2.1 = storedK (rows128 (kvT m c t)) (keyRows (cos32 m c t) (sin32 m c t) (k0_pay85 (modT m c t) (auxW m c t))) := by
  unfold outsAt0
  dsimp only
  frame_out
  exact canon_piecesK (cos32 m c t) (sin32 m c t) (kvT m c t) (k0_pay85 (modT m c t) (auxW m c t))

theorem out9 : (outsAt0 m c t).2.2.1 = storedV (rows128 (kvT m c t)) := by
  unfold outsAt0
  dsimp only
  frame_out
  exact canon_piecesV (kvT m c t)

theorem out10 : (outsAt0 m c t).2.2.2.1 = k0_pay92 (cos64 m c t) (sin64 m c t) (k0_pay89 (modT m c t) (dupW m c t)) k0_pay90 k0_pay91 := by
  unfold outsAt0
  dsimp only
  frame_out
  rfl

theorem out11 : (outsAt0 m c t).2.2.2.2.1 = storedI (indexRows (cos64 m c t) (sin64 m c t) (k0_pay93 (modT m c t) (indexW m c t))) := by
  unfold outsAt0
  dsimp only
  frame_out
  exact canon_piecesI (cos64 m c t) (sin64 m c t) (k0_pay93 (modT m c t) (indexW m c t))

theorem out12 : (outsAt0 m c t).2.2.2.2.2.1 = k0_pay88 (k0_pay85 (modT m c t) (auxW m c t)) := by
  unfold outsAt0
  dsimp only
  frame_out
  rfl

theorem out13 : (outsAt0 m c t).2.2.2.2.2.2 = k0_pay2 (modT m c t) (gateW m c t) := by
  unfold outsAt0
  dsimp only
  frame_out
  rfl

end Cert.Latent

end
-- ==== Proof.LatRows.lean ====
/-
The seven results as functions of a row of the sequence (65536 rows, sixteen batches of 4096) and a lane, and the
weights' columns the kernel assembles before the launch.
-/
module

public import proofs.«01_k».proof.Proof.LatBody
public import proofs.«01_k».proof.Proof.ProjRows
public import Idealize.ShloMosaic.Lib.Pipeline.ValueKit
public import Idealize.ShloMosaic.Lib.StableHlo.RunRead
public import Idealize.ShloMosaic.Lib.StableHlo.RunClose

@[expose] public section

set_option maxRecDepth 16384

noncomputable section

open Idealize.ShloMosaic Idealize.ShloMosaic.TcCoe
open Cert.Kernel3Ideal Cert.Kernel3Ideal.Gen

namespace Cert.Latent

section rows

variable (H : Vec Ideal S65536x1024 .f32) (M : Vec Ideal S16x3x1024 .f32) (G : Vec Ideal S1x1024 .f32) (KG : Vec Ideal S1x128 .f32)
  (W : Vec Ideal S1024x5352 .f32) (C S : Vec Ideal S3x65536x128 .f32) (R : Fin 65536)

/-- Row `R`, normalised and modulated, times column `j` of the weights. -/
def prod (j : Fin 5352) : EReal := ∑ d, Cert.Proj.modRow H M G R d * W (ix2 d j)

def latRow (e : Fin 2048) : EReal := prod H M G W R ⟨e.val, by omega⟩ * qscale

def ropeRow (e : Fin 512) : EReal :=
  turn4 16 (fun e => prod H M G W R ⟨2048 + e.val, by omega⟩) (fun d => C (ix3 0 R d)) (fun d => S (ix3 0 R d)) e * qscale

def kvRow : Fin 128 → EReal := rms128 (fun l => prod H M G W R ⟨2560 + l.val, by omega⟩) (fun l => KG (ix2 0 l))

/-- The rotary keys (32 lanes) and the index weights (8 lanes), then zeros. -/
def auxRow (l : Fin 128) : EReal :=
  if h : l.val < 32 then prod H M G W R ⟨2688 + l.val, by omega⟩ else if h : l.val < 40 then prod H M G W R ⟨5344 + (l.val - 32), by omega⟩ else 0

def ropeKeyRow : Fin 128 → EReal := turn 16 (auxRow H M G W R) (fun d => C (ix3 0 R d)) (fun d => S (ix3 0 R d))

/-- The index keys: 64 lanes, twice. -/
def indexKeyRow : Fin 128 → EReal :=
  turn 32 (fun l => prod H M G W R ⟨5280 + l.val % 64, by omega⟩) (fun d => C (ix3 1 R d)) (fun d => S (ix3 1 R d))

def indexRow : Fin 512 → EReal :=
  turn4 32 (fun e => prod H M G W R ⟨4768 + e.val, by omega⟩) (fun d => C (ix3 1 R d)) (fun d => S (ix3 1 R d))

def scaledRow (l : Fin 128) : EReal := auxRow H M G W R l * Ideal.ofBits .f32 0x3EB504F3#32

def gateRow (e : Fin 2048) : EReal := Cert.Proj.silu (prod H M G W R ⟨2720 + e.val, by omega⟩)

end rows

/-! The layouts of the results. `A` and `B` give a row's lanes. -/

section layouts

/-- Row `p` of block `g` of batch `b`. -/
def place (b g : Fin 16) (p : Fin 256) : Fin 65536 := ⟨b.val * 4096 + g.val * 256 + p.val, by omega⟩

def queryArray (A : Fin 65536 → Fin 2048 → EReal) (B : Fin 65536 → Fin 512 → EReal) : Vec Ideal S16x16x16x256x256 .bf16 :=
  fun z => query (A (place (z 0) (z 1) (z 4))) (B (place (z 0) (z 1) (z 4))) (z 2) (z 3)

def keyArray (A B : Fin 65536 → Fin 128 → EReal) : Vec Ideal S65536x256 .bf16 := fun z => key (A (z 0)) (B (z 0)) (z 1)

def valueArray (A : Fin 65536 → Fin 128 → EReal) : Vec Ideal S16x16x144x256 .bf16 := fun z => value (A (place (z 0) (z 1) (z 3))) (z 2)

def indexArray (A : Fin 65536 → Fin 512 → EReal) : Vec Ideal S16x16x128x2048 .bf16 := fun z =>
  index (A (place (z 0) (z 1) ⟨(z 3).val % 256, Nat.mod_lt _ (by norm_num)⟩)) ⟨(z 3).val / 256, by have : (z 3).val < 2048 := (z 3).isLt; omega⟩ (z 2)

/-- Two dimensions: rows and lanes. -/
def plainArray {w : ℕ} (A : Fin 65536 → Fin w → EReal) : ((⟨2, ![65536, w]⟩ : Shape).Idx) → EReal := fun z => A (z 0) (z 1)

end layouts

/-! The operands. -/

variable (m : (ℓ : Loc nD τ sig) → Buf (Elt Ideal) ℓ)

abbrev weights (c : Dev nD) : Vec Ideal S1024x5352 .f32 := m ((c : Thread nD τ).loc main_arg4)

/-! The parts the assembled columns are joined from. -/

/-- An array as it is when the columns are joined. -/
abbrev before (c : Dev nD) (r : Ref sig .tc) := StableHlo.upto (hostOps0 (F := Ideal)) (fun b => m (c, b)) 12 (Proc.tc.devRef r)

theorem part_lat (c : Dev nD) (d : Fin 1024) (e : Fin 2048) : (before m c main_v0 : Vec Ideal S1024x2048 .f32) (ix2 d e) = weights m c (ix2 d ⟨e.val, by omega⟩) := by
  unfold before
  after_reads_simp
  pointwise

theorem part_rope (c : Dev nD) (d : Fin 1024) (e : Fin 512) : (before m c main_v1 : Vec Ideal S1024x512 .f32) (ix2 d e) = weights m c (ix2 d ⟨2048 + e.val, by omega⟩) := by
  unfold before
  after_reads_simp
  pointwise

theorem part_kv (c : Dev nD) (d : Fin 1024) (e : Fin 128) : (before m c main_v2 : Vec Ideal S1024x128 .f32) (ix2 d e) = weights m c (ix2 d ⟨2560 + e.val, by omega⟩) := by
  unfold before
  after_reads_simp
  pointwise

theorem part_gate (c : Dev nD) (d : Fin 1024) (e : Fin 2048) : (before m c main_v4 : Vec Ideal S1024x2048 .f32) (ix2 d e) = weights m c (ix2 d ⟨2720 + e.val, by omega⟩) := by
  unfold before
  after_reads_simp
  pointwise

theorem part_index (c : Dev nD) (d : Fin 1024) (e : Fin 512) : (before m c main_v5 : Vec Ideal S1024x512 .f32) (ix2 d e) = weights m c (ix2 d ⟨4768 + e.val, by omega⟩) := by
  unfold before
  after_reads_simp
  pointwise

theorem part_dup (c : Dev nD) (d : Fin 1024) (e : Fin 128) : (before m c main_v10 : Vec Ideal S1024x128 .f32) (ix2 d e) = weights m c (ix2 d ⟨5280 + e.val % 64, by omega⟩) := by
  unfold before
  after_reads_simp
  pointwise
  split_ifs <;> first | (exfalso; omega) | exact congrArg (fun k => weights m c (ix2 d k)) (Fin.ext (by dsimp only; omega))

theorem part_aux (c : Dev nD) (d : Fin 1024) (e : Fin 128) : (before m c main_v9 : Vec Ideal S1024x128 .f32) (ix2 d e)
    = if h : e.val < 32 then weights m c (ix2 d ⟨2688 + e.val, by omega⟩) else if h : e.val < 40 then weights m c (ix2 d ⟨5344 + (e.val - 32), by omega⟩) else (0 : EReal) := by
  unfold before
  after_reads_simp
  pointwise
  split_ifs <;> first | (exfalso; omega) | (after_reads_simp; pointwise; done) | skip
  · after_reads_simp
    pointwise
    rw [dif_pos (by omega)]
  · after_reads_simp
    pointwise
    rw [dif_neg (by omega)]

/-! The assembled columns, before the rounding. -/

theorem columns_lat (c : Dev nD) (d : Fin 1024) (e : Fin 2048) :
    (V m c main_v12 : Vec Ideal S1024x5504 .bf16) (ix2 d ⟨e.val, by omega⟩) = weights m c (ix2 d ⟨e.val, by omega⟩) := by
  unfold V
  after_reads_simp
  pointwise
  exact part_lat m c d e

theorem columns_rope (c : Dev nD) (d : Fin 1024) (e : Fin 512) :
    (V m c main_v12 : Vec Ideal S1024x5504 .bf16) (ix2 d ⟨2048 + e.val, by omega⟩) = weights m c (ix2 d ⟨2048 + e.val, by omega⟩) := by
  unfold V
  after_reads_simp
  pointwise
  exact part_rope m c d e

theorem columns_kv (c : Dev nD) (d : Fin 1024) (e : Fin 128) :
    (V m c main_v12 : Vec Ideal S1024x5504 .bf16) (ix2 d ⟨2560 + e.val, by omega⟩) = weights m c (ix2 d ⟨2560 + e.val, by omega⟩) := by
  unfold V
  after_reads_simp
  pointwise
  split_ifs <;> first | (exfalso; omega) | skip
  exact (part_kv m c d ⟨_, _⟩).trans (congrArg (fun k => weights m c (ix2 d k)) (Fin.ext (by dsimp only; omega)))

theorem columns_aux (c : Dev nD) (d : Fin 1024) (e : Fin 128) (r : EReal) (h : (before m c main_v9 : Vec Ideal S1024x128 .f32) (ix2 d e) = r) :
    (V m c main_v12 : Vec Ideal S1024x5504 .bf16) (ix2 d ⟨2688 + e.val, by omega⟩) = r := by
  unfold V
  after_reads_simp
  pointwise
  split_ifs <;> first | (exfalso; omega) | skip
  exact (congrArg (fun k => (before m c main_v9 : Vec Ideal S1024x128 .f32) (ix2 d k)) (Fin.ext (by dsimp only; omega))).trans h

theorem columns_dup (c : Dev nD) (d : Fin 1024) (e : Fin 128) :
    (V m c main_v12 : Vec Ideal S1024x5504 .bf16) (ix2 d ⟨2816 + e.val, by omega⟩) = weights m c (ix2 d ⟨5280 + e.val % 64, by omega⟩) := by
  unfold V
  after_reads_simp
  pointwise
  split_ifs <;> first | (exfalso; omega) | skip
  exact (part_dup m c d ⟨_, _⟩).trans (congrArg (fun k => weights m c (ix2 d k)) (Fin.ext (by dsimp only; omega)))

theorem columns_gate (c : Dev nD) (d : Fin 1024) (e : Fin 2048) :
    (V m c main_v12 : Vec Ideal S1024x5504 .bf16) (ix2 d ⟨2944 + e.val, by omega⟩) = weights m c (ix2 d ⟨2720 + e.val, by omega⟩) := by
  unfold V
  after_reads_simp
  pointwise
  split_ifs <;> first | (exfalso; omega) | skip
  exact (part_gate m c d ⟨_, _⟩).trans (congrArg (fun k => weights m c (ix2 d k)) (Fin.ext (by dsimp only; omega)))

theorem columns_index (c : Dev nD) (d : Fin 1024) (e : Fin 512) :
    (V m c main_v12 : Vec Ideal S1024x5504 .bf16) (ix2 d ⟨4992 + e.val, by omega⟩) = weights m c (ix2 d ⟨4768 + e.val, by omega⟩) := by
  unfold V
  after_reads_simp
  pointwise
  split_ifs <;> first | (exfalso; omega) | skip
  exact (part_index m c d ⟨_, _⟩).trans (congrArg (fun k => weights m c (ix2 d k)) (Fin.ext (by dsimp only; omega)))

end Cert.Latent

end
-- ==== Proof.LatArray.lean ====
/-
The seven arrays after the run. Point `t` of the 256 has rows `256 t …` of the sequence, of batch `t / 16`.
-/
module

public import proofs.«01_k».proof.Proof.LatRows
public import Idealize.ShloMosaic.Lib.Pipeline.Covers

@[expose] public section

set_option maxRecDepth 16384

noncomputable section

open Idealize.ShloMosaic Idealize.ShloMosaic.TcCoe Idealize.SL.Sem
open Cert.Kernel3Ideal Cert.Kernel3Ideal.Gen

namespace Cert.Latent

variable (m : (ℓ : Loc nD τ sig) → Buf (Elt Ideal) ℓ) (c : Dev nD)

/-! The other operands, and the results' rows in terms of them. -/

abbrev hidden : Vec Ideal S65536x1024 .f32 := m ((c : Thread nD τ).loc main_arg0)
abbrev condition : Vec Ideal S16x3x1024 .f32 := m ((c : Thread nD τ).loc main_arg1)
abbrev gain : Vec Ideal S1x1024 .f32 := m ((c : Thread nD τ).loc main_arg2)
abbrev kvGain : Vec Ideal S1x128 .f32 := m ((c : Thread nD τ).loc main_arg3)
abbrev cosTable : Vec Ideal S3x65536x128 .f32 := m ((c : Thread nD τ).loc main_arg5)
abbrev sinTable : Vec Ideal S3x65536x128 .f32 := m ((c : Thread nD τ).loc main_arg6)

abbrev lats : Fin 65536 → Fin 2048 → EReal := latRow (hidden m c) (condition m c) (gain m c) (weights m c)
abbrev ropes : Fin 65536 → Fin 512 → EReal := ropeRow (hidden m c) (condition m c) (gain m c) (weights m c) (cosTable m c) (sinTable m c)
abbrev kvs : Fin 65536 → Fin 128 → EReal := kvRow (hidden m c) (condition m c) (gain m c) (kvGain m c) (weights m c)
abbrev auxs : Fin 65536 → Fin 128 → EReal := auxRow (hidden m c) (condition m c) (gain m c) (weights m c)
abbrev ropeKeys : Fin 65536 → Fin 128 → EReal := ropeKeyRow (hidden m c) (condition m c) (gain m c) (weights m c) (cosTable m c) (sinTable m c)
abbrev indexKeys : Fin 65536 → Fin 128 → EReal := indexKeyRow (hidden m c) (condition m c) (gain m c) (weights m c) (cosTable m c) (sinTable m c)
abbrev indexes : Fin 65536 → Fin 512 → EReal := indexRow (hidden m c) (condition m c) (gain m c) (weights m c) (cosTable m c) (sinTable m c)
abbrev scaleds : Fin 65536 → Fin 128 → EReal := scaledRow (hidden m c) (condition m c) (gain m c) (weights m c)
abbrev gates : Fin 65536 → Fin 2048 → EReal := gateRow (hidden m c) (condition m c) (gain m c) (weights m c)

theorem idx : ∀ t : Fin cfg0.N, win0_0.index t = ![t.val, 0] ∧ win0_1.index t = ![t.val / 16, 0, 0] ∧ win0_2.index t = ![0, 0]
    ∧ win0_3.index t = ![0, 0] ∧ win0_4.index t = ![0, 0] ∧ win0_5.index t = ![0, t.val, 0] ∧ win0_6.index t = ![0, t.val, 0] ∧ t.val < 256 :=
  (by decide +kernel : ∀ t : Fin grid0.N, _)

theorem idxOut : ∀ t : Fin cfg0.N, win0_7.index t = ![t.val / 16, t.val % 16, 0, 0, 0] ∧ win0_8.index t = ![t.val, 0]
    ∧ win0_9.index t = ![t.val / 16, t.val % 16, 0, 0] ∧ win0_10.index t = ![t.val, 0] ∧ win0_11.index t = ![t.val / 16, t.val % 16, 0, 0]
    ∧ win0_12.index t = ![t.val, 0] ∧ win0_13.index t = ![t.val, 0] :=
  (by decide +kernel : ∀ t : Fin grid0.N, _)

/-- The row of the sequence that row `p` of point `t` is. -/
def rowOf (t : Fin cfg0.N) (p : Fin 256) : Fin 65536 := ⟨t.val * 256 + p.val, by have := (idx t).2.2.2.2.2.2.2; omega⟩

variable (t : Fin cfg0.N)

theorem hidden_blk (p : Fin 256) (d : Fin 1024) : iblk m c 0 t (ix2 p d) = hidden m c (ix2 (rowOf t p) d) := by
  unfold rowOf
  blk_ext [iblk, V, idx t]

theorem condition_blk (p : Fin 256) (i : Fin 3) (d : Fin 1024) :
    iblk m c 1 t (ix3 0 i d) = condition m c (ix3 (⟨(rowOf t p).val / 4096, by have := (rowOf t p).isLt; omega⟩ : Fin 16) i d) := by
  have := p.isLt
  unfold rowOf
  blk_ext [iblk, V, idx t] <;> omega

theorem gain_blk (d : Fin 1024) : iblk m c 2 t (ix2 0 d) = gain m c (ix2 0 d) := by blk_ext [iblk, V, idx t]

theorem kvGain_blk (l : Fin 128) : iblk m c 3 t (ix2 0 l) = kvGain m c (ix2 0 l) := by blk_ext [iblk, V, idx t]

theorem columns_blk (d : Fin 1024) (e : Fin 5504) : iblk m c 4 t (ix2 d e) = (V m c main_v12 : Vec Ideal S1024x5504 .bf16) (ix2 d e) := by
  blk_ext [iblk, idx t]

theorem cos_blk (i : Fin 2) (p : Fin 256) (l : Fin 128) : X0_5 m c t (ix3 i p l) = cosTable m c (ix3 (⟨i.val, by omega⟩ : Fin 3) (rowOf t p) l) := by
  unfold X0_5 Pipeline.Window.fill
  rw [dif_pos (moved0_5 t _)]
  unfold rowOf
  blk_ext [iblk, V, idx t]

theorem sin_blk (i : Fin 2) (p : Fin 256) (l : Fin 128) : X0_6 m c t (ix3 i p l) = sinTable m c (ix3 (⟨i.val, by omega⟩ : Fin 3) (rowOf t p) l) := by
  unfold X0_6 Pipeline.Window.fill
  rw [dif_pos (moved0_6 t _)]
  unfold rowOf
  blk_ext [iblk, V, idx t]

/-! The tables and weights a point cuts out of its blocks. -/

theorem cos32_at (p : Fin 256) (l : Fin 128) : cos32 m c t (ix2 p l) = cosTable m c (ix3 0 (rowOf t p) l) := by
  refine Eq.trans ?_ (cos_blk m c t 0 p l)
  pointwise [cos32, k0_pay4]

theorem sin32_at (p : Fin 256) (l : Fin 128) : sin32 m c t (ix2 p l) = sinTable m c (ix3 0 (rowOf t p) l) := by
  refine Eq.trans ?_ (sin_blk m c t 0 p l)
  pointwise [sin32, k0_pay5]

theorem cos64_at (p : Fin 256) (l : Fin 128) : cos64 m c t (ix2 p l) = cosTable m c (ix3 1 (rowOf t p) l) := by
  refine Eq.trans ?_ (cos_blk m c t 1 p l)
  pointwise [cos64, k0_pay6]

theorem sin64_at (p : Fin 256) (l : Fin 128) : sin64 m c t (ix2 p l) = sinTable m c (ix3 1 (rowOf t p) l) := by
  refine Eq.trans ?_ (sin_blk m c t 1 p l)
  pointwise [sin64, k0_pay7]

theorem latW_at (d : Fin 1024) (e : Fin 2048) : latW m c t (ix2 d e) = weights m c (ix2 d ⟨e.val, by omega⟩) := by
  refine Eq.trans ?_ ((columns_blk m c t d _).trans (columns_lat m c d e))
  pointwise [latW]

theorem ropeW_at (d : Fin 1024) (e : Fin 512) : ropeW m c t (ix2 d e) = weights m c (ix2 d ⟨2048 + e.val, by omega⟩) := by
  refine Eq.trans ?_ ((columns_blk m c t d _).trans (columns_rope m c d e))
  pointwise [ropeW]

theorem kvW_at (d : Fin 1024) (e : Fin 128) : kvW m c t (ix2 d e) = weights m c (ix2 d ⟨2560 + e.val, by omega⟩) := by
  refine Eq.trans ?_ ((columns_blk m c t d _).trans (columns_kv m c d e))
  pointwise [kvW]

theorem auxW_at (d : Fin 1024) (e : Fin 128) : auxW m c t (ix2 d e)
    = if h : e.val < 32 then weights m c (ix2 d ⟨2688 + e.val, by omega⟩) else if h : e.val < 40 then weights m c (ix2 d ⟨5344 + (e.val - 32), by omega⟩) else (0 : EReal) := by
  refine Eq.trans ?_ ((columns_blk m c t d _).trans (columns_aux m c d e _ (part_aux m c d e)))
  pointwise [auxW]

theorem dupW_at (d : Fin 1024) (e : Fin 128) : dupW m c t (ix2 d e) = weights m c (ix2 d ⟨5280 + e.val % 64, by omega⟩) := by
  refine Eq.trans ?_ ((columns_blk m c t d _).trans (columns_dup m c d e))
  pointwise [dupW]

theorem gateW_at (d : Fin 1024) (e : Fin 2048) : gateW m c t (ix2 d e) = weights m c (ix2 d ⟨2720 + e.val, by omega⟩) := by
  refine Eq.trans ?_ ((columns_blk m c t d _).trans (columns_gate m c d e))
  pointwise [gateW]

theorem indexW_at (d : Fin 1024) (e : Fin 512) : indexW m c t (ix2 d e) = weights m c (ix2 d ⟨4768 + e.val, by omega⟩) := by
  refine Eq.trans ?_ ((columns_blk m c t d _).trans (columns_index m c d e))
  pointwise [indexW]

theorem scale_at (p : Fin 256) (d : Fin 1024) :
    scaleRow m c t (ix3 0 0 d) = condition m c (ix3 (⟨(rowOf t p).val / 4096, by have := (rowOf t p).isLt; omega⟩ : Fin 16) 1 d) := by
  rw [← condition_blk m c t]
  pointwise [scaleRow]

theorem shift_at (p : Fin 256) (d : Fin 1024) :
    shiftRow m c t (ix3 0 0 d) = condition m c (ix3 (⟨(rowOf t p).val / 4096, by have := (rowOf t p).isLt; omega⟩ : Fin 16) 0 d) := by
  rw [← condition_blk m c t]
  pointwise [shiftRow]

/-! The matrices of a point. -/

theorem mod_at (p : Fin 256) (d : Fin 1024) : modT m c t (ix2 p d) = Cert.Proj.modRow (hidden m c) (condition m c) (gain m c) (rowOf t p) d := by
  refine (modulated_apply p _ _ _ _ d).trans ?_
  simp only [hidden_blk, gain_blk, scale_at m c t p, shift_at m c t p]
  rfl

/-- Column `j` of the weights, for a row of the point. -/
abbrev prods (p : Fin 256) : Fin 5352 → EReal := prod (hidden m c) (condition m c) (gain m c) (weights m c) (rowOf t p)

theorem lats_eq : latRows (k0_pay8 (modT m c t) (latW m c t)) = fun p => lats m c (rowOf t p) := by
  funext p e
  refine (latent_apply p _ _ e).trans ?_
  simp only [mod_at, latW_at]
  rfl

theorem ropes_eq : ropeRows (cos32 m c t) (sin32 m c t) (k0_pay9 (modT m c t) (ropeW m c t)) = fun p => ropes m c (rowOf t p) := by
  funext p e
  show turn4 16 (fun e => k0_pay9 (modT m c t) (ropeW m c t) (ix2 p e)) (fun d => cos32 m c t (ix2 p d)) (fun d => sin32 m c t (ix2 p d)) e * qscale = _
  simp only [rope_apply, mod_at, ropeW_at, cos32_at, sin32_at]
  rfl

theorem kvs_eq : rows128 (kvT m c t) = fun p => kvs m c (rowOf t p) := by
  funext p l
  refine (latentT_apply p l _ _ _).trans ?_
  simp only [mod_at, kvW_at, kvGain_blk]
  rfl

theorem auxs_at (p : Fin 256) (l : Fin 128) : k0_pay85 (modT m c t) (auxW m c t) (ix2 p l) = auxs m c (rowOf t p) l := by
  refine (prod_apply p l _ _).trans ?_
  simp only [mod_at, auxW_at]
  unfold auxs auxRow
  split_ifs
  · rfl
  · rfl
  · simp only [mul_zero, Finset.sum_const_zero]

theorem ropeKeys_eq : keyRows (cos32 m c t) (sin32 m c t) (k0_pay85 (modT m c t) (auxW m c t)) = fun p => ropeKeys m c (rowOf t p) := by
  funext p l
  show turn 16 (fun d => k0_pay85 (modT m c t) (auxW m c t) (ix2 p d)) (fun d => cos32 m c t (ix2 p d)) (fun d => sin32 m c t (ix2 p d)) l = _
  simp only [auxs_at, cos32_at, sin32_at]
  rfl

theorem indexKeys_at (p : Fin 256) (l : Fin 128) :
    k0_pay92 (cos64 m c t) (sin64 m c t) (k0_pay89 (modT m c t) (dupW m c t)) k0_pay90 k0_pay91 (ix2 p l) = indexKeys m c (rowOf t p) l := by
  refine (indexKey_apply _ _ _ p l).trans ?_
  have e (d : Fin 128) : k0_pay89 (modT m c t) (dupW m c t) (ix2 p d) = prods m c t p ⟨5280 + d.val % 64, by omega⟩ := by
    refine (prod_apply p d _ _).trans ?_
    simp only [mod_at, dupW_at]
    rfl
  simp only [e, cos64_at, sin64_at]
  rfl

theorem indexes_eq : indexRows (cos64 m c t) (sin64 m c t) (k0_pay93 (modT m c t) (indexW m c t)) = fun p => indexes m c (rowOf t p) := by
  funext p e
  show turn4 32 (fun e => k0_pay93 (modT m c t) (indexW m c t) (ix2 p e)) (fun d => cos64 m c t (ix2 p d)) (fun d => sin64 m c t (ix2 p d)) e = _
  simp only [index_apply, mod_at, indexW_at, cos64_at, sin64_at]
  rfl

theorem scaleds_at (p : Fin 256) (l : Fin 128) : k0_pay88 (k0_pay85 (modT m c t) (auxW m c t)) (ix2 p l) = scaleds m c (rowOf t p) l := by
  refine (aux_apply _ p l).trans ?_
  rw [auxs_at]
  rfl

theorem gates_at (p : Fin 256) (e : Fin 2048) : k0_pay2 (modT m c t) (gateW m c t) (ix2 p e) = gates m c (rowOf t p) e := by
  refine (gate_apply p _ _ e).trans ?_
  simp only [mod_at, gateW_at]
  rfl

/-! What a point stores, in the whole arrays. -/

variable {t}

theorem place_eq {b g : Fin 16} {p q : Fin 256} (hb : b.val = t.val / 16) (hg : g.val = t.val % 16) (hp : p.val = q.val) : rowOf t q = place b g p :=
  Fin.ext (by dsimp only [rowOf, place]; omega)

theorem storedQ_in (A : Fin 65536 → Fin 2048 → EReal) (B : Fin 65536 → Fin 512 → EReal) (y : S1x1x16x256x256.Idx) (z : S16x16x16x256x256.Idx)
    (h0 : (z 0).val = t.val / 16) (h1 : (z 1).val = t.val % 16) (h2 : (z 2).val = (y 2).val) (h3 : (z 3).val = (y 3).val) (h4 : (z 4).val = (y 4).val) :
    storedQ (fun p => A (rowOf t p)) (fun p => B (rowOf t p)) y = queryArray A B z := by
  have e2 : (y 2 : Fin 16) = z 2 := Fin.ext h2.symm
  have e3 : (y 3 : Fin 256) = z 3 := Fin.ext h3.symm
  have e := place_eq (p := z 4) (q := y 4) h0 h1 h4
  exact congr (congr (congrArg₂ query (congrArg A e) (congrArg B e)) e2) e3

theorem storedK_in (A B : Fin 65536 → Fin 128 → EReal) (y : S256x256.Idx) (z : S65536x256.Idx)
    (h0 : (z 0).val = t.val * 256 + (y 0).val) (h1 : (z 1).val = (y 1).val) :
    storedK (fun p => A (rowOf t p)) (fun p => B (rowOf t p)) y = keyArray A B z := by
  have e0 : rowOf t (y 0) = z 0 := Fin.ext h0.symm
  have e1 : (y 1 : Fin 256) = z 1 := Fin.ext h1.symm
  exact congr (congrArg₂ key (congrArg A e0) (congrArg B e0)) e1

theorem storedV_in (A : Fin 65536 → Fin 128 → EReal) (y : S1x1x144x256.Idx) (z : S16x16x144x256.Idx)
    (h0 : (z 0).val = t.val / 16) (h1 : (z 1).val = t.val % 16) (h2 : (z 2).val = (y 2).val) (h3 : (z 3).val = (y 3).val) :
    storedV (fun p => A (rowOf t p)) y = valueArray A z := by
  have e2 : (y 2 : Fin 144) = z 2 := Fin.ext h2.symm
  have e := place_eq (p := z 3) (q := y 3) h0 h1 h3
  exact congr (congrArg value (congrArg A e)) e2

theorem storedI_in (A : Fin 65536 → Fin 512 → EReal) (y : S1x1x128x2048.Idx) (z : S16x16x128x2048.Idx)
    (h0 : (z 0).val = t.val / 16) (h1 : (z 1).val = t.val % 16) (h2 : (z 2).val = (y 2).val) (h3 : (z 3).val = (y 3).val) :
    storedI (fun p => A (rowOf t p)) y = indexArray A z := by
  have e2 : (y 2 : Fin 128) = z 2 := Fin.ext h2.symm
  have e := place_eq (p := ⟨(z 3).val % 256, Nat.mod_lt _ (by norm_num)⟩) (q := ⟨(y 3).val % 256, Nat.mod_lt _ (by norm_num)⟩) h0 h1 (by dsimp only; rw [h3])
  exact congr (congr (congrArg index (congrArg A e)) (Fin.ext (by dsimp only; rw [h3]))) e2

/-! The arrays. -/

theorem final_q : (dats m 0 c).arrAt 7 cfg0.N = queryArray (lats m c) (ropes m c) := by
  refine (dats m 0 c).arrAt_eq_of_covers 7 _ (by decide +kernel) fun t _ y => ?_
  blk_simp
  rw [after0_7, out7 m c t, lats_eq, ropes_eq]
  refine storedQ_in _ _ y _ ?_ ?_ ?_ ?_ ?_ <;> blk_simp [idxOut t]

theorem final_k : (dats m 0 c).arrAt 8 cfg0.N = keyArray (kvs m c) (ropeKeys m c) := by
  refine (dats m 0 c).arrAt_eq_of_covers 8 _ (by decide +kernel) fun t _ y => ?_
  blk_simp
  rw [after0_8, out8 m c t, kvs_eq, ropeKeys_eq]
  refine storedK_in _ _ y _ ?_ ?_ <;> blk_simp [idxOut t]

theorem final_v : (dats m 0 c).arrAt 9 cfg0.N = valueArray (kvs m c) := by
  refine (dats m 0 c).arrAt_eq_of_covers 9 _ (by decide +kernel) fun t _ y => ?_
  blk_simp
  rw [after0_9, out9 m c t, kvs_eq]
  refine storedV_in _ y _ ?_ ?_ ?_ ?_ <;> blk_simp [idxOut t]

theorem final_indexKeys : (dats m 0 c).arrAt 10 cfg0.N = plainArray (indexKeys m c) := by
  refine (dats m 0 c).arrAt_eq_of_covers 10 _ (by decide +kernel) fun t _ y => ?_
  blk_simp
  rw [after0_10, out10 m c t]
  obtain ⟨p, l, rfl⟩ : ∃ p l, y = ix2 p l := ⟨y 0, y 1, by funext a; fin_cases a <;> rfl⟩
  refine (indexKeys_at m c t p l).trans ?_
  unfold plainArray
  refine congrArg₂ (indexKeys m c) ?_ ?_ <;> refine Fin.ext ?_ <;> blk_simp [idxOut t] <;> rfl

theorem final_index : (dats m 0 c).arrAt 11 cfg0.N = indexArray (indexes m c) := by
  refine (dats m 0 c).arrAt_eq_of_covers 11 _ (by decide +kernel) fun t _ y => ?_
  blk_simp
  rw [after0_11, out11 m c t, indexes_eq]
  refine storedI_in _ y _ ?_ ?_ ?_ ?_ <;> blk_simp [idxOut t]

theorem final_scaled : (dats m 0 c).arrAt 12 cfg0.N = plainArray (scaleds m c) := by
  refine (dats m 0 c).arrAt_eq_of_covers 12 _ (by decide +kernel) fun t _ y => ?_
  blk_simp
  rw [after0_12, out12 m c t]
  obtain ⟨p, l, rfl⟩ : ∃ p l, y = ix2 p l := ⟨y 0, y 1, by funext a; fin_cases a <;> rfl⟩
  refine (scaleds_at m c t p l).trans ?_
  unfold plainArray
  refine congrArg₂ (scaleds m c) ?_ ?_ <;> refine Fin.ext ?_ <;> blk_simp [idxOut t] <;> rfl

theorem final_gate : (dats m 0 c).arrAt 13 cfg0.N = plainArray (gates m c) := by
  refine (dats m 0 c).arrAt_eq_of_covers 13 _ (by decide +kernel) fun t _ y => ?_
  blk_simp
  rw [after0_13, out13 m c t]
  obtain ⟨p, l, rfl⟩ : ∃ p l, y = ix2 p l := ⟨y 0, y 1, by funext a; fin_cases a <;> rfl⟩
  refine (gates_at m c t p l).trans ?_
  unfold plainArray
  refine congrArg₂ (gates m c) ?_ ?_ <;> refine Fin.ext ?_ <;> blk_simp [idxOut t] <;> rfl

end Cert.Latent

end
-- ==== Proof.LatReference.lean ====
/-
The reference's seven results. Its matrices hold all 65536 rows at once; the rotation takes a group's two halves apart,
and the layouts are reshapes and transposes.
-/
module

public import proofs.«01_k».proof.Proof.LatRows
public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem
open Cert.Reference3Ideal Cert.Reference3Ideal.Gen Cert.Reference3Ideal.Read

namespace Cert.Latent.Ref

variable (x0 : Vec Ideal S65536x1024 .f32) (x1 : Vec Ideal S16x3x1024 .f32) (x2 : Vec Ideal S1x1024 .f32) (x3 : Vec Ideal S1x128 .f32)
  (x4 : Vec Ideal S1024x5352 .f32) (x5 x6 : Vec Ideal S3x65536x128 .f32)

/-! Normalised rows and the product. -/

theorem norm_at (R : Fin 65536) (d : Fin 1024) : val_main_v21 (F := Ideal) x0 x2 (ix2 R d) = Cert.Proj.rmsRow x0 x2 R d := by
  pointwise [val_main_v21, val_main_v20, val_main_v19, val_main_v18, val_main_v17, val_main_v16, val_main_v15, val_main_v14, val_main_v13, val_main_v12,
    val_main_v11, val_main_v10, val_main_cst, val_main_cst_0, val_main_cst_1]
  rfl

theorem mod_at (R : Fin 65536) (d : Fin 1024) : val_main_v29 (F := Ideal) x0 x1 x2 (ix2 R d) = Cert.Proj.modRow x0 x1 x2 R d := by
  unfold Cert.Proj.modRow Cert.Proj.modulate
  rw [← norm_at]
  pointwise [val_main_v29, val_main_v28, val_main_v27, val_main_v26, val_main_v25, val_main_v24, val_main_v23, val_main_v22, val_main_v9, val_main_v8, val_main_cst_2]

theorem prod_at (R : Fin 65536) (j : Fin 5352) : val_main_v30 (F := Ideal) x0 x1 x2 x4 (ix2 R j) = prod x0 x1 x2 x4 R j := by
  unfold prod
  simp only [← mod_at]
  pointwise [val_main_v30]

theorem lat_at (R : Fin 65536) (e : Fin 2048) : val_main_v31 (F := Ideal) x0 x1 x2 x4 (ix2 R e) = prod x0 x1 x2 x4 R ⟨e.val, by omega⟩ := by
  rw [← prod_at]
  pointwise [val_main_v31]

theorem rope_at (R : Fin 65536) (e : Fin 512) : val_main_v32 (F := Ideal) x0 x1 x2 x4 (ix2 R e) = prod x0 x1 x2 x4 R ⟨2048 + e.val, by omega⟩ := by
  rw [← prod_at]
  pointwise [val_main_v32]

theorem latent_at (R : Fin 65536) (e : Fin 128) : val_main_v33 (F := Ideal) x0 x1 x2 x4 (ix2 R e) = prod x0 x1 x2 x4 R ⟨2560 + e.val, by omega⟩ := by
  rw [← prod_at]
  pointwise [val_main_v33]

theorem keyRope_at (R : Fin 65536) (e : Fin 32) : val_main_v34 (F := Ideal) x0 x1 x2 x4 (ix2 R e) = prod x0 x1 x2 x4 R ⟨2688 + e.val, by omega⟩ := by
  rw [← prod_at]
  pointwise [val_main_v34]

theorem gateIn_at (R : Fin 65536) (e : Fin 2048) : val_main_v35 (F := Ideal) x0 x1 x2 x4 (ix2 R e) = prod x0 x1 x2 x4 R ⟨2720 + e.val, by omega⟩ := by
  rw [← prod_at]
  pointwise [val_main_v35]

theorem indexIn_at (R : Fin 65536) (e : Fin 512) : val_main_v36 (F := Ideal) x0 x1 x2 x4 (ix2 R e) = prod x0 x1 x2 x4 R ⟨4768 + e.val, by omega⟩ := by
  rw [← prod_at]
  pointwise [val_main_v36]

theorem indexKeyIn_at (R : Fin 65536) (e : Fin 64) : val_main_v37 (F := Ideal) x0 x1 x2 x4 (ix2 R e) = prod x0 x1 x2 x4 R ⟨5280 + e.val, by omega⟩ := by
  rw [← prod_at]
  pointwise [val_main_v37]

theorem weightIn_at (R : Fin 65536) (e : Fin 8) : val_main_v38 (F := Ideal) x0 x1 x2 x4 (ix2 R e) = prod x0 x1 x2 x4 R ⟨5344 + e.val, by omega⟩ := by
  rw [← prod_at]
  pointwise [val_main_v38]

/-! The rotations. -/

theorem mate16 (l : Fin 128) : (mate 16 l).val = if l.val % 32 < 16 then l.val + 16 else l.val - 16 := by
  revert l
  decide +kernel

theorem mate32 (l : Fin 128) : (mate 32 l).val = if l.val % 64 < 32 then l.val + 32 else l.val - 32 := by
  revert l
  decide +kernel

theorem pair {n : ℕ} (f : Fin n → EReal) (i : Fin 3) (R : Fin 65536) (a b l p : Fin n) (d e : Fin 128) (ha : a = l) (hb : b = p) (hd : d = e) :
    (f a * x5 (ix3 i R d) + f b * x6 (ix3 i R d) : EReal) = f l * x5 (ix3 i R e) + f p * x6 (ix3 i R e) := by
  subst ha hb hd
  rfl

theorem ropeTurned_at (R : Fin 65536) (e : Fin 512) : val_main_v59 (F := Ideal) x0 x1 x2 x4 x5 x6 (ix2 R e)
    = turn4 16 (fun e => val_main_v32 (F := Ideal) x0 x1 x2 x4 (ix2 R e)) (fun d => x5 (ix3 0 R d)) (fun d => x6 (ix3 0 R d)) e := by
  unfold turn4 turn among
  pointwise [val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40, val_main_v39,
    val_main_v3, val_main_v2, val_main_v1, val_main_v0]
  have hl := e.isLt
  have hm := mate16 ⟨e.val % 128, Nat.mod_lt _ (by norm_num)⟩
  dsimp only at hm
  split
  · rw [if_pos (by omega)] at hm
    exact pair x5 x6 (fun e => val_main_v32 (F := Ideal) x0 x1 x2 x4 (ix2 R e)) 0 R _ _ _ _ _ _ (Fin.ext (by dsimp only; omega)) (Fin.ext (by dsimp only; omega)) (Fin.ext (by dsimp only; omega))
  · rw [if_neg (by omega)] at hm
    exact pair x5 x6 (fun e => val_main_v32 (F := Ideal) x0 x1 x2 x4 (ix2 R e)) 0 R _ _ _ _ _ _ (Fin.ext (by dsimp only; omega)) (Fin.ext (by dsimp only; omega)) (Fin.ext (by dsimp only; omega))

theorem indexTurned_at (R : Fin 65536) (e : Fin 512) : val_main_v148 (F := Ideal) x0 x1 x2 x4 x5 x6 (ix2 R e) = indexRow x0 x1 x2 x4 x5 x6 R e := by
  unfold indexRow
  simp only [← indexIn_at]
  unfold turn4 turn among
  pointwise [val_main_v148, val_main_v147, val_main_v146, val_main_v145, val_main_v144, val_main_v143, val_main_v142, val_main_v141, val_main_v140, val_main_v139,
    val_main_v138, val_main_v137, val_main_v136, val_main_v135, val_main_v134, val_main_v133, val_main_v132, val_main_v131, val_main_v130, val_main_v129, val_main_v128,
    val_main_v7, val_main_v6, val_main_v5, val_main_v4]
  have hl := e.isLt
  have hm := mate32 ⟨e.val % 128, Nat.mod_lt _ (by norm_num)⟩
  dsimp only at hm
  split
  · rw [if_pos (by omega)] at hm
    exact pair x5 x6 (fun e => val_main_v36 (F := Ideal) x0 x1 x2 x4 (ix2 R e)) 1 R _ _ _ _ _ _ (Fin.ext (by dsimp only; omega)) (Fin.ext (by dsimp only; omega)) (Fin.ext (by dsimp only; omega))
  · rw [if_neg (by omega)] at hm
    exact pair x5 x6 (fun e => val_main_v36 (F := Ideal) x0 x1 x2 x4 (ix2 R e)) 1 R _ _ _ _ _ _ (Fin.ext (by dsimp only; omega)) (Fin.ext (by dsimp only; omega)) (Fin.ext (by dsimp only; omega))

theorem doubled_at (R : Fin 65536) (l : Fin 128) : val_main_v106 (F := Ideal) x0 x1 x2 x4 (ix2 R l) = prod x0 x1 x2 x4 R ⟨5280 + l.val % 64, by omega⟩ := by
  have h := indexKeyIn_at x0 x1 x2 x4 R ⟨l.val % 64, Nat.mod_lt _ (by norm_num)⟩
  rw [← h]
  pointwise [val_main_v106]
  split
  · exact congrArg (fun k => val_main_v37 (F := Ideal) x0 x1 x2 x4 (ix2 R k)) (Fin.ext (by dsimp only; omega))
  · exact congrArg (fun k => val_main_v37 (F := Ideal) x0 x1 x2 x4 (ix2 R k)) (Fin.ext (by dsimp only; omega))

theorem indexKey_at (R : Fin 65536) (l : Fin 128) : val_main_v123 (F := Ideal) x0 x1 x2 x4 x5 x6 (ix2 R l) = indexKeyRow x0 x1 x2 x4 x5 x6 R l := by
  unfold indexKeyRow
  simp only [← doubled_at]
  unfold turn
  pointwise [val_main_v123, val_main_v122, val_main_v121, val_main_v120, val_main_v119, val_main_v118, val_main_v117, val_main_v116, val_main_v115, val_main_v114,
    val_main_v113, val_main_v112, val_main_v111, val_main_v110, val_main_v109, val_main_v108, val_main_v107, val_main_v7, val_main_v6, val_main_v5, val_main_v4]
  have hl := l.isLt
  have hm := mate32 l
  split
  · rw [if_pos (by omega)] at hm
    exact pair x5 x6 (fun e => val_main_v106 (F := Ideal) x0 x1 x2 x4 (ix2 R e)) 1 R _ _ _ _ _ _ rfl (Fin.ext (by dsimp only; omega)) rfl
  · rw [if_neg (by omega)] at hm
    exact pair x5 x6 (fun e => val_main_v106 (F := Ideal) x0 x1 x2 x4 (ix2 R e)) 1 R _ _ _ _ _ _ (Fin.ext (by dsimp only; omega)) (Fin.ext (by dsimp only; omega)) (Fin.ext (by dsimp only; omega))

theorem kv_at (R : Fin 65536) (l : Fin 128) : val_main_v82 (F := Ideal) x0 x1 x2 x3 x4 (ix2 R l) = kvRow x0 x1 x2 x3 x4 R l := by
  unfold kvRow rms128
  simp only [← latent_at]
  pointwise [val_main_v82, val_main_v81, val_main_v80, val_main_v79, val_main_v78, val_main_v77, val_main_v76, val_main_v75, val_main_v74, val_main_v73,
    val_main_v72, val_main_v71, val_main_cst_6, val_main_cst_7, val_main_cst_8]
  try rfl

theorem auxRow_low (R : Fin 65536) (k : Fin 128) (e : Fin 32) (h : e.val = k.val) :
    val_main_v34 (F := Ideal) x0 x1 x2 x4 (ix2 R e) = auxRow x0 x1 x2 x4 R k := by
  have he := e.isLt
  unfold auxRow
  rw [dif_pos (by omega), keyRope_at]
  exact congrArg (prod x0 x1 x2 x4 R) (Fin.ext (by dsimp only; omega))

theorem ropeKey_at (R : Fin 65536) (e : Fin 32) : val_main_v101 (F := Ideal) x0 x1 x2 x4 x5 x6 (ix2 R e)
    = ropeKeyRow x0 x1 x2 x4 x5 x6 R ⟨e.val, by omega⟩ := by
  have hl := e.isLt
  have hm := mate16 ⟨e.val, by omega⟩
  dsimp only at hm
  have low (k : Fin 32) (j : Fin 128) (d l : Fin 128) (T : Vec Ideal S3x65536x128 .f32) (hk : k.val = j.val) (hd : d.val = l.val) :
      (val_main_v34 (F := Ideal) x0 x1 x2 x4 (ix2 R k) * T (ix3 0 R d) : EReal) = auxRow x0 x1 x2 x4 R j * T (ix3 0 R l) := by
    rw [auxRow_low x0 x1 x2 x4 R j k hk, Fin.ext hd]
  unfold ropeKeyRow turn
  pointwise [val_main_v101, val_main_v100, val_main_v99, val_main_v98, val_main_v97, val_main_v96, val_main_v95, val_main_v94, val_main_v93, val_main_v92,
    val_main_v91, val_main_v90, val_main_v89, val_main_v88, val_main_v87, val_main_v86, val_main_v85, val_main_v84, val_main_v83,
    val_main_v3, val_main_v2, val_main_v1, val_main_v0]
  split
  · rw [if_pos (by omega)] at hm
    exact congrArg₂ (· + ·) (low _ _ _ _ x5 (by dsimp only; try omega) (by dsimp only; try omega)) (low _ _ _ _ x6 (by dsimp only; try omega) (by dsimp only; try omega))
  · rw [if_neg (by omega)] at hm
    exact congrArg₂ (· + ·) (low _ _ _ _ x5 (by dsimp only; try omega) (by dsimp only; try omega)) (low _ _ _ _ x6 (by dsimp only; try omega) (by dsimp only; try omega))

/-! The results but for their layouts. -/

theorem scaled_at (R : Fin 65536) (l : Fin 128) : val_main_v127 (F := Ideal) x0 x1 x2 x4 (ix2 R l) = scaledRow x0 x1 x2 x4 R l := by
  have e : val_main_v125 (F := Ideal) x0 x1 x2 x4 (ix2 R l) = auxRow x0 x1 x2 x4 R l := by
    unfold auxRow
    pointwise [val_main_v125, val_main_v124, val_main_cst_11]
    split
    · exact keyRope_at x0 x1 x2 x4 R ⟨l.val, by omega⟩
    · by_cases h : l.val < 40
      · rw [dif_pos (show l.val - 32 < 8 by omega), dif_pos h]
        exact weightIn_at x0 x1 x2 x4 R ⟨l.val - 32, by omega⟩
      · rw [dif_neg (show ¬l.val - 32 < 8 by omega), dif_neg h]
  unfold scaledRow
  rw [← e]
  pointwise [val_main_v127, val_main_v126, val_main_cst_12]

theorem gate_at (R : Fin 65536) (l : Fin 2048) : val_main_v172 (F := Ideal) x0 x1 x2 x4 (ix2 R l) = gateRow x0 x1 x2 x4 R l := by
  unfold gateRow Cert.Proj.silu
  rw [← gateIn_at, sub_eq_add_neg, zero_add]
  pointwise [val_main_v172, val_main_v171, val_main_call0_v5, val_main_call0_v4, val_main_call0_v3, val_main_call0_v2, val_main_call0_v1, val_main_call0_v0,
    val_main_call0_cst, val_main_call0_cst_0]

theorem query_at (R : Fin 65536) (h : Fin 16) (f : Fin 256) : val_main_v70 (F := Ideal) x0 x1 x2 x4 x5 x6 (ix3 R h f)
    = query (latRow x0 x1 x2 x4 R) (ropeRow x0 x1 x2 x4 x5 x6 R) h f := by
  unfold query latRow ropeRow
  simp only [← lat_at, ← rope_at, ← ropeTurned_at, ← div_div_eq]
  pointwise [val_main_v70, val_main_v69, val_main_v68, val_main_v67, val_main_v66, val_main_v65, val_main_v64, val_main_v63, val_main_v62, val_main_v61,
    val_main_v60, val_main_cst_3, val_main_cst_4, val_main_cst_5]
  split_ifs <;> first | (exfalso; omega) | skip
  · rw [lat_at x0 x1 x2 x4 R ⟨h.val * 128 + f.val, by omega⟩]
  · rfl
  · rfl

theorem key_at (R : Fin 65536) (l : Fin 256) : val_main_v103 (F := Ideal) x0 x1 x2 x3 x4 x5 x6 (ix2 R l)
    = key (kvRow x0 x1 x2 x3 x4 R) (ropeKeyRow x0 x1 x2 x4 x5 x6 R) l := by
  unfold key
  simp only [← kv_at]
  pointwise [val_main_v103, val_main_v102, val_main_cst_9]
  by_cases h : l.val < 128
  · rw [dif_pos h, dif_pos h]
  · rw [dif_neg h, dif_neg h]
    by_cases h' : l.val - 128 < 32
    · rw [dif_pos h', if_pos h']
      exact ropeKey_at x0 x1 x2 x4 x5 x6 R ⟨l.val - 128, h'⟩
    · rw [dif_neg h', if_neg h']

theorem value_at (R : Fin 65536) (l : Fin 144) : val_main_v105 (F := Ideal) x0 x1 x2 x3 x4 (ix2 R l) = value (kvRow x0 x1 x2 x3 x4 R) l := by
  unfold value
  simp only [← kv_at]
  pointwise [val_main_v105, val_main_v104, val_main_cst_10]

set_option maxHeartbeats 1000000 in
/-- Two index heads to a row of lanes: each keeps its half, the other is zero. -/
theorem halves (T : FVec Ideal S65536x512 .f32) (R : Fin 65536) (h : Fin 8) (f : Fin 128) :
    shapeCast S65536x8x128 (concatenate S65536x4x2x128 2
      [⟨S65536x4x1x128, broadcastInDim S65536x4x1x128 ![0, 1, 3] bcast_S65536x4x128_S65536x4x1x128_0_1_3 (concatenate S65536x4x128 2
          [⟨S65536x4x64, extractStridedSlice S65536x4x64 ![0, 0, 0] (shapeCast S65536x4x128 T shapeCasts_S65536x512_S65536x4x128) slices_S65536x4x128_S65536x4x64_0_0_0⟩,
            ⟨S65536x4x64, val_main_v150 (F := Ideal)⟩] concatenates_S65536x4x64_S65536x4x64_S65536x4x128_d2)⟩,
        ⟨S65536x4x1x128, broadcastInDim S65536x4x1x128 ![0, 1, 3] bcast_S65536x4x128_S65536x4x1x128_0_1_3 (concatenate S65536x4x128 2
          [⟨S65536x4x64, val_main_v150 (F := Ideal)⟩,
            ⟨S65536x4x64, extractStridedSlice S65536x4x64 ![0, 0, 64] (shapeCast S65536x4x128 T shapeCasts_S65536x512_S65536x4x128) slices_S65536x4x128_S65536x4x64_0_0_64⟩]
          concatenates_S65536x4x64_S65536x4x64_S65536x4x128_d2)⟩] concatenates_S65536x4x1x128_S65536x4x1x128_S65536x4x2x128_d2)
      shapeCasts_S65536x4x2x128_S65536x8x128 (ix3 R h f) = index (fun e => T (ix2 R e)) h f := by
  unfold index
  pointwise [val_main_v150, val_main_cst_13]
  by_cases hh : h.val % 2 < 1 <;> by_cases hf : f.val < 64
  · rw [dif_pos hh, dif_pos hf, if_pos (show f.val / 64 = h.val % 2 by omega)]
  · rw [dif_pos hh, dif_neg hf, if_neg (show ¬f.val / 64 = h.val % 2 by omega)]
  · rw [dif_neg hh, dif_pos hf, if_neg (show ¬f.val / 64 = h.val % 2 by omega)]
  · rw [dif_neg hh, dif_neg hf, if_pos (show f.val / 64 = h.val % 2 by omega)]
    exact congrArg (fun k => T (ix2 R k)) (Fin.ext (by dsimp only; omega))

theorem index_at (R : Fin 65536) (h : Fin 8) (f : Fin 128) : val_main_v158 (F := Ideal) x0 x1 x2 x4 x5 x6 (ix3 R h f)
    = index (indexRow x0 x1 x2 x4 x5 x6 R) h f := by
  refine (halves (val_main_v148 (F := Ideal) x0 x1 x2 x4 x5 x6) R h f).trans ?_
  simp only [indexTurned_at]

end Cert.Latent.Ref

end
-- ==== Proof.LatLayout.lean ====
/-
The layouts of the reference's seven results: reshapes and transposes of the matrices of all 65536 rows.
-/
module

public import proofs.«01_k».proof.Proof.LatReference
public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem
open Cert.Reference3Ideal Cert.Reference3Ideal.Gen Cert.Reference3Ideal.Read

namespace Cert.Latent.Ref

/-! The layouts, of any rows. -/

theorem queryLayout (T : FVec Ideal S65536x16x256 .f32) (A : Fin 65536 → Fin 2048 → EReal) (B : Fin 65536 → Fin 512 → EReal)
    (e : ∀ R h f, T (ix3 R h f) = query (A R) (B R) h f) :
    truncf .bf16 (transpose S16x16x16x256x256 [0, 1, 3, 4, 2] (shapeCast S16x16x256x16x256 T shapeCasts_S65536x16x256_S16x16x256x16x256)
      transposes_S16x16x256x16x256_S16x16x16x256x256_0_1_3_4_2) bitsLt_bf16_f32 = queryArray A B := by
  funext y
  obtain ⟨b, g, h, f, p, rfl⟩ : ∃ b g h f p, y = ix5 b g h f p := ⟨y 0, y 1, y 2, y 3, y 4, by funext a; fin_cases a <;> rfl⟩
  refine Eq.trans ?_ (e (place b g p) h f)
  unfold place
  pointwise

theorem valueLayout (T : FVec Ideal S65536x144 .f32) (A : Fin 65536 → Fin 128 → EReal) (e : ∀ R l, T (ix2 R l) = value (A R) l) :
    truncf .bf16 (transpose S16x16x144x256 [0, 1, 3, 2] (shapeCast S16x16x256x144 T shapeCasts_S65536x144_S16x16x256x144)
      transposes_S16x16x256x144_S16x16x144x256_0_1_3_2) bitsLt_bf16_f32 = valueArray A := by
  funext y
  obtain ⟨b, g, l, p, rfl⟩ : ∃ b g l p, y = ix4 b g l p := ⟨y 0, y 1, y 2, y 3, by funext a; fin_cases a <;> rfl⟩
  refine Eq.trans ?_ (e (place b g p) l)
  unfold place
  pointwise

theorem indexLayout (T : FVec Ideal S65536x8x128 .f32) (A : Fin 65536 → Fin 512 → EReal) (e : ∀ R h f, T (ix3 R h f) = index (A R) h f) :
    truncf .bf16 (shapeCast S16x16x128x2048 (transpose S16x16x128x8x256 [0, 1, 4, 3, 2] (shapeCast S16x16x256x8x128 T shapeCasts_S65536x8x128_S16x16x256x8x128)
      transposes_S16x16x256x8x128_S16x16x128x8x256_0_1_4_3_2) shapeCasts_S16x16x128x8x256_S16x16x128x2048) bitsLt_bf16_f32 = indexArray A := by
  funext y
  obtain ⟨b, g, f, n, rfl⟩ : ∃ b g f n, y = ix4 b g f n := ⟨y 0, y 1, y 2, y 3, by funext a; fin_cases a <;> rfl⟩
  refine Eq.trans ?_ (e (place b g ⟨n.val % 256, Nat.mod_lt _ (by norm_num)⟩) ⟨n.val / 256, by omega⟩ f)
  unfold place
  pointwise

variable (x0 : Vec Ideal S65536x1024 .f32) (x1 : Vec Ideal S16x3x1024 .f32) (x2 : Vec Ideal S1x1024 .f32) (x3 : Vec Ideal S1x128 .f32)
  (x4 : Vec Ideal S1024x5352 .f32) (x5 x6 : Vec Ideal S3x65536x128 .f32)

/-! The seven results. -/

theorem q_eq : val_main_v166 (F := Ideal) x0 x1 x2 x4 x5 x6 = queryArray (latRow x0 x1 x2 x4) (ropeRow x0 x1 x2 x4 x5 x6) := queryLayout _ _ _ (query_at x0 x1 x2 x4 x5 x6)

theorem k_eq : val_main_v167 (F := Ideal) x0 x1 x2 x3 x4 x5 x6 = keyArray (kvRow x0 x1 x2 x3 x4) (ropeKeyRow x0 x1 x2 x4 x5 x6) := by
  funext y
  obtain ⟨R, l, rfl⟩ : ∃ R l, y = ix2 R l := ⟨y 0, y 1, by funext a; fin_cases a <;> rfl⟩
  exact key_at x0 x1 x2 x3 x4 x5 x6 R l

theorem v_eq : val_main_v168 (F := Ideal) x0 x1 x2 x3 x4 = valueArray (kvRow x0 x1 x2 x3 x4) := valueLayout _ _ (value_at x0 x1 x2 x3 x4)

theorem indexKeys_eq : val_main_v169 (F := Ideal) x0 x1 x2 x4 x5 x6 = plainArray (indexKeyRow x0 x1 x2 x4 x5 x6) := by
  funext y
  obtain ⟨R, l, rfl⟩ : ∃ R l, y = ix2 R l := ⟨y 0, y 1, by funext a; fin_cases a <;> rfl⟩
  exact indexKey_at x0 x1 x2 x4 x5 x6 R l

theorem index_eq : val_main_v170 (F := Ideal) x0 x1 x2 x4 x5 x6 = indexArray (indexRow x0 x1 x2 x4 x5 x6) := indexLayout _ _ (index_at x0 x1 x2 x4 x5 x6)

theorem scaled_eq : val_main_v127 (F := Ideal) x0 x1 x2 x4 = plainArray (scaledRow x0 x1 x2 x4) := by
  funext y
  obtain ⟨R, l, rfl⟩ : ∃ R l, y = ix2 R l := ⟨y 0, y 1, by funext a; fin_cases a <;> rfl⟩
  exact scaled_at x0 x1 x2 x4 R l

theorem gate_eq : val_main_v172 (F := Ideal) x0 x1 x2 x4 = plainArray (gateRow x0 x1 x2 x4) := by
  funext y
  obtain ⟨R, l, rfl⟩ : ∃ R l, y = ix2 R l := ⟨y 0, y 1, by funext a; fin_cases a <;> rfl⟩
  exact gate_at x0 x1 x2 x4 R l

end Cert.Latent.Ref

end
-- ==== Proof.LatRun.lean ====
/-
The reference's run ends with the specification's seven arrays, at every device, and keeps its arguments.
-/
module

public import proofs.«01_k».proof.Proof.LatLayout
public import proofs.«01_k».proof.Proof.Gen.Reference3Ideal.Run
public import proofs.«01_k».proof.Proof.Gen.Reference3Ideal.Read

@[expose] public section

noncomputable section

namespace Cert.Latent.Ref

open Idealize.ShloMosaic Idealize.ShloMosaic.TcCoe Idealize.SL.Sem
open Cert.Reference3Ideal Cert.Reference3Ideal.Gen Cert.Reference3Ideal.Read

section Arguments

variable (m : (ℓ : Loc nD τ sig) → Buf (Elt Ideal) ℓ) (c : Dev nD)

/-! The reference's seven arguments on a device. -/

abbrev hidden : Vec Ideal S65536x1024 .f32 := m ((c : Thread nD τ).loc main_arg0)
abbrev condition : Vec Ideal S16x3x1024 .f32 := m ((c : Thread nD τ).loc main_arg1)
abbrev gain : Vec Ideal S1x1024 .f32 := m ((c : Thread nD τ).loc main_arg2)
abbrev kvGain : Vec Ideal S1x128 .f32 := m ((c : Thread nD τ).loc main_arg3)
abbrev weights : Vec Ideal S1024x5352 .f32 := m ((c : Thread nD τ).loc main_arg4)
abbrev cosTable : Vec Ideal S3x65536x128 .f32 := m ((c : Thread nD τ).loc main_arg5)
abbrev sinTable : Vec Ideal S3x65536x128 .f32 := m ((c : Thread nD τ).loc main_arg6)

end Arguments

theorem run_spec (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v166) = queryArray (latRow (hidden m c) (condition m c) (gain m c) (weights m c)) (ropeRow (hidden m c) (condition m c) (gain m c) (weights m c) (cosTable m c) (sinTable m c))
      ∧ r.2.mem ((c.tc : Thread nD τ).loc main_v167) = keyArray (kvRow (hidden m c) (condition m c) (gain m c) (kvGain m c) (weights m c)) (ropeKeyRow (hidden m c) (condition m c) (gain m c) (weights m c) (cosTable m c) (sinTable m c))
      ∧ r.2.mem ((c.tc : Thread nD τ).loc main_v168) = valueArray (kvRow (hidden m c) (condition m c) (gain m c) (kvGain m c) (weights m c))
      ∧ r.2.mem ((c.tc : Thread nD τ).loc main_v169) = plainArray (indexKeyRow (hidden m c) (condition m c) (gain m c) (weights m c) (cosTable m c) (sinTable m c))
      ∧ r.2.mem ((c.tc : Thread nD τ).loc main_v170) = indexArray (indexRow (hidden m c) (condition m c) (gain m c) (weights m c) (cosTable m c) (sinTable m c))
      ∧ r.2.mem ((c.tc : Thread nD τ).loc main_v127) = plainArray (scaledRow (hidden m c) (condition m c) (gain m c) (weights m c))
      ∧ r.2.mem ((c.tc : Thread nD τ).loc main_v172) = plainArray (gateRow (hidden m c) (condition m c) (gain m c) (weights m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((Read.val_main_v166_eq _).trans (q_eq ..)),
      (h c).2.1.trans ((Read.val_main_v167_eq _).trans (k_eq ..)),
      (h c).2.2.1.trans ((Read.val_main_v168_eq _).trans (v_eq ..)),
      (h c).2.2.2.1.trans ((Read.val_main_v169_eq _).trans (indexKeys_eq ..)),
      (h c).2.2.2.2.1.trans ((Read.val_main_v170_eq _).trans (index_eq ..)),
      (h c).2.2.2.2.2.1.trans ((Read.val_main_v127_eq _).trans (scaled_eq ..)),
      (h c).2.2.2.2.2.2.1.trans ((Read.val_main_v172_eq _).trans (gate_eq ..)),
      (h c).2.2.2.2.2.2.2⟩)
    (Value.run (F := Ideal) m g)

end Cert.Latent.Ref

end
-- ==== Proof.MergeStore.lean ====
/-
How the merge puts the groups' log-sum-exps in the order of the sequence.

A block of the group with dilation `d` holds 512 positions phase by phase: position `p` is row `p / d` of phase `p % d`.
The kernel stores each phase into a scratch with stride `d`, so that row `p` of plane `g` is position `p` of group `g`.
-/
module

public import proofs.«01_k».proof.Proof.Gen.Kernel4Ideal.Value
public import Idealize.ShloMosaic.Lib.Pointwise
public import Idealize.ShloMosaic.Lib.Pipeline.ReadBack
public import Idealize.ShloMosaic.Lib.Ring

@[expose] public section

set_option maxRecDepth 16384

noncomputable section

open Idealize.ShloMosaic Idealize.ShloMosaic.TcCoe
open Cert.Kernel4Ideal Cert.Kernel4Ideal.Gen

namespace Cert.Merge

/-- Position `p` and lane `e` of a block of each group. -/
def lse1 (A : S1x1x512x128.Idx → EReal) (p e : ℕ) : EReal := A (ix4 0 0 (Fin.ofNat 512 p) (Fin.ofNat 128 e))
def lse4 (B : S1x4x128x128.Idx → EReal) (p e : ℕ) : EReal := B (ix4 0 (Fin.ofNat 4 p) (Fin.ofNat 128 (p / 4)) (Fin.ofNat 128 e))
def lse16 (C : S1x16x32x128.Idx → EReal) (p e : ℕ) : EReal := C (ix4 0 (Fin.ofNat 16 p) (Fin.ofNat 32 (p / 16)) (Fin.ofNat 128 e))

theorem lse1_eq (A : S1x1x512x128.Idx → EReal) (n : Fin 512) (d : Fin 128) (p e : ℕ) (h : p = n.val) (he : e = d.val) :
    A (ix4 0 0 n d) = lse1 A p e := by
  subst h he
  unfold lse1
  rw [show Fin.ofNat 512 n.val = n from Fin.ext (by simp only [Fin.val_ofNat]; omega), show Fin.ofNat 128 d.val = d from Fin.ext (by simp only [Fin.val_ofNat]; omega)]

theorem lse4_eq (B : S1x4x128x128.Idx → EReal) (r : Fin 4) (n d : Fin 128) (p e : ℕ) (h : p = r.val + 4 * n.val) (he : e = d.val) :
    B (ix4 0 r n d) = lse4 B p e := by
  subst h he
  unfold lse4
  rw [show Fin.ofNat 4 (r.val + 4 * n.val) = r from Fin.ext (by simp only [Fin.val_ofNat]; omega),
    show Fin.ofNat 128 ((r.val + 4 * n.val) / 4) = n from Fin.ext (by simp only [Fin.val_ofNat]; omega),
    show Fin.ofNat 128 d.val = d from Fin.ext (by simp only [Fin.val_ofNat]; omega)]

theorem lse16_eq (C : S1x16x32x128.Idx → EReal) (r : Fin 16) (n : Fin 32) (d : Fin 128) (p e : ℕ) (h : p = r.val + 16 * n.val) (he : e = d.val) :
    C (ix4 0 r n d) = lse16 C p e := by
  subst h he
  unfold lse16
  rw [show Fin.ofNat 16 (r.val + 16 * n.val) = r from Fin.ext (by simp only [Fin.val_ofNat]; omega),
    show Fin.ofNat 32 ((r.val + 16 * n.val) / 16) = n from Fin.ext (by simp only [Fin.val_ofNat]; omega),
    show Fin.ofNat 128 d.val = d from Fin.ext (by simp only [Fin.val_ofNat]; omega)]

section Scratch

variable (A : Vec Ideal S1x1x512x128 .f32) (B : Vec Ideal S1x4x128x128 .f32) (C : Vec Ideal S1x16x32x128 .f32)

/-- What the scratch holds after the stores. -/
def inOrder : S3x512x128.Idx → EReal := fun i =>
  if (i 0).val = 0 then lse1 A (i 1).val (i 2).val else if (i 0).val = 1 then lse4 B (i 1).val (i 2).val else lse16 C (i 1).val (i 2).val

theorem inb4 (k : Fin 4) : ∀ a, (![1, 128, 128] : Fin 3 → ℕ) a = 0 ∨ (![1, k.val, 0] : Fin 3 → ℕ) a
    + (![1, 4, 1] : Fin 3 → ℕ) a * ((![1, 128, 128] : Fin 3 → ℕ) a - 1) < S3x512x128.size a := by
  have := k.isLt
  intro a
  fin_cases a <;> simp <;> omega

theorem inb16 (k : Fin 16) : ∀ a, (![1, 32, 128] : Fin 3 → ℕ) a = 0 ∨ (![2, k.val, 0] : Fin 3 → ℕ) a
    + (![1, 16, 1] : Fin 3 → ℕ) a * ((![1, 32, 128] : Fin 3 → ℕ) a - 1) < S3x512x128.size a := by
  have := k.isLt
  intro a
  fin_cases a <;> simp <;> omega

theorem from4 (k : Fin 4) : ∀ a, (![0, k.val, 0, 0] : Fin 4 → ℕ) a + (![1, 1, 128, 128] : Fin 4 → ℕ) a ≤ S1x4x128x128.size a := by
  have := k.isLt
  intro a
  fin_cases a <;> simp <;> omega

theorem from16 (k : Fin 16) : ∀ a, (![0, k.val, 0, 0] : Fin 4 → ℕ) a + (![1, 1, 32, 128] : Fin 4 → ℕ) a ≤ S1x16x32x128.size a := by
  have := k.isLt
  intro a
  fin_cases a <;> simp <;> omega

/-- Where phase `k` of the group with dilation 4 is stored, and with dilation 16. -/
def place4 (k : Fin 4) : Rect S3x512x128 := { off := ![1, k.val, 0], size := ![1, 128, 128], stride := ![1, 4, 1], inb := inb4 k, stride_pos := spos_1_4_1 }
def place16 (k : Fin 16) : Rect S3x512x128 := { off := ![2, k.val, 0], size := ![1, 32, 128], stride := ![1, 16, 1], inb := inb16 k, stride_pos := spos_1_16_1 }

theorem place4_val (k : Fin 4) (n d : Fin 128) : ((place4 k).emb (ix3 (0 : Fin 1) n d) 0).val = 1 ∧ ((place4 k).emb (ix3 (0 : Fin 1) n d) 1).val = k.val + 4 * n.val
    ∧ ((place4 k).emb (ix3 (0 : Fin 1) n d) 2).val = d.val :=
  ⟨rfl, rfl, by show 0 + 1 * d.val = d.val; omega⟩

theorem place16_val (k : Fin 16) (n : Fin 32) (d : Fin 128) : ((place16 k).emb (ix3 (0 : Fin 1) n d) 0).val = 2 ∧ ((place16 k).emb (ix3 (0 : Fin 1) n d) 1).val = k.val + 16 * n.val
    ∧ ((place16 k).emb (ix3 (0 : Fin 1) n d) 2).val = d.val :=
  ⟨rfl, rfl, by show 0 + 1 * d.val = d.val; omega⟩

theorem piece1 (x : (Rect.unit (s := S3x512x128) ![0, 0, 0] ![1, 512, 128] inb_S3x512x128_S1x512x128_0_0_0).shape.Idx) :
    k0_pay2 A x = inOrder A B C ((Rect.unit (s := S3x512x128) ![0, 0, 0] ![1, 512, 128] inb_S3x512x128_S1x512x128_0_0_0).emb x) := by
  obtain ⟨n, d, rfl⟩ : ∃ n d, x = ix3 (0 : Fin 1) n d := ⟨x 1, x 2, by funext a; fin_cases a <;> first | rfl | exact Fin.ext (Nat.lt_one_iff.mp (x 0).isLt)⟩
  unfold inOrder
  rw [if_pos (by simp [Rect.emb, Rect.unit])]
  pointwise [k0_pay2]
  exact lse1_eq A n d _ _ (by simp [Rect.emb, Rect.unit]) (by simp [Rect.emb, Rect.unit])

theorem piece4 (k : Fin 4) (x : (place4 k).shape.Idx) :
    k0_pay4 (View.ld B (Rect.unit (s := S1x4x128x128) ![0, k.val, 0, 0] ![1, 1, 128, 128] (from4 k))) x = inOrder A B C ((place4 k).emb x) := by
  obtain ⟨n, d, rfl⟩ : ∃ n d, x = ix3 (0 : Fin 1) n d := ⟨x 1, x 2, by funext a; fin_cases a <;> first | rfl | exact Fin.ext (Nat.lt_one_iff.mp (x 0).isLt)⟩
  unfold inOrder
  obtain ⟨e0, e1, e2⟩ := place4_val k n d
  rw [e0, e1, e2, if_neg (by decide), if_pos rfl]
  refine Eq.trans ?_ (lse4_eq B k n d _ _ rfl rfl)
  pointwise [k0_pay4]

theorem piece16 (k : Fin 16) (x : (place16 k).shape.Idx) :
    k0_pay9 (View.ld C (Rect.unit (s := S1x16x32x128) ![0, k.val, 0, 0] ![1, 1, 32, 128] (from16 k))) x = inOrder A B C ((place16 k).emb x) := by
  obtain ⟨n, d, rfl⟩ : ∃ n d, x = ix3 (0 : Fin 1) n d := ⟨x 1, x 2, by funext a; fin_cases a <;> first | rfl | exact Fin.ext (Nat.lt_one_iff.mp (x 0).isLt)⟩
  unfold inOrder
  obtain ⟨e0, e1, e2⟩ := place16_val k n d
  rw [e0, e1, e2, if_neg (by decide), if_neg (by decide)]
  refine Eq.trans ?_ (lse16_eq C k n d _ _ rfl rfl)
  pointwise [k0_pay9]

/-- The 21 stores, last first. -/
def stores : List (View.Piece (Elt Ideal) S3x512x128 .f32) :=
  ([15, 14, 13, 12, 11, 10, 9, 8, 7, 6, 5, 4, 3, 2, 1, 0] : List (Fin 16)).map (fun k =>
    ⟨place16 k, k0_pay9 (View.ld C (Rect.unit (s := S1x16x32x128) ![0, k.val, 0, 0] ![1, 1, 32, 128] (from16 k)))⟩) ++
  (([3, 2, 1, 0] : List (Fin 4)).map (fun k =>
    ⟨place4 k, k0_pay4 (View.ld B (Rect.unit (s := S1x4x128x128) ![0, k.val, 0, 0] ![1, 1, 128, 128] (from4 k)))⟩) ++
  [⟨Rect.unit ![0, 0, 0] ![1, 512, 128] inb_S3x512x128_S1x512x128_0_0_0, k0_pay2 A⟩])

theorem every16 : ∀ k : Fin 16, k ∈ ([15, 14, 13, 12, 11, 10, 9, 8, 7, 6, 5, 4, 3, 2, 1, 0] : List (Fin 16)) := by decide
theorem every4 : ∀ k : Fin 4, k ∈ ([3, 2, 1, 0] : List (Fin 4)) := by decide

theorem canon_stores : View.canon (stores A B C) = inOrder A B C := by
  funext y
  refine View.canon_apply_of_pieces (inOrder A B C) (stores A B C) (fun p hp x => ?_) y ?_
  · rcases List.mem_append.mp hp with h | h
    · obtain ⟨k, -, rfl⟩ := List.mem_map.mp h
      exact piece16 A B C k x
    · rcases List.mem_append.mp h with h | h
      · obtain ⟨k, -, rfl⟩ := List.mem_map.mp h
        exact piece4 A B C k x
      · obtain rfl := List.mem_singleton.mp h
        exact piece1 A B C x
  · have h0 : (y 0).val < 3 := (y 0).isLt
    have h1 : (y 1).val < 512 := (y 1).isLt
    have h2 : (y 2).val < 128 := (y 2).isLt
    by_cases g0 : (y 0).val = 0
    · refine ⟨_, List.mem_append.mpr (Or.inr (List.mem_append.mpr (Or.inr (List.mem_singleton.mpr rfl)))), (Rect.mem_set_unit (inb := inb_S3x512x128_S1x512x128_0_0_0)).mpr fun a => ?_⟩
      fin_cases a
      · exact ⟨Nat.zero_le _, by show (y 0).val < 0 + 1; omega⟩
      · exact ⟨Nat.zero_le _, by show (y 1).val < 0 + 512; omega⟩
      · exact ⟨Nat.zero_le _, by show (y 2).val < 0 + 128; omega⟩
    · by_cases g1 : (y 0).val = 1
      · refine ⟨_, List.mem_append.mpr (Or.inr (List.mem_append.mpr (Or.inl (List.mem_map.mpr ⟨⟨(y 1).val % 4, by omega⟩, every4 _, rfl⟩)))), (LoadRect.mem_set _).mpr fun a => ?_⟩
        fin_cases a
        · exact ⟨0, by show 0 < 1; omega, by show (y 0).val = 1 + 1 * 0; omega⟩
        · exact ⟨(y 1).val / 4, by show (y 1).val / 4 < 128; omega, by show (y 1).val = (y 1).val % 4 + 4 * ((y 1).val / 4); omega⟩
        · exact ⟨(y 2).val, h2, by show (y 2).val = 0 + 1 * (y 2).val; omega⟩
      · refine ⟨_, List.mem_append.mpr (Or.inl (List.mem_map.mpr ⟨⟨(y 1).val % 16, by omega⟩, every16 _, rfl⟩)), (LoadRect.mem_set _).mpr fun a => ?_⟩
        fin_cases a
        · exact ⟨0, by show 0 < 1; omega, by show (y 0).val = 2 + 1 * 0; omega⟩
        · exact ⟨(y 1).val / 16, by show (y 1).val / 16 < 32; omega, by show (y 1).val = (y 1).val % 16 + 16 * ((y 1).val / 16); omega⟩
        · exact ⟨(y 2).val, h2, by show (y 2).val = 0 + 1 * (y 2).val; omega⟩

/-- One plane read back. -/
def plane (g : Fin 3) (inb : ∀ a, (![g.val, 0, 0] : Fin 3 → ℕ) a + (![1, 512, 128] : Fin 3 → ℕ) a ≤ S3x512x128.size a) : Vec Ideal S1x512x128 .f32 :=
  (View.whole cc0_scratch0).readCov (stores A B C) (Rect.unit (s := S3x512x128) ![g.val, 0, 0] ![1, 512, 128] inb).toLoadRect

theorem plane_at (g : Fin 3) (inb : ∀ a, (![g.val, 0, 0] : Fin 3 → ℕ) a + (![1, 512, 128] : Fin 3 → ℕ) a ≤ S3x512x128.size a) (p : Fin 512) (e : Fin 128) :
    plane A B C g inb (ix3 0 p e) = inOrder A B C (ix3 g p e) := by
  unfold plane
  rw [View.readCov_eq_canon', canon_stores]
  refine congrArg (inOrder A B C) (funext fun a => ?_)
  fin_cases a <;> exact Fin.ext (by simp)

end Scratch

end Cert.Merge

end
-- ==== Proof.MergeBlock.lean ====
/-
What the merge computes at a point of the grid, entry by entry: the groups' rows put in the order of the sequence, their
weighted sum times the gate, head by head, and the projection with the residual and the norm.
-/
module

public import proofs.«01_k».proof.Proof.MergeStore
public import proofs.«01_k».proof.Proof.ProjSpec
public import Idealize.ShloMosaic.Lib.Pipeline.Value

@[expose] public section

set_option maxRecDepth 16384

noncomputable section

open Idealize.ShloMosaic Idealize.ShloMosaic.TcCoe
open Cert.Kernel4Ideal Cert.Kernel4Ideal.Gen

namespace Cert.Merge

/-! The order of the sequence, from the rows stacked phase by phase. -/

/-- The row of the stack that position `p` is. -/
def dst4 (p : Fin 512) : Fin 512 := ⟨p.val % 4 * 128 + p.val / 4, by omega⟩
def dst16 (p : Fin 512) : Fin 512 := ⟨p.val % 16 * 32 + p.val / 16, by omega⟩

theorem col4 (k : Fin 4) : ∀ a, (![0, 0, 1024 * k.val] : Fin 3 → ℕ) a + (![1, 128, 1024] : Fin 3 → ℕ) a ≤ S1x128x4096.size a := by
  have := k.isLt
  intro a
  fin_cases a <;> simp <;> omega

theorem col16 (k : Fin 16) : ∀ a, (![0, 0, 1024 * k.val] : Fin 3 → ℕ) a + (![1, 32, 1024] : Fin 3 → ℕ) a ≤ S1x32x16384.size a := by
  have := k.isLt
  intro a
  fin_cases a <;> simp <;> omega

/-- One phase's rows. -/
def phase4 (O : Vec Ideal S1x128x4096 .bf16) (k : Fin 4) : FVec Ideal S128x1024 .bf16 :=
  shapeCast S128x1024 (View.ld O (Rect.unit (s := S1x128x4096) ![0, 0, 1024 * k.val] ![1, 128, 1024] (col4 k))) shapeCasts_S1x128x1024_S128x1024
def phase16 (O : Vec Ideal S1x32x16384 .bf16) (k : Fin 16) : FVec Ideal S32x1024 .bf16 :=
  shapeCast S32x1024 (View.ld O (Rect.unit (s := S1x32x16384) ![0, 0, 1024 * k.val] ![1, 32, 1024] (col16 k))) shapeCasts_S1x32x1024_S32x1024

theorem flat4_at (y : FVec Ideal S1x128x1024 .bf16) (n : Fin 128) (l : Fin 1024) :
    shapeCast S128x1024 y shapeCasts_S1x128x1024_S128x1024 (ix2 n l) = y (ix3 0 n l) := by
  pointwise

theorem flat16_at (y : FVec Ideal S1x32x1024 .bf16) (n : Fin 32) (l : Fin 1024) :
    shapeCast S32x1024 y shapeCasts_S1x32x1024_S32x1024 (ix2 n l) = y (ix3 0 n l) := by
  pointwise

theorem phase4_at (O : Vec Ideal S1x128x4096 .bf16) (k : Fin 4) (n : Fin 128) (l : Fin 1024) :
    phase4 O k (ix2 n l) = O (ix3 0 n (⟨k.val * 1024 + l.val, by omega⟩ : Fin 4096)) := by
  refine (flat4_at _ n l).trans (congrArg O ?_)
  funext a
  refine Fin.ext ?_
  fin_cases a
  · rfl
  · show 0 + 1 * n.val = n.val
    omega
  · show 1024 * k.val + 1 * l.val = k.val * 1024 + l.val
    omega

theorem phase16_at (O : Vec Ideal S1x32x16384 .bf16) (k : Fin 16) (n : Fin 32) (l : Fin 1024) :
    phase16 O k (ix2 n l) = O (ix3 0 n (⟨k.val * 1024 + l.val, by omega⟩ : Fin 16384)) := by
  refine (flat16_at _ n l).trans (congrArg O ?_)
  funext a
  refine Fin.ext ?_
  fin_cases a
  · rfl
  · show 0 + 1 * n.val = n.val
    omega
  · show 1024 * k.val + 1 * l.val = k.val * 1024 + l.val
    omega

/-- The phases on top of each other. -/
def stack4 (O : Vec Ideal S1x128x4096 .bf16) : FVec Ideal S512x1024 .bf16 :=
  concatenate S512x1024 0 (List.ofFn fun k : Fin 4 => (⟨S128x1024, phase4 O k⟩ : (s : Shape) × (s.Idx → EReal)))
    concatenates_S128x1024_S128x1024_S128x1024_S128x1024_S512x1024_d0
def stack16 (O : Vec Ideal S1x32x16384 .bf16) : FVec Ideal S512x1024 .bf16 :=
  concatenate S512x1024 0 (List.ofFn fun k : Fin 16 => (⟨S32x1024, phase16 O k⟩ : (s : Shape) × (s.Idx → EReal)))
    concatenates_S32x1024_S32x1024_S32x1024_S32x1024_S32x1024_S32x1024_S32x1024_S32x1024_S32x1024_S32x1024_S32x1024_S32x1024_S32x1024_S32x1024_S32x1024_S32x1024_S512x1024_d0

theorem stack4_at (O : Vec Ideal S1x128x4096 .bf16) (p : Fin 512) (l : Fin 1024) :
    stack4 O (ix2 (dst4 p) l) = O (ix3 0 (⟨p.val / 4, by omega⟩ : Fin 128) (⟨p.val % 4 * 1024 + l.val, by omega⟩ : Fin 4096)) := by
  have hp := p.isLt
  unfold stack4
  refine (concatenate_ofFn_apply (t := S512x1024) 0 (phase4 O) _ rfl 128 rfl _ (⟨p.val % 4, by omega⟩ : Fin 4) ?_ (ix2 (⟨p.val / 4, by omega⟩ : Fin 128) l) ?_ ?_).trans ?_
  · show (p.val % 4 * 128 + p.val / 4) / 128 = p.val % 4
    omega
  · show p.val / 4 = (p.val % 4 * 128 + p.val / 4) % 128
    omega
  · intro b hb
    fin_cases b
    · exact absurd rfl hb
    · rfl
  · exact phase4_at O _ _ l

theorem stack16_at (O : Vec Ideal S1x32x16384 .bf16) (p : Fin 512) (l : Fin 1024) :
    stack16 O (ix2 (dst16 p) l) = O (ix3 0 (⟨p.val / 16, by omega⟩ : Fin 32) (⟨p.val % 16 * 1024 + l.val, by omega⟩ : Fin 16384)) := by
  have hp := p.isLt
  unfold stack16
  refine (concatenate_ofFn_apply (t := S512x1024) 0 (phase16 O) _ rfl 32 rfl _ (⟨p.val % 16, by omega⟩ : Fin 16) ?_ (ix2 (⟨p.val / 16, by omega⟩ : Fin 32) l) ?_ ?_).trans ?_
  · show (p.val % 16 * 32 + p.val / 16) / 32 = p.val % 16
    omega
  · show p.val / 16 = (p.val % 16 * 32 + p.val / 16) % 32
    omega
  · intro b hb
    fin_cases b
    · exact absurd rfl hb
    · rfl
  · exact phase16_at O _ _ l

/-- A stack multiplied by a matrix of zeros and ones. -/
def ordered (U : Vec Ideal S1x512x512 .bf16) (X : FVec Ideal S512x1024 .bf16) : FVec Ideal S512x1024 .f32 :=
  matmul dot_S512x512_S512x1024_S512x1024_1_0_0_1_n_n none (shapeCast S512x512 U shapeCasts_S1x512x512_S512x512 : FVec Ideal S512x512 .bf16) X (constant S512x1024 .f32 0x00000000#32)

theorem ordered_at (U : Vec Ideal S1x512x512 .bf16) (X : FVec Ideal S512x1024 .bf16) (f : Fin 512 → Fin 512)
    (hU : ∀ p j, U (ix3 0 p j) = if j = f p then (1 : EReal) else 0) (p : Fin 512) (l : Fin 1024) : ordered U X (ix2 p l) = X (ix2 (f p) l) := by
  unfold ordered
  pointwise
  simp only [hU, ite_mul, one_mul, zero_mul, Finset.sum_ite_eq', Finset.sum_ite_eq, Finset.mem_univ, if_true]

/-! The weighted sum of a head, times the gate. -/

section Heads

variable (X1 X4 X16 : FVec Ideal S512x1024 .f32) (E1 E4 E16 I : FVec Ideal S512x128 .f32) (G : Vec Ideal S512x1024 .bf16)

/-- The share of one group in head `n`. -/
def share (X : FVec Ideal S512x1024 .f32) (E : FVec Ideal S512x128 .f32) (n o : ℕ) (hn : Shape.Slices S512x128 ![0, n] S512x1) (ho : Shape.Slices S512x1024 ![0, o] S512x128) :
    FVec Ideal S512x128 .f32 :=
  mulf (broadcastTo S512x128 (extractStridedSlice S512x1 ![0, n] (mulf E I) hn) broadcasts_S512x1_S512x128) (extractStridedSlice S512x128 ![0, o] X ho)

/-- Head `n`, which stands at lane `o`. -/
def headOf (g : Vec Ideal S512x128 .bf16) (n o : ℕ) (hn : Shape.Slices S512x128 ![0, n] S512x1) (ho : Shape.Slices S512x1024 ![0, o] S512x128) :
    FVec Ideal S512x128 .bf16 :=
  shapeCast S512x128 (truncf .bf16 (mulf (addf (addf (share I X1 E1 n o hn ho) (share I X4 E4 n o hn ho)) (share I X16 E16 n o hn ho)) (extf .f32 g bitsLt_bf16_f32)) bitsLt_bf16_f32)
    shapeCasts_S512x128_S512x128

/-- The head of a lane. -/
def headLane (l : Fin 1024) : Fin 128 := ⟨l.val / 128, by omega⟩

/-- The gated sum. -/
def gatedAt (p : Fin 512) (l : Fin 1024) : EReal :=
  (E1 (ix2 p (headLane l)) * I (ix2 p (headLane l)) * X1 (ix2 p l) + E4 (ix2 p (headLane l)) * I (ix2 p (headLane l)) * X4 (ix2 p l)
    + E16 (ix2 p (headLane l)) * I (ix2 p (headLane l)) * X16 (ix2 p l)) * G (ix2 p l)

def gatedFn : S512x1024.Idx → EReal := fun y => gatedAt X1 X4 X16 E1 E4 E16 I G (y 0) (y 1)

theorem lanes (k : Fin 8) : ∀ a, (![0, 128 * k.val] : Fin 2 → ℕ) a + (![512, 128] : Fin 2 → ℕ) a ≤ S512x1024.size a := by
  have := k.isLt
  intro a
  fin_cases a <;> simp <;> omega

theorem sliceLane (k : Fin 8) : Shape.Slices S512x128 ![0, k.val] S512x1 := by
  have := k.isLt
  refine ⟨rfl, fun a => ?_⟩
  fin_cases a <;> simp <;> omega

theorem sliceHead (k : Fin 8) : Shape.Slices S512x1024 ![0, 128 * k.val] S512x128 := by
  have := k.isLt
  refine ⟨rfl, fun a => ?_⟩
  fin_cases a <;> simp <;> omega

/-- Where head `k` is stored. -/
def place (k : Fin 8) : Rect S512x1024 := Rect.unit (s := S512x1024) ![0, 128 * k.val] ![512, 128] (lanes k)

theorem headOf_at (k : Fin 8) (p : Fin 512) (d : Fin 128) :
    headOf X1 X4 X16 E1 E4 E16 I (View.ld G (place k)) k.val (128 * k.val) (sliceLane k) (sliceHead k) (ix2 p d)
      = gatedAt X1 X4 X16 E1 E4 E16 I G p (⟨128 * k.val + d.val, by omega⟩ : Fin 1024) := by
  have hk := k.isLt
  have hd := d.isLt
  have e : headLane (⟨128 * k.val + d.val, by omega⟩ : Fin 1024) = ⟨k.val, by omega⟩ := Fin.ext (by simp only [headLane]; omega)
  unfold gatedAt
  rw [e]
  pointwise [headOf, share, place]

/-- The eight stores, last first. -/
def headStores : List (View.Piece (Elt Ideal) S512x1024 .bf16) :=
  ([7, 6, 5, 4, 3, 2, 1, 0] : List (Fin 8)).map fun k =>
    ⟨place k, headOf X1 X4 X16 E1 E4 E16 I (View.ld G (place k)) k.val (128 * k.val) (sliceLane k) (sliceHead k)⟩

theorem canon_heads : View.canon (headStores X1 X4 X16 E1 E4 E16 I G) = gatedFn X1 X4 X16 E1 E4 E16 I G := by
  funext y
  refine View.canon_apply_of_pieces (Val := Elt Ideal) (e := .bf16) (gatedFn X1 X4 X16 E1 E4 E16 I G) _ ?_ y (View.cover_of_tiledL _ ![512, 128] (by sl_kernel_rfl) y)
  intro p hp x
  obtain ⟨k, -, rfl⟩ := List.mem_map.mp hp
  obtain ⟨n, d, rfl⟩ : ∃ n d, x = ix2 (n : Fin 512) (d : Fin 128) := ⟨x 0, x 1, by funext a; fin_cases a <;> rfl⟩
  refine (headOf_at X1 X4 X16 E1 E4 E16 I G k n d).trans (congrArg₂ (gatedAt X1 X4 X16 E1 E4 E16 I G) (Fin.ext ?_) (Fin.ext ?_))
  · show n.val = 0 + 1 * n.val
    omega
  · show 128 * k.val + d.val = 128 * k.val + 1 * d.val
    omega

/-- The scratch read back. -/
def gatedRows : Vec Ideal S512x1024 .bf16 :=
  (View.whole cc0_scratch1).readCov (headStores X1 X4 X16 E1 E4 E16 I G) (Rect.unit (s := S512x1024) ![0, 0] ![512, 1024] inb_S512x1024_S512x1024_0_0).toLoadRect

theorem gatedRows_at (p : Fin 512) (l : Fin 1024) : gatedRows X1 X4 X16 E1 E4 E16 I G (ix2 p l) = gatedAt X1 X4 X16 E1 E4 E16 I G p l := by
  unfold gatedRows
  rw [View.readCov_eq_canon', canon_heads]
  refine congrArg₂ (gatedAt X1 X4 X16 E1 E4 E16 I G) (Fin.ext ?_) (Fin.ext ?_)
  · show 0 + 1 * p.val = p.val
    omega
  · show 0 + 1 * l.val = l.val
    omega

end Heads

/-! The projection, the residual and the norm. -/

theorem final_at (h : Vec Ideal S512x1024 .f32) (g : Vec Ideal S1x1x1024 .f32) (og : Vec Ideal S512x1024 .bf16) (w : Vec Ideal S1024x1024 .bf16)
    (fin : Vec Ideal S1x1024 .f32) (p : Fin 512) (l : Fin 1024) :
    k0_pay1 h g og w fin (ix2 p l)
      = Cert.Proj.rms (fun d => h (ix2 p d) + g (ix3 0 0 d) * ∑ k, og (ix2 p k) * w (ix2 k d)) (fun d => fin (ix2 0 d)) l := by
  unfold Cert.Proj.rms
  pointwise [k0_pay1]

end Cert.Merge

end
-- ==== Proof.MergeBody.lean ====
/-
What a point of the grid writes, in terms of its blocks; the two matrices of zeros and ones as the host computes them.
-/
module

public import proofs.«01_k».proof.Proof.MergeBlock
public import proofs.«01_k».proof.Proof.ProjPerm

@[expose] public section

set_option maxRecDepth 16384

noncomputable section

open Idealize.ShloMosaic Idealize.ShloMosaic.TcCoe
open Cert.Kernel4Ideal Cert.Kernel4Ideal.Gen

namespace Cert.Merge

variable (m : (ℓ : Loc nD τ sig) → Buf (Elt Ideal) ℓ) (c : Dev nD)

/-! The matrices. -/

theorem matrix4_at (p s : Fin 512) : (V m c main_v29 : Vec Ideal S2x512x512 .bf16) (ix3 0 p s) = if s = dst4 p then (1 : EReal) else 0 := by
  unfold V
  simp only [List.flatten_cons, List.flatten_nil, List.cons_append, List.nil_append, List.append_nil]
  after_reads_simp
  pointwise
  after_reads_simp
  pointwise
  refine (Cert.Proj.indicator _ (⟨s.val % 128 * 4 + s.val / 128, by omega⟩ : Fin 512) p ?_).trans (if_congr ?_ rfl rfl)
  · revert s
    decide +kernel
  · simp only [dst4, Fin.ext_iff]
    omega

theorem matrix16_at (p s : Fin 512) : (V m c main_v29 : Vec Ideal S2x512x512 .bf16) (ix3 1 p s) = if s = dst16 p then (1 : EReal) else 0 := by
  unfold V
  simp only [List.flatten_cons, List.flatten_nil, List.cons_append, List.nil_append, List.append_nil]
  after_reads_simp
  pointwise
  after_reads_simp
  pointwise
  refine (Cert.Proj.indicator _ (⟨s.val % 32 * 16 + s.val / 32, by omega⟩ : Fin 512) p ?_).trans (if_congr ?_ rfl rfl)
  · revert s
    decide +kernel
  · simp only [dst16, Fin.ext_iff]
    omega

variable (t : Fin cfg0.N)

/-- A point's matrix of group `g`. -/
def unperm4 : Vec Ideal S1x512x512 .bf16 := View.ld (iblk m c 11 t) (Rect.unit (s := S2x512x512) ![0, 0, 0] ![1, 512, 512] inb_S2x512x512_S1x512x512_0_0_0)
def unperm16 : Vec Ideal S1x512x512 .bf16 := View.ld (iblk m c 11 t) (Rect.unit (s := S2x512x512) ![1, 0, 0] ![1, 512, 512] inb_S2x512x512_S1x512x512_1_0_0)

theorem idx11 : ∀ t : Fin cfg0.N, win0_11.index t = ![0, 0, 0] := (by decide +kernel : ∀ t : Fin grid0.N, _)

theorem unperm4_at (p s : Fin 512) : unperm4 m c t (ix3 0 p s) = if s = dst4 p then (1 : EReal) else 0 := by
  rw [← matrix4_at m c p s]
  unfold unperm4
  pointwise
  blk_ext [iblk, idx11 t]

theorem unperm16_at (p s : Fin 512) : unperm16 m c t (ix3 0 p s) = if s = dst16 p then (1 : EReal) else 0 := by
  rw [← matrix16_at m c p s]
  unfold unperm16
  pointwise
  blk_ext [iblk, idx11 t]

/-! The rows and the log-sum-exps of a point, and what it writes. -/

def x1 : FVec Ideal S512x1024 .f32 := k0_pay3 (iblk m c 0 t)
def x4 : FVec Ideal S512x1024 .f32 := ordered (unperm4 m c t) (stack4 (iblk m c 1 t))
def x16 : FVec Ideal S512x1024 .f32 := ordered (unperm16 m c t) (stack16 (iblk m c 2 t))

def l1 : Vec Ideal S1x512x128 .f32 := plane (iblk m c 3 t) (iblk m c 4 t) (iblk m c 5 t) 0 inb_S3x512x128_S1x512x128_0_0_0
def l4 : Vec Ideal S1x512x128 .f32 := plane (iblk m c 3 t) (iblk m c 4 t) (iblk m c 5 t) 1 inb_S3x512x128_S1x512x128_1_0_0
def l16 : Vec Ideal S1x512x128 .f32 := plane (iblk m c 3 t) (iblk m c 4 t) (iblk m c 5 t) 2 inb_S3x512x128_S1x512x128_2_0_0

def e1 : FVec Ideal S512x128 .f32 := k0_pay42 (l1 m c t) (l4 m c t) (l16 m c t)
def e4 : FVec Ideal S512x128 .f32 := k0_pay43 (l1 m c t) (l4 m c t) (l16 m c t)
def e16 : FVec Ideal S512x128 .f32 := k0_pay44 (l1 m c t) (l4 m c t) (l16 m c t)
def inverse : FVec Ideal S512x128 .f32 := k0_pay46 (e16 m c t) (k0_pay45 (l1 m c t) (l4 m c t) (l16 m c t))

def gateRow : Vec Ideal S1x1x1024 .f32 := View.ld (iblk m c 8 t) (Rect.unit (s := S1x3x1024) ![0, 2, 0] ![1, 1, 1024] inb_S1x3x1024_S1x1x1024_0_2_0)

theorem out_eq : outsAt0 m c t = k0_pay1 (iblk m c 7 t) (gateRow m c t)
    (gatedRows (x1 m c t) (x4 m c t) (x16 m c t) (e1 m c t) (e4 m c t) (e16 m c t) (inverse m c t) (iblk m c 6 t)) (iblk m c 9 t) (iblk m c 10 t) := by
  unfold outsAt0
  frame_out
  rfl

end Cert.Merge

end
-- ==== Proof.MergeSpec.lean ====
/-
The merge as mathematics: the three groups' rows weighted by the softmax of their log-sum-exps, times the gate, projected,
added to the hidden row with a factor, and normalised.
-/
module

public import proofs.«01_k».proof.Proof.ProjSpec
public import proofs.«01_k».proof.Proof.Equation

@[expose] public section

set_option maxRecDepth 16384

noncomputable section

open Idealize.ShloMosaic Idealize.ShloMosaic.TcCoe

namespace Cert.Merge

/-- The greatest of three log-sum-exps. -/
def top (a b c : EReal) : EReal := max (max a b) c

/-- One over the sum of the powers. -/
def inv (a b c : EReal) : EReal := Ideal.div 1 (Ideal.exp2 (a - top a b c) + Ideal.exp2 (b - top a b c) + Ideal.exp2 (c - top a b c))

/-- The weighted sum of three entries, weights in base 2. -/
def mean (a b c x y z : EReal) : EReal :=
  Ideal.exp2 (a - top a b c) * inv a b c * x + Ideal.exp2 (b - top a b c) * inv a b c * y + Ideal.exp2 (c - top a b c) * inv a b c * z

section Rows

variable (O1 : FVec Ideal ⟨3, ![16, 4096, 1024]⟩ .bf16) (O4 : FVec Ideal ⟨3, ![16, 1024, 4096]⟩ .bf16) (O16 : FVec Ideal ⟨3, ![16, 256, 16384]⟩ .bf16)
  (L1 : FVec Ideal ⟨4, ![16, 1, 4096, 128]⟩ .f32) (L4 : FVec Ideal ⟨4, ![16, 4, 1024, 128]⟩ .f32) (L16 : FVec Ideal ⟨4, ![16, 16, 256, 128]⟩ .f32)
  (G : FVec Ideal ⟨2, ![65536, 1024]⟩ .bf16) (H : FVec Ideal ⟨2, ![65536, 1024]⟩ .f32) (M : FVec Ideal ⟨2, ![16, 3072]⟩ .f32)
  (W : FVec Ideal ⟨2, ![1024, 1024]⟩ .f32) (N : FVec Ideal ⟨1, ![1024]⟩ .f32) (R : Fin 65536)

/-- The batch of a row, and its position. -/
def batch : Fin 16 := ⟨R.val / 4096, by omega⟩
def pos : Fin 4096 := ⟨R.val % 4096, by omega⟩

def row1 (l : Fin 1024) : EReal := O1 (ix3 (batch R) (pos R) l)
def row4 (l : Fin 1024) : EReal := O4 (ix3 (batch R) (⟨(pos R).val / 4, by omega⟩ : Fin 1024) (⟨(pos R).val % 4 * 1024 + l.val, by omega⟩ : Fin 4096))
def row16 (l : Fin 1024) : EReal := O16 (ix3 (batch R) (⟨(pos R).val / 16, by omega⟩ : Fin 256) (⟨(pos R).val % 16 * 1024 + l.val, by omega⟩ : Fin 16384))

def lg1 (e : Fin 128) : EReal := L1 (ix4 (batch R) 0 (pos R) e)
def lg4 (e : Fin 128) : EReal := L4 (ix4 (batch R) (⟨(pos R).val % 4, by omega⟩ : Fin 4) (⟨(pos R).val / 4, by omega⟩ : Fin 1024) e)
def lg16 (e : Fin 128) : EReal := L16 (ix4 (batch R) (⟨(pos R).val % 16, by omega⟩ : Fin 16) (⟨(pos R).val / 16, by omega⟩ : Fin 256) e)

/-- The lane of the log-sum-exps that belongs to lane `l` of a row: its head. -/
def head (l : Fin 1024) : Fin 128 := ⟨l.val / 128, by omega⟩

/-- A row of the gated mixture. -/
def mixed (l : Fin 1024) : EReal :=
  mean (lg1 L1 R (head l)) (lg4 L4 R (head l)) (lg16 L16 R (head l)) (row1 O1 R l) (row4 O4 R l) (row16 O16 R l) * G (ix2 R l)

/-- A row of the result. -/
def merged (l : Fin 1024) : EReal :=
  Cert.Proj.rms (fun d => H (ix2 R d) + M (ix2 (batch R) (⟨2048 + d.val, by omega⟩ : Fin 3072)) * ∑ k, mixed O1 O4 O16 L1 L4 L16 G R k * W (ix2 k d))
    (fun d => N (ix1 d)) l

end Rows

end Cert.Merge

end
-- ==== Proof.MergeArray.lean ====
/-
The result after the run. Point `t` of the 128 has rows `512 t …` of the sequence, of batch `t / 8`.
-/
module

public import proofs.«01_k».proof.Proof.MergeBody
public import proofs.«01_k».proof.Proof.MergeSpec
public import Idealize.ShloMosaic.Lib.Pipeline.Covers

@[expose] public section

set_option maxRecDepth 16384

noncomputable section

open Idealize.ShloMosaic Idealize.ShloMosaic.TcCoe Idealize.SL.Sem
open Cert.Kernel4Ideal Cert.Kernel4Ideal.Gen

namespace Cert.Merge

variable (m : (ℓ : Loc nD τ sig) → Buf (Elt Ideal) ℓ) (c : Dev nD)

abbrev out1 : Vec Ideal S16x4096x1024 .bf16 := m ((c : Thread nD τ).loc main_arg0)
abbrev out4 : Vec Ideal S16x1024x4096 .bf16 := m ((c : Thread nD τ).loc main_arg1)
abbrev out16 : Vec Ideal S16x256x16384 .bf16 := m ((c : Thread nD τ).loc main_arg2)
abbrev logs1 : Vec Ideal S16x1x4096x128 .f32 := m ((c : Thread nD τ).loc main_arg3)
abbrev logs4 : Vec Ideal S16x4x1024x128 .f32 := m ((c : Thread nD τ).loc main_arg4)
abbrev logs16 : Vec Ideal S16x16x256x128 .f32 := m ((c : Thread nD τ).loc main_arg5)
abbrev gate : Vec Ideal S65536x1024 .bf16 := m ((c : Thread nD τ).loc main_arg6)
abbrev hidden : Vec Ideal S65536x1024 .f32 := m ((c : Thread nD τ).loc main_arg7)
abbrev condition : Vec Ideal S16x3072 .f32 := m ((c : Thread nD τ).loc main_arg8)
abbrev weights : Vec Ideal S1024x1024 .f32 := m ((c : Thread nD τ).loc main_arg9)
abbrev gain : Vec Ideal S1024 .f32 := m ((c : Thread nD τ).loc main_arg10)

theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, t.val % 8, 0] ∧ win0_4.index t = ![t.val / 8, 0, t.val % 8, 0]
    ∧ win0_5.index t = ![t.val / 8, 0, t.val % 8, 0] ∧ win0_6.index t = ![t.val, 0] ∧ win0_7.index t = ![t.val, 0]
    ∧ win0_8.index t = ![t.val / 8, 0, 0] ∧ win0_9.index t = ![0, 0] ∧ win0_10.index t = ![0, 0] ∧ win0_12.index t = ![t.val, 0] ∧ t.val < 128 :=
  (by decide +kernel : ∀ t : Fin grid0.N, _)

variable (t : Fin cfg0.N)

theorem lt128 : t.val < 128 := (idx t).2.2.2.2.2.2.2.2.2.2.2.2

/-- The row of the sequence that row `p` of point `t` is. -/
def rowOf (p : Fin 512) : Fin 65536 := ⟨t.val * 512 + p.val, by have := lt128 t; omega⟩

theorem batch_rowOf (p : Fin 512) : (batch (rowOf t p)).val = t.val / 8 := by
  have := p.isLt
  simp only [batch, rowOf]
  omega

theorem pos_rowOf (p : Fin 512) : (pos (rowOf t p)).val = t.val % 8 * 512 + p.val := by
  have := p.isLt
  simp only [pos, rowOf]
  omega

/-! The blocks. -/

theorem out1_blk (p : Fin 512) (l : Fin 1024) : iblk m c 0 t (ix3 0 p l) = row1 (out1 m c) (rowOf t p) l := by
  have := p.isLt
  have h1 := batch_rowOf t p
  have h2 := pos_rowOf t p
  unfold row1
  blk_ext [iblk, V, idx t] <;> omega

theorem out4_blk (p : Fin 512) (l : Fin 1024) :
    iblk m c 1 t (ix3 0 (⟨p.val / 4, by omega⟩ : Fin 128) (⟨p.val % 4 * 1024 + l.val, by omega⟩ : Fin 4096)) = row4 (out4 m c) (rowOf t p) l := by
  have := p.isLt
  have h1 := batch_rowOf t p
  have h2 := pos_rowOf t p
  unfold row4
  blk_ext [iblk, V, idx t] <;> omega

theorem out16_blk (p : Fin 512) (l : Fin 1024) :
    iblk m c 2 t (ix3 0 (⟨p.val / 16, by omega⟩ : Fin 32) (⟨p.val % 16 * 1024 + l.val, by omega⟩ : Fin 16384)) = row16 (out16 m c) (rowOf t p) l := by
  have := p.isLt
  have h1 := batch_rowOf t p
  have h2 := pos_rowOf t p
  unfold row16
  blk_ext [iblk, V, idx t] <;> omega

theorem logs1_blk (p : Fin 512) (e : Fin 128) : lse1 (iblk m c 3 t) p.val e.val = lg1 (logs1 m c) (rowOf t p) e := by
  have := p.isLt
  have h1 := batch_rowOf t p
  have h2 := pos_rowOf t p
  rw [← lse1_eq _ p e p.val e.val rfl rfl]
  unfold lg1
  blk_ext [iblk, V, idx t] <;> omega

theorem logs4_blk (p : Fin 512) (e : Fin 128) : lse4 (iblk m c 4 t) p.val e.val = lg4 (logs4 m c) (rowOf t p) e := by
  have := p.isLt
  have h1 := batch_rowOf t p
  have h2 := pos_rowOf t p
  rw [← lse4_eq _ (⟨p.val % 4, by omega⟩ : Fin 4) (⟨p.val / 4, by omega⟩ : Fin 128) e p.val e.val (by simp only []; omega) rfl]
  unfold lg4
  blk_ext [iblk, V, idx t] <;> omega

theorem logs16_blk (p : Fin 512) (e : Fin 128) : lse16 (iblk m c 5 t) p.val e.val = lg16 (logs16 m c) (rowOf t p) e := by
  have := p.isLt
  have h1 := batch_rowOf t p
  have h2 := pos_rowOf t p
  rw [← lse16_eq _ (⟨p.val % 16, by omega⟩ : Fin 16) (⟨p.val / 16, by omega⟩ : Fin 32) e p.val e.val (by simp only []; omega) rfl]
  unfold lg16
  blk_ext [iblk, V, idx t] <;> omega

theorem gate_blk (p : Fin 512) (l : Fin 1024) : iblk m c 6 t (ix2 p l) = gate m c (ix2 (rowOf t p) l) := by
  unfold rowOf
  blk_ext [iblk, V, idx t]

theorem hidden_blk (p : Fin 512) (l : Fin 1024) : iblk m c 7 t (ix2 p l) = hidden m c (ix2 (rowOf t p) l) := by
  unfold rowOf
  blk_ext [iblk, V, idx t]

/-! The arrays prepared before the launch. -/

theorem conditions_at (b : Fin 16) (i : Fin 3) (d : Fin 1024) :
    (V m c main_v0 : Vec Ideal S16x3x1024 .f32) (ix3 b i d) = condition m c (ix2 b (⟨i.val * 1024 + d.val, by omega⟩ : Fin 3072)) := by
  unfold V
  simp only [List.flatten_cons, List.flatten_nil, List.cons_append, List.nil_append, List.append_nil]
  after_reads_simp
  pointwise

theorem weights_at (k d : Fin 1024) : (V m c main_v1 : Vec Ideal S1024x1024 .bf16) (ix2 k d) = weights m c (ix2 k d) := by
  unfold V
  simp only [List.flatten_cons, List.flatten_nil, List.cons_append, List.nil_append, List.append_nil]
  after_reads_simp
  pointwise

theorem gain_at (d : Fin 1024) : (V m c main_v2 : Vec Ideal S1x1024 .f32) (ix2 0 d) = gain m c (ix1 d) := by
  unfold V
  simp only [List.flatten_cons, List.flatten_nil, List.cons_append, List.nil_append, List.append_nil]
  after_reads_simp
  pointwise

theorem weights_blk (k d : Fin 1024) : iblk m c 9 t (ix2 k d) = weights m c (ix2 k d) := by
  rw [← weights_at]
  blk_ext [iblk, idx t]

theorem gain_blk (d : Fin 1024) : iblk m c 10 t (ix2 0 d) = gain m c (ix1 d) := by
  rw [← gain_at]
  blk_ext [iblk, idx t]

theorem gateRow_at (p : Fin 512) (d : Fin 1024) : gateRow m c t (ix3 0 0 d) = condition m c (ix2 (batch (rowOf t p)) (⟨2048 + d.val, by omega⟩ : Fin 3072)) := by
  have h1 := batch_rowOf t p
  refine Eq.trans ?_ (conditions_at m c (batch (rowOf t p)) 2 d)
  unfold gateRow
  pointwise
  blk_ext [iblk, idx t] <;> omega

/-! A row of a point. -/

theorem x1_at (p : Fin 512) (l : Fin 1024) : x1 m c t (ix2 p l) = row1 (out1 m c) (rowOf t p) l := by
  rw [← out1_blk]
  pointwise [x1, k0_pay3]

theorem x4_at (p : Fin 512) (l : Fin 1024) : x4 m c t (ix2 p l) = row4 (out4 m c) (rowOf t p) l := by
  rw [← out4_blk]
  exact (ordered_at _ _ dst4 (unperm4_at m c t) p l).trans (stack4_at _ p l)

theorem x16_at (p : Fin 512) (l : Fin 1024) : x16 m c t (ix2 p l) = row16 (out16 m c) (rowOf t p) l := by
  rw [← out16_blk]
  exact (ordered_at _ _ dst16 (unperm16_at m c t) p l).trans (stack16_at _ p l)

theorem l1_at (p : Fin 512) (e : Fin 128) : l1 m c t (ix3 0 p e) = lg1 (logs1 m c) (rowOf t p) e := by
  rw [← logs1_blk]
  exact plane_at _ _ _ 0 _ p e

theorem l4_at (p : Fin 512) (e : Fin 128) : l4 m c t (ix3 0 p e) = lg4 (logs4 m c) (rowOf t p) e := by
  rw [← logs4_blk]
  exact plane_at _ _ _ 1 _ p e

theorem l16_at (p : Fin 512) (e : Fin 128) : l16 m c t (ix3 0 p e) = lg16 (logs16 m c) (rowOf t p) e := by
  rw [← logs16_blk]
  exact plane_at _ _ _ 2 _ p e

section Powers

variable (P1 P4 P16 : Vec Ideal S1x512x128 .f32) (p : Fin 512) (e : Fin 128)

theorem power1_at : k0_pay42 P1 P4 P16 (ix2 p e) = Ideal.exp2 (P1 (ix3 0 p e) - top (P1 (ix3 0 p e)) (P4 (ix3 0 p e)) (P16 (ix3 0 p e))) := by
  unfold top
  pointwise [k0_pay42, k0_pay41, k0_pay38, k0_pay39, k0_pay40]
  rfl

theorem power4_at : k0_pay43 P1 P4 P16 (ix2 p e) = Ideal.exp2 (P4 (ix3 0 p e) - top (P1 (ix3 0 p e)) (P4 (ix3 0 p e)) (P16 (ix3 0 p e))) := by
  unfold top
  pointwise [k0_pay43, k0_pay41, k0_pay38, k0_pay39, k0_pay40]
  rfl

theorem power16_at : k0_pay44 P1 P4 P16 (ix2 p e) = Ideal.exp2 (P16 (ix3 0 p e) - top (P1 (ix3 0 p e)) (P4 (ix3 0 p e)) (P16 (ix3 0 p e))) := by
  unfold top
  pointwise [k0_pay44, k0_pay41, k0_pay38, k0_pay39, k0_pay40]
  rfl

theorem inverse_at : k0_pay46 (k0_pay44 P1 P4 P16) (k0_pay45 P1 P4 P16) (ix2 p e) = inv (P1 (ix3 0 p e)) (P4 (ix3 0 p e)) (P16 (ix3 0 p e)) := by
  unfold inv
  rw [← power1_at, ← power4_at, ← power16_at]
  pointwise [k0_pay46, k0_pay45]

end Powers

theorem gated_at (p : Fin 512) (l : Fin 1024) :
    gatedRows (x1 m c t) (x4 m c t) (x16 m c t) (e1 m c t) (e4 m c t) (e16 m c t) (inverse m c t) (iblk m c 6 t) (ix2 p l)
      = mixed (out1 m c) (out4 m c) (out16 m c) (logs1 m c) (logs4 m c) (logs16 m c) (gate m c) (rowOf t p) l := by
  rw [gatedRows_at]
  unfold gatedAt mixed mean inverse e1 e4 e16
  rw [power1_at, power4_at, power16_at, inverse_at, x1_at, x4_at, x16_at, l1_at, l4_at, l16_at, gate_blk]
  rfl

theorem out_at (p : Fin 512) (l : Fin 1024) :
    outsAt0 m c t (ix2 p l) = merged (out1 m c) (out4 m c) (out16 m c) (logs1 m c) (logs4 m c) (logs16 m c) (gate m c) (hidden m c) (condition m c)
      (weights m c) (gain m c) (rowOf t p) l := by
  rw [out_eq, final_at]
  unfold merged
  simp only [gated_at, hidden_blk, gateRow_at m c t p, weights_blk, gain_blk]

/-- The result array. -/
def result : Vec Ideal S65536x1024 .f32 := fun i =>
  merged (out1 m c) (out4 m c) (out16 m c) (logs1 m c) (logs4 m c) (logs16 m c) (gate m c) (hidden m c) (condition m c) (weights m c) (gain m c) (i 0) (i 1)

theorem final_result : (dats m 0 c).arrAt 12 cfg0.N = result m c := by
  refine (dats m 0 c).arrAt_eq_of_covers 12 _ (by decide +kernel) fun t _ y => ?_
  blk_simp
  rw [after0_12]
  obtain ⟨p, l, rfl⟩ : ∃ p l, y = ix2 p l := ⟨y 0, y 1, by funext a; fin_cases a <;> rfl⟩
  refine (out_at m c t p l).trans ?_
  unfold result
  refine congrArg₂ (merged (out1 m c) (out4 m c) (out16 m c) (logs1 m c) (logs4 m c) (logs16 m c) (gate m c) (hidden m c) (condition m c) (weights m c)
    (gain m c)) ?_ ?_ <;> refine Fin.ext ?_ <;> blk_simp [idx t] <;> rfl

end Cert.Merge

end
-- ==== Proof.MergeLogs.lean ====
/-
The kernel's weights are the softmax's, where the log-sum-exps are finite: powers of two of base-2 log-sum-exps against powers
of e of natural ones.
-/
module

public import proofs.«01_k».proof.Proof.MergeSpec
public import proofs.«01_k».proof.Proof.Softmax

@[expose] public section

set_option maxRecDepth 16384

noncomputable section

open Idealize.ShloMosaic Idealize.ShloMosaic.TcCoe

namespace Cert.Merge

/-- A log-sum-exp of base 2 in base e. -/
def natural (x : EReal) : EReal := x * (Real.log 2 : ℝ)

/-- The softmax of three, as jax computes it. -/
def soft (x : Fin 3 → EReal) (g : Fin 3) : EReal :=
  Ideal.div (Ideal.exp (x g - max ⊥ (Finset.fold max ⊥ x Finset.univ))) (∑ k, Ideal.exp (x k - max ⊥ (Finset.fold max ⊥ x Finset.univ)))

theorem fold_eq (x : Fin 3 → EReal) : max ⊥ (Finset.fold max ⊥ x Finset.univ) = Finset.univ.sup x := by
  rw [max_eq_right bot_le]
  rfl

theorem top_eq (a b c : EReal) : top a b c = Finset.univ.sup (![a, b, c] : Fin 3 → EReal) := by
  rw [show (Finset.univ : Finset (Fin 3)) = {0, 1, 2} from rfl, Finset.sup_insert, Finset.sup_insert, Finset.sup_singleton]
  exact sup_assoc a b c

theorem soft_mean (a b c : ℝ) (x y z : EReal) :
    (∑ g, soft ![natural a, natural b, natural c] g * (![x, y, z] : Fin 3 → EReal) g) = mean a b c x y z := by
  obtain ⟨M, w, hX, hS, hw, hpos, h2, he⟩ := Cert.Band.weights (![a, b, c] : Fin 3 → ℝ) (fun _ => True) ⟨0, trivial⟩
    (![(a : EReal), b, c] : Fin 3 → EReal) (![natural a, natural b, natural c] : Fin 3 → EReal)
    (fun i => by fin_cases i <;> simp) (fun i => by fin_cases i <;> simp [natural])
  have ht : top a b c = M := (top_eq _ _ _).trans hX
  have hsub : ∀ i, Ideal.exp ((![natural a, natural b, natural c] : Fin 3 → EReal) i - ((M * Real.log 2 : ℝ) : EReal)) = (w i : EReal) := fun i => by
    have := he 0 i
    rwa [zero_add, neg_zero, Real.exp_zero, mul_one] at this
  have hs : ∀ g, soft ![natural a, natural b, natural c] g = Ideal.div (w g) (∑ k, (w k : EReal)) := fun g => by
    unfold soft
    simp only [fold_eq, hS, hsub]
  have hne : ((w 0 : EReal) + w 1 + w 2) ≠ 0 := by
    rw [← EReal.coe_add, ← EReal.coe_add]
    rw [Fin.sum_univ_three] at hpos
    exact fun h => hpos.ne' (EReal.coe_eq_zero.mp h)
  have e0 : Ideal.exp2 ((a : EReal) - M) = w 0 := h2 0
  have e1 : Ideal.exp2 ((b : EReal) - M) = w 1 := h2 1
  have e2 : Ideal.exp2 ((c : EReal) - M) = w 2 := h2 2
  rw [Fin.sum_univ_three, hs, hs, hs]
  unfold mean inv
  rw [ht, e0, e1, e2, Fin.sum_univ_three]
  unfold Ideal.div
  simp only [if_neg hne, one_mul]
  rfl

end Cert.Merge

end
-- ==== Proof.MergeReference.lean ====
/-
The reference's result, row by row.
-/
module

public import proofs.«01_k».proof.Proof.MergeLogs
public import proofs.«01_k».proof.Proof.Gen.Reference4Ideal.Read
public import Idealize.ShloMosaic.Lib.Pointwise

@[expose] public section

set_option maxRecDepth 16384

noncomputable section

open Idealize.ShloMosaic Idealize.ShloMosaic.TcCoe Idealize.SL.Sem
open Cert.Reference4Ideal Cert.Reference4Ideal.Gen Cert.Reference4Ideal.Read

namespace Cert.Merge.Ref

variable (x0 : FVec Ideal S16x4096x1024 .bf16) (x1 : FVec Ideal S16x1024x4096 .bf16) (x2 : FVec Ideal S16x256x16384 .bf16)
  (x3 : FVec Ideal S16x1x4096x128 .f32) (x4 : FVec Ideal S16x4x1024x128 .f32) (x5 : FVec Ideal S16x16x256x128 .f32)
  (x6 : FVec Ideal S65536x1024 .bf16) (x7 : FVec Ideal S65536x1024 .f32) (x8 : FVec Ideal S16x3072 .f32) (x9 : FVec Ideal S1024x1024 .f32)
  (x10 : FVec Ideal S1024 .f32)

/-! The log-sum-exps and their softmax. -/

theorem lane (h : Fin 8) : h.val < 128 := by omega

theorem log1_at (b : Fin 16) (s : Fin 4096) (h : Fin 8) : val_main_v11 (F := Ideal) x3 (ix3 b s h) = natural (x3 (ix4 b 0 s ⟨h.val, lane h⟩)) := by
  unfold natural
  rw [← Cert.Band.ln2_eq]
  pointwise [val_main_v11, val_main_v10, val_main_v9, val_main_cst, val_main_v8, val_main_v7, val_main_v6]

theorem log4_at (b : Fin 16) (s : Fin 4096) (h : Fin 8) :
    val_main_v17 (F := Ideal) x4 (ix3 b s h) = natural (x4 (ix4 b (⟨s.val % 4, by omega⟩ : Fin 4) (⟨s.val / 4, by omega⟩ : Fin 1024) ⟨h.val, lane h⟩)) := by
  unfold natural
  rw [← Cert.Band.ln2_eq]
  pointwise [val_main_v17, val_main_v16, val_main_v15, val_main_cst_0, val_main_v14, val_main_v13, val_main_v12]

theorem log16_at (b : Fin 16) (s : Fin 4096) (h : Fin 8) :
    val_main_v23 (F := Ideal) x5 (ix3 b s h) = natural (x5 (ix4 b (⟨s.val % 16, by omega⟩ : Fin 16) (⟨s.val / 16, by omega⟩ : Fin 256) ⟨h.val, lane h⟩)) := by
  unfold natural
  rw [← Cert.Band.ln2_eq]
  pointwise [val_main_v23, val_main_v22, val_main_v21, val_main_cst_1, val_main_v20, val_main_v19, val_main_v18]

theorem logs_at (b : Fin 16) (s : Fin 4096) (h : Fin 8) (g : Fin 3) :
    val_main_v27 (F := Ideal) x3 x4 x5 (ix4 b s h g)
      = (![val_main_v11 (F := Ideal) x3 (ix3 b s h), val_main_v17 (F := Ideal) x4 (ix3 b s h), val_main_v23 (F := Ideal) x5 (ix3 b s h)] : Fin 3 → EReal) g := by
  fin_cases g <;> pointwise [val_main_v27, val_main_v26, val_main_v25, val_main_v24]

theorem soft_at (b : Fin 16) (s : Fin 4096) (h : Fin 8) (g : Fin 3) :
    val_main_v38 (F := Ideal) x3 x4 x5 (ix4 b s h g) = soft (fun k => val_main_v27 (F := Ideal) x3 x4 x5 (ix4 b s h k)) g := by
  unfold soft
  rw [← Cert.Band.ninf_eq]
  pointwise [val_main_v38, val_main_v37, val_main_v36, val_main_v35, val_main_cst_4, val_main_v34, val_main_v33, val_main_v32, val_main_v31, val_main_v30, val_main_v29, val_main_cst_3, val_main_v28, val_main_cst_2]

/-! The groups' rows. -/

theorem out1_at (b : Fin 16) (s : Fin 4096) (h : Fin 8) (d : Fin 128) : val_main_v1 (F := Ideal) x0 (ix4 b s h d) = x0 (ix3 b s (⟨h.val * 128 + d.val, by omega⟩ : Fin 1024)) := by
  pointwise [val_main_v1, val_main_v0]

theorem out4_at (b : Fin 16) (s : Fin 4096) (h : Fin 8) (d : Fin 128) : val_main_v3 (F := Ideal) x1 (ix4 b s h d)
    = x1 (ix3 b (⟨s.val / 4, by omega⟩ : Fin 1024) (⟨s.val % 4 * 1024 + h.val * 128 + d.val, by omega⟩ : Fin 4096)) := by
  pointwise [val_main_v3, val_main_v2]

theorem out16_at (b : Fin 16) (s : Fin 4096) (h : Fin 8) (d : Fin 128) : val_main_v5 (F := Ideal) x2 (ix4 b s h d)
    = x2 (ix3 b (⟨s.val / 16, by omega⟩ : Fin 256) (⟨s.val % 16 * 1024 + h.val * 128 + d.val, by omega⟩ : Fin 16384)) := by
  pointwise [val_main_v5, val_main_v4]

/-- Three stacked arrays. -/
theorem stacked_at (A B C : FVec Ideal S16x4096x8x128 .f32) (b : Fin 16) (s : Fin 4096) (h : Fin 8) (d : Fin 128) (g : Fin 3) :
    concatenate S3x16x4096x8x128 0 [⟨S1x16x4096x8x128, broadcastInDim S1x16x4096x8x128 ![1, 2, 3, 4] bcast_S16x4096x8x128_S1x16x4096x8x128_1_2_3_4 A⟩,
      ⟨S1x16x4096x8x128, broadcastInDim S1x16x4096x8x128 ![1, 2, 3, 4] bcast_S16x4096x8x128_S1x16x4096x8x128_1_2_3_4 B⟩,
      ⟨S1x16x4096x8x128, broadcastInDim S1x16x4096x8x128 ![1, 2, 3, 4] bcast_S16x4096x8x128_S1x16x4096x8x128_1_2_3_4 C⟩]
      concatenates_S1x16x4096x8x128_S1x16x4096x8x128_S1x16x4096x8x128_S3x16x4096x8x128_d0 (ix5 g b s h d)
      = (![A (ix4 b s h d), B (ix4 b s h d), C (ix4 b s h d)] : Fin 3 → EReal) g := by
  fin_cases g <;> pointwise

theorem outs_at (b : Fin 16) (s : Fin 4096) (h : Fin 8) (d : Fin 128) (g : Fin 3) :
    val_main_v42 (F := Ideal) x0 x1 x2 (ix5 g b s h d)
      = (![val_main_v1 (F := Ideal) x0 (ix4 b s h d), val_main_v3 (F := Ideal) x1 (ix4 b s h d), val_main_v5 (F := Ideal) x2 (ix4 b s h d)] : Fin 3 → EReal) g :=
  stacked_at _ _ _ b s h d g

/-! The rest, of any arrays. -/

/-- The weighted sum over the groups. -/
def weighted (A : FVec Ideal S16x4096x8x3 .f32) (B : FVec Ideal S3x16x4096x8x128 .f32) : FVec Ideal S16x4096x1024 .f32 :=
  shapeCast S16x4096x1024 (Host.dotGeneral dot_S16x4096x8x3_S3x16x4096x8x128_S16x4096x8x128_3_0_n_4_012_123 none A B) shapeCasts_S16x4096x8x128_S16x4096x1024

theorem weighted_at (A : FVec Ideal S16x4096x8x3 .f32) (B : FVec Ideal S3x16x4096x8x128 .f32) (b : Fin 16) (s : Fin 4096) (l : Fin 1024) :
    weighted A B (ix3 b s l) = ∑ g, A (ix4 b s (⟨l.val / 128, by omega⟩ : Fin 8) g) * B (ix5 g b s (⟨l.val / 128, by omega⟩ : Fin 8) (⟨l.val % 128, by omega⟩ : Fin 128)) := by
  pointwise [weighted]

/-- Times the gate. -/
theorem gated_at (T : FVec Ideal S16x4096x1024 .f32) (g : FVec Ideal S65536x1024 .f32) (b : Fin 16) (s : Fin 4096) (l : Fin 1024) :
    mulf T (shapeCast S16x4096x1024 g shapeCasts_S65536x1024_S16x4096x1024) (ix3 b s l) = T (ix3 b s l) * g (ix2 (⟨b.val * 4096 + s.val, by omega⟩ : Fin 65536) l) := by
  pointwise

/-- The projection. -/
theorem projected_at (T : FVec Ideal S16x4096x1024 .f32) (w : FVec Ideal S1024x1024 .f32) (b : Fin 16) (s : Fin 4096) (l : Fin 1024) :
    Host.dotGeneral dot_S16x4096x1024_S1024x1024_S16x4096x1024_2_0_01_1_n_n none T w (ix3 b s l) = ∑ k, T (ix3 b s k) * w (ix2 k l) := by
  pointwise

theorem factor_at (b : Fin 16) (s : Fin 4096) (l : Fin 1024) : val_main_v54 (F := Ideal) x8 (ix3 b s l) = x8 (ix2 b (⟨2048 + l.val, by omega⟩ : Fin 3072)) := by
  pointwise [val_main_v54, val_main_v52, val_main_v49]

/-- The residual. -/
theorem residual_at (x y : FVec Ideal S16x4096x1024 .f32) (h : FVec Ideal S65536x1024 .f32) (b : Fin 16) (s : Fin 4096) (l : Fin 1024) :
    addf (shapeCast S16x4096x1024 h shapeCasts_S65536x1024_S16x4096x1024) (mulf x y) (ix3 b s l)
      = h (ix2 (⟨b.val * 4096 + s.val, by omega⟩ : Fin 65536) l) + x (ix3 b s l) * y (ix3 b s l) := by
  pointwise

end Cert.Merge.Ref

end
-- ==== Proof.MergeRun.lean ====
/-
The reference's run ends with the specification's rows, at every device, and keeps its arguments.
-/
module

public import proofs.«01_k».proof.Proof.MergeReference
public import proofs.«01_k».proof.Proof.Gen.Reference4Ideal.Run

@[expose] public section

set_option maxRecDepth 16384

noncomputable section

open Idealize.ShloMosaic Idealize.ShloMosaic.TcCoe Idealize.SL.Sem
open Cert.Reference4Ideal Cert.Reference4Ideal.Gen Cert.Reference4Ideal.Read

namespace Cert.Merge.Ref

variable (x0 : FVec Ideal S16x4096x1024 .bf16) (x1 : FVec Ideal S16x1024x4096 .bf16) (x2 : FVec Ideal S16x256x16384 .bf16)
  (x3 : FVec Ideal S16x1x4096x128 .f32) (x4 : FVec Ideal S16x4x1024x128 .f32) (x5 : FVec Ideal S16x16x256x128 .f32)
  (x6 : FVec Ideal S65536x1024 .bf16) (x7 : FVec Ideal S65536x1024 .f32) (x8 : FVec Ideal S16x3072 .f32) (x9 : FVec Ideal S1024x1024 .f32)
  (x10 : FVec Ideal S1024 .f32)

/-! The norm of any array. -/

/-- The factor of a row. -/
def rowFactor (T : FVec Ideal S16x4096x1024 .f32) : FVec Ideal S16x4096x1 .f32 :=
  Host.rsqrt (addf (Host.divf (broadcastInDim S16x4096x1 ![0, 1] bcast_S16x4096_S16x4096x1_0_1
      (Host.reduceAdd (mulf T T) (val_main_cst_5 (F := Ideal)) reducesTo_S16x4096x1024_S16x4096_d2 h_S_))
    (val_main_v60 (F := Ideal))) (val_main_v62 (F := Ideal)))

def normed (T : FVec Ideal S16x4096x1024 .f32) : FVec Ideal S16x4096x1024 .f32 :=
  mulf (mulf T (broadcastInDim S16x4096x1024 ![0, 1, 2] bcast_S16x4096x1_S16x4096x1024_0_1_2 (rowFactor T))) (val_main_v68 (F := Ideal) x10)

theorem normed_at (T : FVec Ideal S16x4096x1024 .f32) (b : Fin 16) (s : Fin 4096) (l : Fin 1024) :
    normed x10 T (ix3 b s l) = Cert.Proj.rms (fun d => T (ix3 b s d)) (fun d => x10 (ix1 d)) l := by
  unfold Cert.Proj.rms
  pointwise [normed, rowFactor, val_main_v60, val_main_cst_6, val_main_v62, val_main_cst_7, val_main_v68, val_main_v67, val_main_cst_5]

theorem flat_at (T : FVec Ideal S16x4096x1024 .f32) (R : Fin 65536) (l : Fin 1024) :
    shapeCast S65536x1024 T shapeCasts_S16x4096x1024_S65536x1024 (ix2 R l) = T (ix3 (batch R) (pos R) l) := by
  unfold batch pos
  pointwise

theorem row_eq (R : Fin 65536) : (⟨(batch R).val * 4096 + (pos R).val, by simp only [batch, pos]; omega⟩ : Fin 65536) = R :=
  Fin.ext (by simp only [batch, pos]; omega)

/-! A row of the reference. -/

section

variable (h3 : ∀ b p (e : Fin 8), ∃ r : ℝ, x3 (ix4 b 0 p ⟨e.val, lane e⟩) = r) (h4 : ∀ b q p (e : Fin 8), ∃ r : ℝ, x4 (ix4 b q p ⟨e.val, lane e⟩) = r)
  (h5 : ∀ b q p (e : Fin 8), ∃ r : ℝ, x5 (ix4 b q p ⟨e.val, lane e⟩) = r)

include h3 h4 h5 in
theorem mixture_at (R : Fin 65536) (l : Fin 1024) :
    val_main_v44 (F := Ideal) x0 x1 x2 x3 x4 x5 (ix3 (batch R) (pos R) l)
      = mean (lg1 x3 R (head l)) (lg4 x4 R (head l)) (lg16 x5 R (head l)) (row1 x0 R l) (row4 x1 R l) (row16 x2 R l) := by
  refine (weighted_at (val_main_v38 (F := Ideal) x3 x4 x5) (val_main_v42 (F := Ideal) x0 x1 x2) (batch R) (pos R) l).trans ?_
  obtain ⟨a, ha⟩ := h3 (batch R) (pos R) (⟨l.val / 128, by omega⟩ : Fin 8)
  obtain ⟨b, hb⟩ := h4 (batch R) (⟨(pos R).val % 4, by omega⟩ : Fin 4) (⟨(pos R).val / 4, by omega⟩ : Fin 1024) (⟨l.val / 128, by omega⟩ : Fin 8)
  obtain ⟨c, hc⟩ := h5 (batch R) (⟨(pos R).val % 16, by omega⟩ : Fin 16) (⟨(pos R).val / 16, by omega⟩ : Fin 256) (⟨l.val / 128, by omega⟩ : Fin 8)
  have e1 : lg1 x3 R (head l) = a := ha
  have e4 : lg4 x4 R (head l) = b := hb
  have e16 : lg16 x5 R (head l) = c := hc
  have k1 : row1 x0 R l = x0 (ix3 (batch R) (pos R) (⟨l.val / 128 * 128 + l.val % 128, by omega⟩ : Fin 1024)) :=
    congrArg (fun e => x0 (ix3 (batch R) (pos R) e)) (Fin.ext (by simp only []; omega))
  have k4 : row4 x1 R l = x1 (ix3 (batch R) (⟨(pos R).val / 4, by omega⟩ : Fin 1024) (⟨(pos R).val % 4 * 1024 + l.val / 128 * 128 + l.val % 128, by omega⟩ : Fin 4096)) :=
    congrArg (fun e => x1 (ix3 (batch R) _ e)) (Fin.ext (by simp only []; omega))
  have k16 : row16 x2 R l = x2 (ix3 (batch R) (⟨(pos R).val / 16, by omega⟩ : Fin 256) (⟨(pos R).val % 16 * 1024 + l.val / 128 * 128 + l.val % 128, by omega⟩ : Fin 16384)) :=
    congrArg (fun e => x2 (ix3 (batch R) _ e)) (Fin.ext (by simp only []; omega))
  rw [e1, e4, e16, k1, k4, k16, ← soft_mean a b c]
  refine Finset.sum_congr rfl fun g _ => ?_
  rw [soft_at, outs_at, out1_at, out4_at, out16_at]
  refine congrArg (fun f => soft f g * _) (funext fun k => ?_)
  rw [logs_at, log1_at, log4_at, log16_at, ha, hb, hc]

include h3 h4 h5 in
theorem row_at (R : Fin 65536) (l : Fin 1024) :
    val_main_v70 (F := Ideal) x0 x1 x2 x3 x4 x5 x6 x7 x8 x9 x10 (ix2 R l) = merged x0 x1 x2 x3 x4 x5 x6 x7 x8 x9 x10 R l := by
  refine (flat_at (val_main_v69 (F := Ideal) x0 x1 x2 x3 x4 x5 x6 x7 x8 x9 x10) R l).trans ?_
  refine (normed_at x10 (val_main_v56 (F := Ideal) x0 x1 x2 x3 x4 x5 x6 x7 x8 x9) (batch R) (pos R) l).trans ?_
  unfold merged
  refine congrArg (fun f => Cert.Proj.rms f (fun d => x10 (ix1 d)) l) (funext fun d => ?_)
  refine (residual_at (val_main_v54 (F := Ideal) x8) (val_main_v48 (F := Ideal) x0 x1 x2 x3 x4 x5 x6 x9) x7 (batch R) (pos R) d).trans ?_
  rw [row_eq, factor_at]
  refine congrArg (fun z => x7 (ix2 R d) + x8 (ix2 (batch R) (⟨2048 + d.val, by omega⟩ : Fin 3072)) * z) ?_
  refine (projected_at (val_main_v47 (F := Ideal) x0 x1 x2 x3 x4 x5 x6) x9 (batch R) (pos R) d).trans ?_
  refine Finset.sum_congr rfl fun k _ => congrArg (· * x9 (ix2 k d)) ?_
  refine (gated_at (val_main_v44 (F := Ideal) x0 x1 x2 x3 x4 x5) (val_main_v45 (F := Ideal) x6) (batch R) (pos R) k).trans ?_
  rw [row_eq, mixture_at x0 x1 x2 x3 x4 x5 h3 h4 h5]
  rfl

end

end Cert.Merge.Ref

end
-- ==== Proof.MergeEquation.lean ====
/-
The merge's array is the reference's, where the log-sum-exps of the heads are finite.

The precondition says, entry by entry, that the absolute value of a log-sum-exp in the first eight lanes is below `⊤`; so each
is a real.
-/
module

public import proofs.«01_k».proof.Proof.Equation
public import proofs.«01_k».proof.Proof.MergeRun
public import proofs.«01_k».proof.Proof.Gen.Pre_finite_lse

@[expose] public section

set_option maxRecDepth 16384

noncomputable section

open Idealize.ShloMosaic
open Cert.Reference4Ideal Cert.Reference4Ideal.Gen Cert.Reference4Ideal.Read

namespace Cert.Merge

variable (x0 : FVec Ideal S16x4096x1024 .bf16) (x1 : FVec Ideal S16x1024x4096 .bf16) (x2 : FVec Ideal S16x256x16384 .bf16)
  (x3 : FVec Ideal S16x1x4096x128 .f32) (x4 : FVec Ideal S16x4x1024x128 .f32) (x5 : FVec Ideal S16x16x256x128 .f32)
  (x6 : FVec Ideal S65536x1024 .bf16) (x7 : FVec Ideal S65536x1024 .f32) (x8 : FVec Ideal S16x3072 .f32) (x9 : FVec Ideal S1024x1024 .f32)
  (x10 : FVec Ideal S1024 .f32)

/-! The first eight lanes of an array of log-sum-exps. -/

theorem lanes1 (h : Cert.Pre_finite_lse.S16x1x4096x128.Slices ![0, 0, 0, 0] Cert.Pre_finite_lse.S16x1x4096x8) (b : Fin 16) (p : Fin 4096) (e : Fin 8) :
    extractStridedSlice Cert.Pre_finite_lse.S16x1x4096x8 ![0, 0, 0, 0] x3 h (ix4 b 0 p e) = x3 (ix4 b 0 p ⟨e.val, Ref.lane e⟩) := by
  pointwise

theorem lanes4 (h : Cert.Pre_finite_lse.S16x4x1024x128.Slices ![0, 0, 0, 0] Cert.Pre_finite_lse.S16x4x1024x8) (b : Fin 16) (q : Fin 4) (p : Fin 1024) (e : Fin 8) :
    extractStridedSlice Cert.Pre_finite_lse.S16x4x1024x8 ![0, 0, 0, 0] x4 h (ix4 b q p e) = x4 (ix4 b q p ⟨e.val, Ref.lane e⟩) := by
  pointwise

theorem lanes16 (h : Cert.Pre_finite_lse.S16x16x256x128.Slices ![0, 0, 0, 0] Cert.Pre_finite_lse.S16x16x256x8) (b : Fin 16) (q : Fin 16) (p : Fin 256) (e : Fin 8) :
    extractStridedSlice Cert.Pre_finite_lse.S16x16x256x8 ![0, 0, 0, 0] x5 h (ix4 b q p e) = x5 (ix4 b q p ⟨e.val, Ref.lane e⟩) := by
  pointwise

/-- What the precondition says of the log-sum-exps. -/
theorem finite_of_pre [Cert.Pre_finite_lse.Facts]
    (h : (Cert.Pre_finite_lse.fn (F := Ideal) x0 x1 x2 x3 x4 x5 x6 x7 x8 x9 x10).1 = (fun _ => 1#1)
      ∧ (Cert.Pre_finite_lse.fn (F := Ideal) x0 x1 x2 x3 x4 x5 x6 x7 x8 x9 x10).2.1 = (fun _ => 1#1)
      ∧ (Cert.Pre_finite_lse.fn (F := Ideal) x0 x1 x2 x3 x4 x5 x6 x7 x8 x9 x10).2.2 = (fun _ => 1#1)) :
    (∀ b p (e : Fin 8), ∃ r : ℝ, x3 (ix4 b 0 p ⟨e.val, Ref.lane e⟩) = r)
    ∧ (∀ b q p (e : Fin 8), ∃ r : ℝ, x4 (ix4 b q p ⟨e.val, Ref.lane e⟩) = r)
    ∧ (∀ b q p (e : Fin 8), ∃ r : ℝ, x5 (ix4 b q p ⟨e.val, Ref.lane e⟩) = r) := by
  refine ⟨fun b p e => ?_, fun b q p e => ?_, fun b q p e => ?_⟩
  · obtain ⟨r, hr⟩ := Cert.Band.real_of_word _ (congrFun h.1 (ix4 b 0 p e))
    exact ⟨r, (lanes1 x3 _ b p e).symm.trans hr⟩
  · obtain ⟨r, hr⟩ := Cert.Band.real_of_word _ (congrFun h.2.1 (ix4 b q p e))
    exact ⟨r, (lanes4 x4 _ b q p e).symm.trans hr⟩
  · obtain ⟨r, hr⟩ := Cert.Band.real_of_word _ (congrFun h.2.2 (ix4 b q p e))
    exact ⟨r, (lanes16 x5 _ b q p e).symm.trans hr⟩

/-- The reference's result is the specification's array. -/
theorem equation (h3 : ∀ b p (e : Fin 8), ∃ r : ℝ, x3 (ix4 b 0 p ⟨e.val, Ref.lane e⟩) = r)
    (h4 : ∀ b q p (e : Fin 8), ∃ r : ℝ, x4 (ix4 b q p ⟨e.val, Ref.lane e⟩) = r)
    (h5 : ∀ b q p (e : Fin 8), ∃ r : ℝ, x5 (ix4 b q p ⟨e.val, Ref.lane e⟩) = r) :
    val_main_v70 (F := Ideal) x0 x1 x2 x3 x4 x5 x6 x7 x8 x9 x10 = fun i => merged x0 x1 x2 x3 x4 x5 x6 x7 x8 x9 x10 (i 0) (i 1) := by
  funext y
  rw [eq_ix2 y]
  exact Ref.row_at x0 x1 x2 x3 x4 x5 x6 x7 x8 x9 x10 h3 h4 h5 _ _

end Cert.Merge

end
-- ==== Proof.lean ====
/-
The certificate of the banded attention call with dilation 16, of the two projection calls and of the merge: for each the
frames, the kernel's idealization, and the value claim.
-/
module

public import proofs.«01_k».proof.Defs
public import proofs.«01_k».proof.Proof.Equation
public import proofs.«01_k».proof.Proof.ProjArray
public import proofs.«01_k».proof.Proof.ProjRun
public import proofs.«01_k».proof.Proof.LatArray
public import proofs.«01_k».proof.Proof.LatRun
public import proofs.«01_k».proof.Proof.MergeArray
public import proofs.«01_k».proof.Proof.MergeEquation
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Pre_finite_lse
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

namespace Dilated16

/-- The reference's run ends with every counter at zero: it has none. -/
theorem frame_ref : Cert.quiescent_ReferenceIdeal := fun m g _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

theorem preserves : Cert.preserves_Kernel_KernelIdeal :=
  ⟨IdealRules.named_const.statement Cert.KernelIdeal.κ "mask" .f32 0xF149F2CA#32 ⊥ rfl,
    IdealRules.named_const.statement Cert.KernelIdeal.κ "inv_ln2" .f32 0x3FB8AA3B#32 (((Real.log 2)⁻¹ : ℝ) : EReal) rfl⟩

/-- Both programs end with the specification's arrays. -/
theorem algebraic : Cert.algebraic_KernelIdeal_ReferenceIdeal_pre_finite_qk := by
  intro m g m' g' hpre hagree
  refine ⟨_, _, Cert.KernelIdeal.Value.run_blocks (F := Ideal) m g, ?_⟩
  refine (θ_run Cert.ReferenceIdeal.defs _ _).mono (fun _ h c => ⟨(h c).1.trans ?_, (h c).2.1.trans ?_, (h c).2.2⟩)
    (Cert.ReferenceIdeal.Value.run (F := Ideal) m' g')
  · have hf := Cert.Band.finite_of_pre _ _ _ (hpre c)
    rw [Cert.ReferenceIdeal.Read.val_main_v86_eq, (hagree c).1, (hagree c).2.1, (hagree c).2.2]
    exact (Cert.Band.out_equation _ _ _ hf.1 hf.2).trans (Cert.Band.final_out m c).symm
  · have hf := Cert.Band.finite_of_pre _ _ _ (hpre c)
    rw [Cert.ReferenceIdeal.Read.val_main_v85_eq, (hagree c).1, (hagree c).2.1]
    exact (Cert.Band.lse_equation _ _ hf.1 hf.2).trans (Cert.Band.final_lse m c).symm

end Dilated16

namespace Projection

open Cert.Proj

/-- The reference's run ends with every counter at zero: it has none. -/
theorem frame_ref : Cert.quiescent_Reference2Ideal := fun m g _ =>
  (θ_run Cert.Reference2Ideal.defs _ _).mono (fun r h => ⟨fun c => (h c).2.2.2.2.2.2.2.2.2.2,
      Idealize.ShloMosaic.sem_eq_zero_of_no_sems (by decide) r.2⟩)
    (Cert.Reference2Ideal.Value.run (F := Ideal) m g)

theorem preserves : Cert.preserves_Kernel2_Kernel2Ideal :=
  IdealRules.named_const.statement Cert.Kernel2Ideal.κ "qscale" .f32 0x3E0293EE#32 (((Real.sqrt 128)⁻¹ * (Real.log 2)⁻¹ : ℝ) : EReal) rfl

set_option maxHeartbeats 4000000 in
/-- The kernel's ten arrays are the specification's, of any operands that equal its own. -/
theorem arrays (m : (ℓ : Loc Cert.Kernel2Ideal.nD Cert.Kernel2Ideal.τ Cert.Kernel2Ideal.sig) → Buf (Elt Ideal) ℓ) (c : Dev Cert.Kernel2Ideal.nD)
    (x0 x1 x2 x3 x4 x5 x6 x7) (e0 : x0 = hidden m c) (e1 : x1 = condition m c) (e2 : x2 = gain m c) (e3 : x3 = kvGain m c) (e4 : x4 = kvWeights m c) (e5 : x5 = inWeights m c) (e6 : x6 = cosTable m c) (e7 : x7 = sinTable m c) :
    phases1 (keyRow x0 x3 x4 x6 x7) = (Cert.Kernel2Ideal.Gen.dats m 0 c).arrAt 9 Cert.Kernel2Ideal.cfg0.N
    ∧ phases4 (keyRow x0 x3 x4 x6 x7) = (Cert.Kernel2Ideal.Gen.dats m 0 c).arrAt 10 Cert.Kernel2Ideal.cfg0.N
    ∧ phases16 (keyRow x0 x3 x4 x6 x7) = (Cert.Kernel2Ideal.Gen.dats m 0 c).arrAt 11 Cert.Kernel2Ideal.cfg0.N
    ∧ phases1 (valueRow x0 x3 x4) = (Cert.Kernel2Ideal.Gen.dats m 0 c).arrAt 12 Cert.Kernel2Ideal.cfg0.N
    ∧ phases4 (valueRow x0 x3 x4) = (Cert.Kernel2Ideal.Gen.dats m 0 c).arrAt 13 Cert.Kernel2Ideal.cfg0.N
    ∧ phases16 (valueRow x0 x3 x4) = (Cert.Kernel2Ideal.Gen.dats m 0 c).arrAt 14 Cert.Kernel2Ideal.cfg0.N
    ∧ phases1 (fun R => queryRow x0 x1 x2 x5 x6 x7 R 0) = (Cert.Kernel2Ideal.Gen.dats m 0 c).arrAt 15 Cert.Kernel2Ideal.cfg0.N
    ∧ phases4 (fun R => queryRow x0 x1 x2 x5 x6 x7 R 1) = (Cert.Kernel2Ideal.Gen.dats m 0 c).arrAt 16 Cert.Kernel2Ideal.cfg0.N
    ∧ phases16 (fun R => queryRow x0 x1 x2 x5 x6 x7 R 2) = (Cert.Kernel2Ideal.Gen.dats m 0 c).arrAt 17 Cert.Kernel2Ideal.cfg0.N
    ∧ plain (gateRow x0 x1 x2 x5) = (Cert.Kernel2Ideal.Gen.dats m 0 c).arrAt 18 Cert.Kernel2Ideal.cfg0.N := by
  subst e0 e1 e2 e3 e4 e5 e6 e7
  exact ⟨(final_k1 m c).symm,
    (final_k4 m c).symm,
    (final_k16 m c).symm,
    (final_v1 m c).symm,
    (final_v4 m c).symm,
    (final_v16 m c).symm,
    (final_q1 m c).symm,
    (final_q4 m c).symm,
    (final_q16 m c).symm,
    (final_gate m c).symm⟩

set_option maxHeartbeats 4000000 in
/-- Both programs end with the specification's ten arrays. -/
theorem algebraic : Cert.algebraic_Kernel2Ideal_Reference2Ideal := by
  intro m g m' g' hpre hagree
  have agree (c) := arrays m c _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2
  refine ⟨_, _, _, _, _, _, _, _, _, _,  Cert.Kernel2Ideal.Value.run_blocks (F := Ideal) m g, ?_⟩
  refine (θ_run Cert.Reference2Ideal.defs _ _).mono (fun _ h c => ⟨(h c).1.trans (agree c).1, (h c).2.1.trans (agree c).2.1, (h c).2.2.1.trans (agree c).2.2.1, (h c).2.2.2.1.trans (agree c).2.2.2.1, (h c).2.2.2.2.1.trans (agree c).2.2.2.2.1, (h c).2.2.2.2.2.1.trans (agree c).2.2.2.2.2.1, (h c).2.2.2.2.2.2.1.trans (agree c).2.2.2.2.2.2.1, (h c).2.2.2.2.2.2.2.1.trans (agree c).2.2.2.2.2.2.2.1, (h c).2.2.2.2.2.2.2.2.1.trans (agree c).2.2.2.2.2.2.2.2.1, (h c).2.2.2.2.2.2.2.2.2.1.trans (agree c).2.2.2.2.2.2.2.2.2, (h c).2.2.2.2.2.2.2.2.2.2⟩)
    (Cert.Proj.Ref.run_spec m' g')

end Projection

namespace Latents

open Cert.Latent

/-- The reference's run ends with every counter at zero: it has none. -/
theorem frame_ref : Cert.quiescent_Reference3Ideal := fun m g _ =>
  (θ_run Cert.Reference3Ideal.defs _ _).mono (fun r h => ⟨fun c => (h c).2.2.2.2.2.2.2,
      Idealize.ShloMosaic.sem_eq_zero_of_no_sems (by decide) r.2⟩)
    (Cert.Reference3Ideal.Value.run (F := Ideal) m g)

theorem preserves : Cert.preserves_Kernel3_Kernel3Ideal :=
  IdealRules.named_const.statement Cert.Kernel3Ideal.κ "qscale" .f32 0x3DE995B3#32 (((Real.sqrt 160)⁻¹ * (Real.log 2)⁻¹ : ℝ) : EReal) rfl

set_option maxHeartbeats 4000000 in
/-- The kernel's seven arrays are the specification's, of any operands that equal its own. -/
theorem arrays (m : (ℓ : Loc Cert.Kernel3Ideal.nD Cert.Kernel3Ideal.τ Cert.Kernel3Ideal.sig) → Buf (Elt Ideal) ℓ) (c : Dev Cert.Kernel3Ideal.nD)
    (x0 x1 x2 x3 x4 x5 x6) (e0 : x0 = hidden m c) (e1 : x1 = condition m c) (e2 : x2 = gain m c) (e3 : x3 = kvGain m c) (e4 : x4 = weights m c) (e5 : x5 = cosTable m c) (e6 : x6 = sinTable m c) :
    queryArray (latRow x0 x1 x2 x4) (ropeRow x0 x1 x2 x4 x5 x6) = (Cert.Kernel3Ideal.Gen.dats m 0 c).arrAt 7 Cert.Kernel3Ideal.cfg0.N
    ∧ keyArray (kvRow x0 x1 x2 x3 x4) (ropeKeyRow x0 x1 x2 x4 x5 x6) = (Cert.Kernel3Ideal.Gen.dats m 0 c).arrAt 8 Cert.Kernel3Ideal.cfg0.N
    ∧ valueArray (kvRow x0 x1 x2 x3 x4) = (Cert.Kernel3Ideal.Gen.dats m 0 c).arrAt 9 Cert.Kernel3Ideal.cfg0.N
    ∧ plainArray (indexKeyRow x0 x1 x2 x4 x5 x6) = (Cert.Kernel3Ideal.Gen.dats m 0 c).arrAt 10 Cert.Kernel3Ideal.cfg0.N
    ∧ indexArray (indexRow x0 x1 x2 x4 x5 x6) = (Cert.Kernel3Ideal.Gen.dats m 0 c).arrAt 11 Cert.Kernel3Ideal.cfg0.N
    ∧ plainArray (scaledRow x0 x1 x2 x4) = (Cert.Kernel3Ideal.Gen.dats m 0 c).arrAt 12 Cert.Kernel3Ideal.cfg0.N
    ∧ plainArray (gateRow x0 x1 x2 x4) = (Cert.Kernel3Ideal.Gen.dats m 0 c).arrAt 13 Cert.Kernel3Ideal.cfg0.N := by
  subst e0 e1 e2 e3 e4 e5 e6
  exact ⟨(final_q m c).symm,
    (final_k m c).symm,
    (final_v m c).symm,
    (final_indexKeys m c).symm,
    (final_index m c).symm,
    (final_scaled m c).symm,
    (final_gate m c).symm⟩

set_option maxHeartbeats 4000000 in
/-- Both programs end with the specification's seven arrays. -/
theorem algebraic : Cert.algebraic_Kernel3Ideal_Reference3Ideal := by
  intro m g m' g' hpre hagree
  have agree (c) := arrays m c _ _ _ _ _ _ _ (hagree c).1 (hagree c).2.1 (hagree c).2.2.1 (hagree c).2.2.2.1 (hagree c).2.2.2.2.1 (hagree c).2.2.2.2.2.1 (hagree c).2.2.2.2.2.2
  refine ⟨_, _, _, _, _, _, _, Cert.Kernel3Ideal.Value.run_blocks (F := Ideal) m g, ?_⟩
  refine (θ_run Cert.Reference3Ideal.defs _ _).mono (fun _ h c => ⟨(h c).1.trans (agree c).1,
      (h c).2.1.trans (agree c).2.1,
      (h c).2.2.1.trans (agree c).2.2.1,
      (h c).2.2.2.1.trans (agree c).2.2.2.1,
      (h c).2.2.2.2.1.trans (agree c).2.2.2.2.1,
      (h c).2.2.2.2.2.1.trans (agree c).2.2.2.2.2.1,
      (h c).2.2.2.2.2.2.1.trans (agree c).2.2.2.2.2.2, (h c).2.2.2.2.2.2.2⟩)
    (Cert.Latent.Ref.run_spec m' g')

end Latents

namespace Merge

open Cert.Merge

/-- The reference's run ends with every counter at zero: it has none. -/
theorem frame_ref : Cert.quiescent_Reference4Ideal := fun m g _ =>
  (θ_run Cert.Reference4Ideal.defs _ _).mono (fun r h => ⟨fun c => (h c).2,
      Idealize.ShloMosaic.sem_eq_zero_of_no_sems (by decide) r.2⟩)
    (Cert.Reference4Ideal.Value.run (F := Ideal) m g)

theorem preserves : Cert.preserves_Kernel4_Kernel4Ideal := trivial

/-- The kernel's array is the specification's, of any operands that equal its own. -/
theorem array (m : (ℓ : Loc Cert.Kernel4Ideal.nD Cert.Kernel4Ideal.τ Cert.Kernel4Ideal.sig) → Buf (Elt Ideal) ℓ) (c : Dev Cert.Kernel4Ideal.nD)
    (x0 x1 x2 x3 x4 x5 x6 x7 x8 x9 x10) (e0 : x0 = out1 m c) (e1 : x1 = out4 m c) (e2 : x2 = out16 m c) (e3 : x3 = logs1 m c) (e4 : x4 = logs4 m c) (e5 : x5 = logs16 m c) (e6 : x6 = gate m c) (e7 : x7 = hidden m c) (e8 : x8 = condition m c) (e9 : x9 = weights m c) (e10 : x10 = gain m c)
    (h : (Cert.Pre_finite_lse.fn (F := Ideal) (out1 m c) (out4 m c) (out16 m c) (logs1 m c) (logs4 m c) (logs16 m c) (gate m c) (hidden m c) (condition m c) (weights m c) (gain m c)).1 = (fun _ => 1#1)
      ∧ (Cert.Pre_finite_lse.fn (F := Ideal) (out1 m c) (out4 m c) (out16 m c) (logs1 m c) (logs4 m c) (logs16 m c) (gate m c) (hidden m c) (condition m c) (weights m c) (gain m c)).2.1 = (fun _ => 1#1)
      ∧ (Cert.Pre_finite_lse.fn (F := Ideal) (out1 m c) (out4 m c) (out16 m c) (logs1 m c) (logs4 m c) (logs16 m c) (gate m c) (hidden m c) (condition m c) (weights m c) (gain m c)).2.2 = (fun _ => 1#1)) :
    Cert.Reference4Ideal.Read.val_main_v70 (F := Ideal) x0 x1 x2 x3 x4 x5 x6 x7 x8 x9 x10 = (Cert.Kernel4Ideal.Gen.dats m 0 c).arrAt 12 Cert.Kernel4Ideal.cfg0.N := by
  subst e0 e1 e2 e3 e4 e5 e6 e7 e8 e9 e10
  have hf := finite_of_pre _ _ _ _ _ _ _ _ _ _ _ h
  exact (equation _ _ _ _ _ _ _ _ _ _ _ hf.1 hf.2.1 hf.2.2).trans (final_result m c).symm

/-- Both programs end with the specification's array. -/
theorem algebraic : Cert.algebraic_Kernel4Ideal_Reference4Ideal_pre_finite_lse := by
  intro m g m' g' hpre hagree
  have agree (c) := array m c _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2 (hpre c)
  refine ⟨_, Cert.Kernel4Ideal.Value.run_blocks (F := Ideal) m g, ?_⟩
  exact (θ_run Cert.Reference4Ideal.defs _ _).mono
    (fun _ h c => ⟨(h c).1.trans ((Cert.Reference4Ideal.Read.val_main_v70_eq m' c).trans (agree c)), (h c).2⟩)
    (Cert.Reference4Ideal.Value.run (F := Ideal) m' g')

end Merge

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_qk.Gen.facts, Cert.Pre_finite_lse.Gen.facts,
    fun m g _ => Cert.Kernel.Gen.frame m g,
    fun m g _ => Cert.KernelIdeal.Gen.frame m g,
    fun m g _ => Cert.KernelIdeal.Gen.frame m g,
    Dilated16.frame_ref,
    fun m g _ => Dilated16.frame_ref m g trivial,
    fun m g _ => Cert.Kernel2.Gen.frame m g,
    fun m g _ => Cert.Kernel2Ideal.Gen.frame m g,
    Projection.frame_ref,
    fun m g _ => Cert.Kernel3.Gen.frame m g,
    fun m g _ => Cert.Kernel3Ideal.Gen.frame m g,
    Latents.frame_ref,
    fun m g _ => Cert.Kernel4.Gen.frame m g,
    fun m g _ => Cert.Kernel4Ideal.Gen.frame m g,
    fun m g _ => Cert.Kernel4Ideal.Gen.frame m g,
    Merge.frame_ref,
    fun m g _ => Merge.frame_ref m g trivial,
    Dilated16.preserves,
    Dilated16.algebraic,
    Projection.preserves,
    Projection.algebraic,
    Latents.preserves,
    Latents.algebraic,
    Merge.preserves,
    Merge.algebraic⟩

end Cert.Proof

end
